-- ==== Defs.lean ====
def Pre_Tail (m : (ℓ : Loc Cert.Tail.nD Cert.Tail.τ Cert.Tail.sig) → Buf (Elt Bits) ℓ) : Prop :=
  True

def Pre_TailIdeal (m : (ℓ : Loc Cert.TailIdeal.nD Cert.TailIdeal.τ Cert.TailIdeal.sig) → Buf (Elt Ideal) ℓ) : Prop :=
  True

def Pre_TailRefIdeal (m : (ℓ : Loc Cert.TailRefIdeal.nD Cert.TailRefIdeal.τ Cert.TailRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def Pre_HgrnIdeal_finite_bounds [hPre_finite_bounds : Cert.Pre_finite_bounds.Facts] (m : (ℓ : Loc Cert.HgrnIdeal.nD Cert.HgrnIdeal.τ Cert.HgrnIdeal.sig) → Buf (Elt Ideal) ℓ) : Prop :=
  ∀ c : Dev Cert.HgrnIdeal.nD,
    (Cert.Pre_finite_bounds.fn (F := Ideal) (m ((c.tc : Thread Cert.HgrnIdeal.nD Cert.HgrnIdeal.τ).loc Cert.HgrnIdeal.main_arg0)) (m ((c.tc : Thread Cert.HgrnIdeal.nD Cert.HgrnIdeal.τ).loc Cert.HgrnIdeal.main_arg1)) (m ((c.tc : Thread Cert.HgrnIdeal.nD Cert.HgrnIdeal.τ).loc Cert.HgrnIdeal.main_arg2)) (m ((c.tc : Thread Cert.HgrnIdeal.nD Cert.HgrnIdeal.τ).loc Cert.HgrnIdeal.main_arg3)) (m ((c.tc : Thread Cert.HgrnIdeal.nD Cert.HgrnIdeal.τ).loc Cert.HgrnIdeal.main_arg4)) (m ((c.tc : Thread Cert.HgrnIdeal.nD Cert.HgrnIdeal.τ).loc Cert.HgrnIdeal.main_arg5))) = (fun _ => 1#1)

def Pre_HgrnRefIdeal (m : (ℓ : Loc Cert.HgrnRefIdeal.nD Cert.HgrnRefIdeal.τ Cert.HgrnRefIdeal.sig) → Buf (Elt Ideal) ℓ) : Prop :=
  True

def Pre_HgrnRefIdeal_finite_bounds [hPre_finite_bounds : Cert.Pre_finite_bounds.Facts] (m : (ℓ : Loc Cert.HgrnRefIdeal.nD Cert.HgrnRefIdeal.τ Cert.HgrnRefIdeal.sig) → Buf (Elt Ideal) ℓ) : Prop :=
  ∀ c : Dev Cert.HgrnRefIdeal.nD,
    (Cert.Pre_finite_bounds.fn (F := Ideal) (m ((c.tc : Thread Cert.HgrnRefIdeal.nD Cert.HgrnRefIdeal.τ).loc Cert.HgrnRefIdeal.main_arg0)) (m ((c.tc : Thread Cert.HgrnRefIdeal.nD Cert.HgrnRefIdeal.τ).loc Cert.HgrnRefIdeal.main_arg1)) (m ((c.tc : Thread Cert.HgrnRefIdeal.nD Cert.HgrnRefIdeal.τ).loc Cert.HgrnRefIdeal.main_arg2)) (m ((c.tc : Thread Cert.HgrnRefIdeal.nD Cert.HgrnRefIdeal.τ).loc Cert.HgrnRefIdeal.main_arg3)) (m ((c.tc : Thread Cert.HgrnRefIdeal.nD Cert.HgrnRefIdeal.τ).loc Cert.HgrnRefIdeal.main_arg4)) (m ((c.tc : Thread Cert.HgrnRefIdeal.nD Cert.HgrnRefIdeal.τ).loc Cert.HgrnRefIdeal.main_arg5))) = (fun _ => 1#1)

def Pre_Decay (m : (ℓ : Loc Cert.Decay.nD Cert.Decay.τ Cert.Decay.sig) → Buf (Elt Bits) ℓ) : Prop :=
  True

def Pre_DecayIdeal (m : (ℓ : Loc Cert.DecayIdeal.nD Cert.DecayIdeal.τ Cert.DecayIdeal.sig) → Buf (Elt Ideal) ℓ) : Prop :=
  True

def Pre_DecayRefIdeal (m : (ℓ : Loc Cert.DecayRefIdeal.nD Cert.DecayRefIdeal.τ Cert.DecayRefIdeal.sig) → Buf (Elt Ideal) ℓ) : Prop :=
  True

def quiescent_Tail [hTail : Cert.Tail.Facts] : Prop :=
  ∀ (m : (ℓ : Loc Cert.Tail.nD Cert.Tail.τ Cert.Tail.sig) → Buf (Elt Bits) ℓ) (g : Dev Cert.Tail.nD → PrngReg), Pre_Tail m →
    θ_run (Cert.Tail.defs (F := Bits)) (onTc (τ := Cert.Tail.τ) (Cert.Tail.main (F := Bits))) ⟨m, fun _ => 0, g⟩ (fun r => (∀ c : Dev Cert.Tail.nD,
      r.2.mem ((c.tc : Thread Cert.Tail.nD Cert.Tail.τ).loc Cert.Tail.main_arg0) = m ((c.tc : Thread Cert.Tail.nD Cert.Tail.τ).loc Cert.Tail.main_arg0)
      ∧ r.2.mem ((c.tc : Thread Cert.Tail.nD Cert.Tail.τ).loc Cert.Tail.main_arg1) = m ((c.tc : Thread Cert.Tail.nD Cert.Tail.τ).loc Cert.Tail.main_arg1)
      ∧ r.2.mem ((c.tc : Thread Cert.Tail.nD Cert.Tail.τ).loc Cert.Tail.main_arg2) = m ((c.tc : Thread Cert.Tail.nD Cert.Tail.τ).loc Cert.Tail.main_arg2)
      ∧ r.2.mem ((c.tc : Thread Cert.Tail.nD Cert.Tail.τ).loc Cert.Tail.main_arg3) = m ((c.tc : Thread Cert.Tail.nD Cert.Tail.τ).loc Cert.Tail.main_arg3)
      ∧ r.2.mem ((c.tc : Thread Cert.Tail.nD Cert.Tail.τ).loc Cert.Tail.main_arg4) = m ((c.tc : Thread Cert.Tail.nD Cert.Tail.τ).loc Cert.Tail.main_arg4)
      ∧ r.2.mem ((c.tc : Thread Cert.Tail.nD Cert.Tail.τ).loc Cert.Tail.main_arg5) = m ((c.tc : Thread Cert.Tail.nD Cert.Tail.τ).loc Cert.Tail.main_arg5)
      ∧ r.2.mem ((c.tc : Thread Cert.Tail.nD Cert.Tail.τ).loc Cert.Tail.main_arg6) = m ((c.tc : Thread Cert.Tail.nD Cert.Tail.τ).loc Cert.Tail.main_arg6)
      ∧ r.2.mem ((c.tc : Thread Cert.Tail.nD Cert.Tail.τ).loc Cert.Tail.main_arg7) = m ((c.tc : Thread Cert.Tail.nD Cert.Tail.τ).loc Cert.Tail.main_arg7)
      ∧ r.2.mem ((c.tc : Thread Cert.Tail.nD Cert.Tail.τ).loc Cert.Tail.main_arg8) = m ((c.tc : Thread Cert.Tail.nD Cert.Tail.τ).loc Cert.Tail.main_arg8)
      ∧ r.2.mem ((c.tc : Thread Cert.Tail.nD Cert.Tail.τ).loc Cert.Tail.main_arg9) = m ((c.tc : Thread Cert.Tail.nD Cert.Tail.τ).loc Cert.Tail.main_arg9)
      ∧ r.2.mem ((c.tc : Thread Cert.Tail.nD Cert.Tail.τ).loc Cert.Tail.main_arg10) = m ((c.tc : Thread Cert.Tail.nD Cert.Tail.τ).loc Cert.Tail.main_arg10)
      ∧ r.2.mem ((c.tc : Thread Cert.Tail.nD Cert.Tail.τ).loc Cert.Tail.main_arg11) = m ((c.tc : Thread Cert.Tail.nD Cert.Tail.τ).loc Cert.Tail.main_arg11)
      ∧ r.2.mem ((c.tc : Thread Cert.Tail.nD Cert.Tail.τ).loc Cert.Tail.main_arg12) = m ((c.tc : Thread Cert.Tail.nD Cert.Tail.τ).loc Cert.Tail.main_arg12)
      ∧ r.2.mem ((c.tc : Thread Cert.Tail.nD Cert.Tail.τ).loc Cert.Tail.main_arg13) = m ((c.tc : Thread Cert.Tail.nD Cert.Tail.τ).loc Cert.Tail.main_arg13)
      ∧ r.2.mem ((c.tc : Thread Cert.Tail.nD Cert.Tail.τ).loc Cert.Tail.main_arg14) = m ((c.tc : Thread Cert.Tail.nD Cert.Tail.τ).loc Cert.Tail.main_arg14)
      ∧ r.2.mem ((c.tc : Thread Cert.Tail.nD Cert.Tail.τ).loc Cert.Tail.main_arg15) = m ((c.tc : Thread Cert.Tail.nD Cert.Tail.τ).loc Cert.Tail.main_arg15))
      ∧ r.2.sem = fun _ => 0)

def quiescent_TailIdeal [hTailIdeal : Cert.TailIdeal.Facts] : Prop :=
  ∀ (m : (ℓ : Loc Cert.TailIdeal.nD Cert.TailIdeal.τ Cert.TailIdeal.sig) → Buf (Elt Ideal) ℓ) (g : Dev Cert.TailIdeal.nD → PrngReg), Pre_TailIdeal m →
    θ_run (Cert.TailIdeal.defs (F := Ideal)) (onTc (τ := Cert.TailIdeal.τ) (Cert.TailIdeal.main (F := Ideal))) ⟨m, fun _ => 0, g⟩ (fun r => (∀ c : Dev Cert.TailIdeal.nD,
      r.2.mem ((c.tc : Thread Cert.TailIdeal.nD Cert.TailIdeal.τ).loc Cert.TailIdeal.main_arg0) = m ((c.tc : Thread Cert.TailIdeal.nD Cert.TailIdeal.τ).loc Cert.TailIdeal.main_arg0)
      ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
      ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
      ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
      ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
      ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
      ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
      ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
      ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
      ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
      ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
      ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
      ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
      ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
      ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
      ∧ r.2.mem ((c.tc : Thread Cert.TailIdeal.nD Cert.TailIdeal.τ).loc Cert.TailIdeal.main_arg15) = m ((c.tc : Thread Cert.TailIdeal.nD Cert.TailIdeal.τ).loc Cert.TailIdeal.main_arg15))
      ∧ r.2.sem = fun _ => 0)

def quiescent_TailRefIdeal [hTailRefIdeal : Cert.TailRefIdeal.Facts] : Prop :=
  ∀ (m : (ℓ : Loc Cert.TailRefIdeal.nD Cert.TailRefIdeal.τ Cert.TailRefIdeal.sig) → Buf (Elt Ideal) ℓ) (g : Dev Cert.TailRefIdeal.nD → PrngReg), Pre_TailRefIdeal m →
    θ_run (Cert.TailRefIdeal.defs (F := Ideal)) (onTc (τ := Cert.TailRefIdeal.τ) (Cert.TailRefIdeal.main (F := Ideal))) ⟨m, fun _ => 0, g⟩ (fun r => (∀ c : Dev Cert.TailRefIdeal.nD,
      r.2.mem ((c.tc : Thread Cert.TailRefIdeal.nD Cert.TailRefIdeal.τ).loc Cert.TailRefIdeal.main_arg0) = m ((c.tc : Thread Cert.TailRefIdeal.nD Cert.TailRefIdeal.τ).loc Cert.TailRefIdeal.main_arg0)
      ∧ r.2.mem ((c.tc : Thread Cert.TailRefIdeal.nD Cert.TailRefIdeal.τ).loc Cert.TailRefIdeal.main_arg1) = m ((c.tc : Thread Cert.TailRefIdeal.nD Cert.TailRefIdeal.τ).loc Cert.TailRefIdeal.main_arg1)
      ∧ r.2.mem ((c.tc : Thread Cert.TailRefIdeal.nD Cert.TailRefIdeal.τ).loc Cert.TailRefIdeal.main_arg2) = m ((c.tc : Thread Cert.TailRefIdeal.nD Cert.TailRefIdeal.τ).loc Cert.TailRefIdeal.main_arg2)
      ∧ r.2.mem ((c.tc : Thread Cert.TailRefIdeal.nD Cert.TailRefIdeal.τ).loc Cert.TailRefIdeal.main_arg3) = m ((c.tc : Thread Cert.TailRefIdeal.nD Cert.TailRefIdeal.τ).loc Cert.TailRefIdeal.main_arg3)
      ∧ r.2.mem ((c.tc : Thread Cert.TailRefIdeal.nD Cert.TailRefIdeal.τ).loc Cert.TailRefIdeal.main_arg4) = m ((c.tc : Thread Cert.TailRefIdeal.nD Cert.TailRefIdeal.τ).loc Cert.TailRefIdeal.main_arg4)
      ∧ r.2.mem ((c.tc : Thread Cert.TailRefIdeal.nD Cert.TailRefIdeal.τ).loc Cert.TailRefIdeal.main_arg5) = m ((c.tc : Thread Cert.TailRefIdeal.nD Cert.TailRefIdeal.τ).loc Cert.TailRefIdeal.main_arg5)
      ∧ r.2.mem ((c.tc : Thread Cert.TailRefIdeal.nD Cert.TailRefIdeal.τ).loc Cert.TailRefIdeal.main_arg6) = m ((c.tc : Thread Cert.TailRefIdeal.nD Cert.TailRefIdeal.τ).loc Cert.TailRefIdeal.main_arg6)
      ∧ r.2.mem ((c.tc : Thread Cert.TailRefIdeal.nD Cert.TailRefIdeal.τ).loc Cert.TailRefIdeal.main_arg7) = m ((c.tc : Thread Cert.TailRefIdeal.nD Cert.TailRefIdeal.τ).loc Cert.TailRefIdeal.main_arg7)
      ∧ r.2.mem ((c.tc : Thread Cert.TailRefIdeal.nD Cert.TailRefIdeal.τ).loc Cert.TailRefIdeal.main_arg8) = m ((c.tc : Thread Cert.TailRefIdeal.nD Cert.TailRefIdeal.τ).loc Cert.TailRefIdeal.main_arg8)
      ∧ r.2.mem ((c.tc : Thread Cert.TailRefIdeal.nD Cert.TailRefIdeal.τ).loc Cert.TailRefIdeal.main_arg9) = m ((c.tc : Thread Cert.TailRefIdeal.nD Cert.TailRefIdeal.τ).loc Cert.TailRefIdeal.main_arg9)
      ∧ r.2.mem ((c.tc : Thread Cert.TailRefIdeal.nD Cert.TailRefIdeal.τ).loc Cert.TailRefIdeal.main_arg10) = m ((c.tc : Thread Cert.TailRefIdeal.nD Cert.TailRefIdeal.τ).loc Cert.TailRefIdeal.main_arg10)
      ∧ r.2.mem ((c.tc : Thread Cert.TailRefIdeal.nD Cert.TailRefIdeal.τ).loc Cert.TailRefIdeal.main_arg11) = m ((c.tc : Thread Cert.TailRefIdeal.nD Cert.TailRefIdeal.τ).loc Cert.TailRefIdeal.main_arg11)
      ∧ r.2.mem ((c.tc : Thread Cert.TailRefIdeal.nD Cert.TailRefIdeal.τ).loc Cert.TailRefIdeal.main_arg12) = m ((c.tc : Thread Cert.TailRefIdeal.nD Cert.TailRefIdeal.τ).loc Cert.TailRefIdeal.main_arg12)
      ∧ r.2.mem ((c.tc : Thread Cert.TailRefIdeal.nD Cert.TailRefIdeal.τ).loc Cert.TailRefIdeal.main_arg13) = m ((c.tc : Thread Cert.TailRefIdeal.nD Cert.TailRefIdeal.τ).loc Cert.TailRefIdeal.main_arg13)
      ∧ r.2.mem ((c.tc : Thread Cert.TailRefIdeal.nD Cert.TailRefIdeal.τ).loc Cert.TailRefIdeal.main_arg14) = m ((c.tc : Thread Cert.TailRefIdeal.nD Cert.TailRefIdeal.τ).loc Cert.TailRefIdeal.main_arg14)
      ∧ r.2.mem ((c.tc : Thread Cert.TailRefIdeal.nD Cert.TailRefIdeal.τ).loc Cert.TailRefIdeal.main_arg15) = m ((c.tc : Thread Cert.TailRefIdeal.nD Cert.TailRefIdeal.τ).loc Cert.TailRefIdeal.main_arg15))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3)
      ∧ r.2.mem ((c.tc : Thread Cert.Hgrn.nD Cert.Hgrn.τ).loc Cert.Hgrn.main_arg4) = m ((c.tc : Thread Cert.Hgrn.nD Cert.Hgrn.τ).loc Cert.Hgrn.main_arg4)
      ∧ r.2.mem ((c.tc : Thread Cert.Hgrn.nD Cert.Hgrn.τ).loc Cert.Hgrn.main_arg5) = m ((c.tc : Thread Cert.Hgrn.nD Cert.Hgrn.τ).loc Cert.Hgrn.main_arg5))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ r.2.sem = fun _ => 0)

def quiescent_HgrnIdeal_pre_finite_bounds [hHgrnIdeal : Cert.HgrnIdeal.Facts] [hPre_finite_bounds : Cert.Pre_finite_bounds.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal_finite_bounds m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ r.2.sem = fun _ => 0)

def quiescent_HgrnRefIdeal [hHgrnRefIdeal : Cert.HgrnRefIdeal.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3)
      ∧ r.2.mem ((c.tc : Thread Cert.HgrnRefIdeal.nD Cert.HgrnRefIdeal.τ).loc Cert.HgrnRefIdeal.main_arg4) = m ((c.tc : Thread Cert.HgrnRefIdeal.nD Cert.HgrnRefIdeal.τ).loc Cert.HgrnRefIdeal.main_arg4)
      ∧ r.2.mem ((c.tc : Thread Cert.HgrnRefIdeal.nD Cert.HgrnRefIdeal.τ).loc Cert.HgrnRefIdeal.main_arg5) = m ((c.tc : Thread Cert.HgrnRefIdeal.nD Cert.HgrnRefIdeal.τ).loc Cert.HgrnRefIdeal.main_arg5))
      ∧ r.2.sem = fun _ => 0)

def quiescent_HgrnRefIdeal_pre_finite_bounds [hHgrnRefIdeal : Cert.HgrnRefIdeal.Facts] [hPre_finite_bounds : Cert.Pre_finite_bounds.Facts] : Prop :=
  ∀ (m : (ℓ : Loc Cert.HgrnRefIdeal.nD Cert.HgrnRefIdeal.τ Cert.HgrnRefIdeal.sig) → Buf (Elt Ideal) ℓ) (g : Dev Cert.HgrnRefIdeal.nD → PrngReg), Pre_HgrnRefIdeal_finite_bounds m →
    θ_run (Cert.HgrnRefIdeal.defs (F := Ideal)) (onTc (τ := Cert.HgrnRefIdeal.τ) (Cert.HgrnRefIdeal.main (F := Ideal))) ⟨m, fun _ => 0, g⟩ (fun r => (∀ c : Dev Cert.HgrnRefIdeal.nD,
      r.2.mem ((c.tc : Thread Cert.HgrnRefIdeal.nD Cert.HgrnRefIdeal.τ).loc Cert.HgrnRefIdeal.main_arg0) = m ((c.tc : Thread Cert.HgrnRefIdeal.nD Cert.HgrnRefIdeal.τ).loc Cert.HgrnRefIdeal.main_arg0)
      ∧ r.2.mem ((c.tc : Thread Cert.HgrnRefIdeal.nD Cert.HgrnRefIdeal.τ).loc Cert.HgrnRefIdeal.main_arg1) = m ((c.tc : Thread Cert.HgrnRefIdeal.nD Cert.HgrnRefIdeal.τ).loc Cert.HgrnRefIdeal.main_arg1)
      ∧ r.2.mem ((c.tc : Thread Cert.HgrnRefIdeal.nD Cert.HgrnRefIdeal.τ).loc Cert.HgrnRefIdeal.main_arg2) = m ((c.tc : Thread Cert.HgrnRefIdeal.nD Cert.HgrnRefIdeal.τ).loc Cert.HgrnRefIdeal.main_arg2)
      ∧ r.2.mem ((c.tc : Thread Cert.HgrnRefIdeal.nD Cert.HgrnRefIdeal.τ).loc Cert.HgrnRefIdeal.main_arg3) = m ((c.tc : Thread Cert.HgrnRefIdeal.nD Cert.HgrnRefIdeal.τ).loc Cert.HgrnRefIdeal.main_arg3)
      ∧ r.2.mem ((c.tc : Thread Cert.HgrnRefIdeal.nD Cert.HgrnRefIdeal.τ).loc Cert.HgrnRefIdeal.main_arg4) = m ((c.tc : Thread Cert.HgrnRefIdeal.nD Cert.HgrnRefIdeal.τ).loc Cert.HgrnRefIdeal.main_arg4)
      ∧ r.2.mem ((c.tc : Thread Cert.HgrnRefIdeal.nD Cert.HgrnRefIdeal.τ).loc Cert.HgrnRefIdeal.main_arg5) = m ((c.tc : Thread Cert.HgrnRefIdeal.nD Cert.HgrnRefIdeal.τ).loc Cert.HgrnRefIdeal.main_arg5))
      ∧ r.2.sem = fun _ => 0)

def quiescent_Decay [hDecay : Cert.Decay.Facts] : Prop :=
  ∀ (m : (ℓ : Loc Cert.Decay.nD Cert.Decay.τ Cert.Decay.sig) → Buf (Elt Bits) ℓ) (g : Dev Cert.Decay.nD → PrngReg), Pre_Decay m →
    θ_run (Cert.Decay.defs (F := Bits)) (onTc (τ := Cert.Decay.τ) (Cert.Decay.main (F := Bits))) ⟨m, fun _ => 0, g⟩ (fun r => (∀ c : Dev Cert.Decay.nD,
      r.2.mem ((c.tc : Thread Cert.Decay.nD Cert.Decay.τ).loc Cert.Decay.main_arg0) = m ((c.tc : Thread Cert.Decay.nD Cert.Decay.τ).loc Cert.Decay.main_arg0)
      ∧ r.2.mem ((c.tc : Thread Cert.Decay.nD Cert.Decay.τ).loc Cert.Decay.main_arg1) = m ((c.tc : Thread Cert.Decay.nD Cert.Decay.τ).loc Cert.Decay.main_arg1))
      ∧ r.2.sem = fun _ => 0)

def quiescent_DecayIdeal [hDecayIdeal : Cert.DecayIdeal.Facts] : Prop :=
  ∀ (m : (ℓ : Loc Cert.DecayIdeal.nD Cert.DecayIdeal.τ Cert.DecayIdeal.sig) → Buf (Elt Ideal) ℓ) (g : Dev Cert.DecayIdeal.nD → PrngReg), Pre_DecayIdeal m →
    θ_run (Cert.DecayIdeal.defs (F := Ideal)) (onTc (τ := Cert.DecayIdeal.τ) (Cert.DecayIdeal.main (F := Ideal))) ⟨m, fun _ => 0, g⟩ (fun r => (∀ c : Dev Cert.DecayIdeal.nD,
      r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
      ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1))
      ∧ r.2.sem = fun _ => 0)

def quiescent_DecayRefIdeal [hDecayRefIdeal : Cert.DecayRefIdeal.Facts] : Prop :=
  ∀ (m : (ℓ : Loc Cert.DecayRefIdeal.nD Cert.DecayRefIdeal.τ Cert.DecayRefIdeal.sig) → Buf (Elt Ideal) ℓ) (g : Dev Cert.DecayRefIdeal.nD → PrngReg), Pre_DecayRefIdeal m →
    θ_run (Cert.DecayRefIdeal.defs (F := Ideal)) (onTc (τ := Cert.DecayRefIdeal.τ) (Cert.DecayRefIdeal.main (F := Ideal))) ⟨m, fun _ => 0, g⟩ (fun r => (∀ c : Dev Cert.DecayRefIdeal.nD,
      r.2.mem ((c.tc : Thread Cert.DecayRefIdeal.nD Cert.DecayRefIdeal.τ).loc Cert.DecayRefIdeal.main_arg0) = m ((c.tc : Thread Cert.DecayRefIdeal.nD Cert.DecayRefIdeal.τ).loc Cert.DecayRefIdeal.main_arg0)
      ∧ r.2.mem ((c.tc : Thread Cert.DecayRefIdeal.nD Cert.DecayRefIdeal.τ).loc Cert.DecayRefIdeal.main_arg1) = m ((c.tc : Thread Cert.DecayRefIdeal.nD Cert.DecayRefIdeal.τ).loc Cert.DecayRefIdeal.main_arg1))
      ∧ r.2.sem = fun _ => 0)

def preserves_Tail_TailIdeal : Prop :=
  IdealRules.named_const.Statement Cert.TailIdeal.κ "neg_log2e" .f32 0xBFB8AA3B#32 ((-((Real.log 2)⁻¹) : ℝ) : EReal)

def algebraic_TailIdeal_TailRefIdeal [hTailIdeal : Cert.TailIdeal.Facts] [hTailRefIdeal : Cert.TailRefIdeal.Facts] : Prop :=
  ∀ (m : (ℓ : Loc Cert.TailIdeal.nD Cert.TailIdeal.τ Cert.TailIdeal.sig) → Buf (Elt Ideal) ℓ) (g : Dev Cert.TailIdeal.nD → PrngReg)
    (m' : (ℓ : Loc Cert.TailRefIdeal.nD Cert.TailRefIdeal.τ Cert.TailRefIdeal.sig) → Buf (Elt Ideal) ℓ) (g' : Dev Cert.TailRefIdeal.nD → PrngReg), Pre_TailIdeal m →
    (∀ c : Dev Cert.TailIdeal.nD,
      m' ((c.tc : Thread Cert.TailRefIdeal.nD Cert.TailRefIdeal.τ).loc Cert.TailRefIdeal.main_arg0) = m ((c.tc : Thread Cert.TailIdeal.nD Cert.TailIdeal.τ).loc Cert.TailIdeal.main_arg0)
      ∧ m' ((c.tc : Thread Cert.TailRefIdeal.nD Cert.TailRefIdeal.τ).loc Cert.TailRefIdeal.main_arg1) = m ((c.tc : Thread Cert.TailIdeal.nD Cert.TailIdeal.τ).loc Cert.TailIdeal.main_arg1)
      ∧ m' ((c.tc : Thread Cert.TailRefIdeal.nD Cert.TailRefIdeal.τ).loc Cert.TailRefIdeal.main_arg2) = m ((c.tc : Thread Cert.TailIdeal.nD Cert.TailIdeal.τ).loc Cert.TailIdeal.main_arg2)
      ∧ m' ((c.tc : Thread Cert.TailRefIdeal.nD Cert.TailRefIdeal.τ).loc Cert.TailRefIdeal.main_arg3) = m ((c.tc : Thread Cert.TailIdeal.nD Cert.TailIdeal.τ).loc Cert.TailIdeal.main_arg3)
      ∧ m' ((c.tc : Thread Cert.TailRefIdeal.nD Cert.TailRefIdeal.τ).loc Cert.TailRefIdeal.main_arg4) = m ((c.tc : Thread Cert.TailIdeal.nD Cert.TailIdeal.τ).loc Cert.TailIdeal.main_arg4)
      ∧ m' ((c.tc : Thread Cert.TailRefIdeal.nD Cert.TailRefIdeal.τ).loc Cert.TailRefIdeal.main_arg5) = m ((c.tc : Thread Cert.TailIdeal.nD Cert.TailIdeal.τ).loc Cert.TailIdeal.main_arg5)
      ∧ m' ((c.tc : Thread Cert.TailRefIdeal.nD Cert.TailRefIdeal.τ).loc Cert.TailRefIdeal.main_arg6) = m ((c.tc : Thread Cert.TailIdeal.nD Cert.TailIdeal.τ).loc Cert.TailIdeal.main_arg6)
      ∧ m' ((c.tc : Thread Cert.TailRefIdeal.nD Cert.TailRefIdeal.τ).loc Cert.TailRefIdeal.main_arg7) = m ((c.tc : Thread Cert.TailIdeal.nD Cert.TailIdeal.τ).loc Cert.TailIdeal.main_arg7)
      ∧ m' ((c.tc : Thread Cert.TailRefIdeal.nD Cert.TailRefIdeal.τ).loc Cert.TailRefIdeal.main_arg8) = m ((c.tc : Thread Cert.TailIdeal.nD Cert.TailIdeal.τ).loc Cert.TailIdeal.main_arg8)
      ∧ m' ((c.tc : Thread Cert.TailRefIdeal.nD Cert.TailRefIdeal.τ).loc Cert.TailRefIdeal.main_arg9) = m ((c.tc : Thread Cert.TailIdeal.nD Cert.TailIdeal.τ).loc Cert.TailIdeal.main_arg9)
      ∧ m' ((c.tc : Thread Cert.TailRefIdeal.nD Cert.TailRefIdeal.τ).loc Cert.TailRefIdeal.main_arg10) = m ((c.tc : Thread Cert.TailIdeal.nD Cert.TailIdeal.τ).loc Cert.TailIdeal.main_arg10)
      ∧ m' ((c.tc : Thread Cert.TailRefIdeal.nD Cert.TailRefIdeal.τ).loc Cert.TailRefIdeal.main_arg11) = m ((c.tc : Thread Cert.TailIdeal.nD Cert.TailIdeal.τ).loc Cert.TailIdeal.main_arg11)
      ∧ m' ((c.tc : Thread Cert.TailRefIdeal.nD Cert.TailRefIdeal.τ).loc Cert.TailRefIdeal.main_arg12) = m ((c.tc : Thread Cert.TailIdeal.nD Cert.TailIdeal.τ).loc Cert.TailIdeal.main_arg12)
      ∧ m' ((c.tc : Thread Cert.TailRefIdeal.nD Cert.TailRefIdeal.τ).loc Cert.TailRefIdeal.main_arg13) = m ((c.tc : Thread Cert.TailIdeal.nD Cert.TailIdeal.τ).loc Cert.TailIdeal.main_arg13)
      ∧ m' ((c.tc : Thread Cert.TailRefIdeal.nD Cert.TailRefIdeal.τ).loc Cert.TailRefIdeal.main_arg14) = m ((c.tc : Thread Cert.TailIdeal.nD Cert.TailIdeal.τ).loc Cert.TailIdeal.main_arg14)
      ∧ m' ((c.tc : Thread Cert.TailRefIdeal.nD Cert.TailRefIdeal.τ).loc Cert.TailRefIdeal.main_arg15) = m ((c.tc : Thread Cert.TailIdeal.nD Cert.TailIdeal.τ).loc Cert.TailIdeal.main_arg15)) →
    ∃ (v0 : (c : Dev Cert.TailIdeal.nD) → Buf (Elt Ideal) ((c.tc : Thread Cert.TailIdeal.nD Cert.TailIdeal.τ).loc Cert.TailIdeal.main_v24)),
      θ_run (Cert.TailIdeal.defs (F := Ideal)) (onTc (τ := Cert.TailIdeal.τ) (Cert.TailIdeal.main (F := Ideal))) ⟨m, fun _ => 0, g⟩ (fun r => ∀ c : Dev Cert.TailIdeal.nD,
          r.2.mem ((c.tc : Thread Cert.TailIdeal.nD Cert.TailIdeal.τ).loc Cert.TailIdeal.main_v24) = v0 c
          ∧ r.2.mem ((c.tc : Thread Cert.TailIdeal.nD Cert.TailIdeal.τ).loc Cert.TailIdeal.main_arg0) = m ((c.tc : Thread Cert.TailIdeal.nD Cert.TailIdeal.τ).loc Cert.TailIdeal.main_arg0)
          ∧ r.2.mem ((c.tc : Thread Cert.TailIdeal.nD Cert.TailIdeal.τ).loc Cert.TailIdeal.main_arg1) = m ((c.tc : Thread Cert.TailIdeal.nD Cert.TailIdeal.τ).loc Cert.TailIdeal.main_arg1)
          ∧ r.2.mem ((c.tc : Thread Cert.TailIdeal.nD Cert.TailIdeal.τ).loc Cert.TailIdeal.main_arg2) = m ((c.tc : Thread Cert.TailIdeal.nD Cert.TailIdeal.τ).loc Cert.TailIdeal.main_arg2)
          ∧ r.2.mem ((c.tc : Thread Cert.TailIdeal.nD Cert.TailIdeal.τ).loc Cert.TailIdeal.main_arg3) = m ((c.tc : Thread Cert.TailIdeal.nD Cert.TailIdeal.τ).loc Cert.TailIdeal.main_arg3)
          ∧ r.2.mem ((c.tc : Thread Cert.TailIdeal.nD Cert.TailIdeal.τ).loc Cert.TailIdeal.main_arg4) = m ((c.tc : Thread Cert.TailIdeal.nD Cert.TailIdeal.τ).loc Cert.TailIdeal.main_arg4)
          ∧ r.2.mem ((c.tc : Thread Cert.TailIdeal.nD Cert.TailIdeal.τ).loc Cert.TailIdeal.main_arg5) = m ((c.tc : Thread Cert.TailIdeal.nD Cert.TailIdeal.τ).loc Cert.TailIdeal.main_arg5)
          ∧ r.2.mem ((c.tc : Thread Cert.TailIdeal.nD Cert.TailIdeal.τ).loc Cert.TailIdeal.main_arg6) = m ((c.tc : Thread Cert.TailIdeal.nD Cert.TailIdeal.τ).loc Cert.TailIdeal.main_arg6)
          ∧ r.2.mem ((c.tc : Thread Cert.TailIdeal.nD Cert.TailIdeal.τ).loc Cert.TailIdeal.main_arg7) = m ((c.tc : Thread Cert.TailIdeal.nD Cert.TailIdeal.τ).loc Cert.TailIdeal.main_arg7)
          ∧ r.2.mem ((c.tc : Thread Cert.TailIdeal.nD Cert.TailIdeal.τ).loc Cert.TailIdeal.main_arg8) = m ((c.tc : Thread Cert.TailIdeal.nD Cert.TailIdeal.τ).loc Cert.TailIdeal.main_arg8)
          ∧ r.2.mem ((c.tc : Thread Cert.TailIdeal.nD Cert.TailIdeal.τ).loc Cert.TailIdeal.main_arg9) = m ((c.tc : Thread Cert.TailIdeal.nD Cert.TailIdeal.τ).loc Cert.TailIdeal.main_arg9)
          ∧ r.2.mem ((c.tc : Thread Cert.TailIdeal.nD Cert.TailIdeal.τ).loc Cert.TailIdeal.main_arg10) = m ((c.tc : Thread Cert.TailIdeal.nD Cert.TailIdeal.τ).loc Cert.TailIdeal.main_arg10)
          ∧ r.2.mem ((c.tc : Thread Cert.TailIdeal.nD Cert.TailIdeal.τ).loc Cert.TailIdeal.main_arg11) = m ((c.tc : Thread Cert.TailIdeal.nD Cert.TailIdeal.τ).loc Cert.TailIdeal.main_arg11)
          ∧ r.2.mem ((c.tc : Thread Cert.TailIdeal.nD Cert.TailIdeal.τ).loc Cert.TailIdeal.main_arg12) = m ((c.tc : Thread Cert.TailIdeal.nD Cert.TailIdeal.τ).loc Cert.TailIdeal.main_arg12)
          ∧ r.2.mem ((c.tc : Thread Cert.TailIdeal.nD Cert.TailIdeal.τ).loc Cert.TailIdeal.main_arg13) = m ((c.tc : Thread Cert.TailIdeal.nD Cert.TailIdeal.τ).loc Cert.TailIdeal.main_arg13)
          ∧ r.2.mem ((c.tc : Thread Cert.TailIdeal.nD Cert.TailIdeal.τ).loc Cert.TailIdeal.main_arg14) = m ((c.tc : Thread Cert.TailIdeal.nD Cert.TailIdeal.τ).loc Cert.TailIdeal.main_arg14)
          ∧ r.2.mem ((c.tc : Thread Cert.TailIdeal.nD Cert.TailIdeal.τ).loc Cert.TailIdeal.main_arg15) = m ((c.tc : Thread Cert.TailIdeal.nD Cert.TailIdeal.τ).loc Cert.TailIdeal.main_arg15))
      ∧ θ_run (Cert.TailRefIdeal.defs (F := Ideal)) (onTc (τ := Cert.TailRefIdeal.τ) (Cert.TailRefIdeal.main (F := Ideal))) ⟨m', fun _ => 0, g'⟩ (fun r => ∀ c : Dev Cert.TailRefIdeal.nD,
          r.2.mem ((c.tc : Thread Cert.TailRefIdeal.nD Cert.TailRefIdeal.τ).loc Cert.TailRefIdeal.main_v78) = v0 c
          ∧ r.2.mem ((c.tc : Thread Cert.TailRefIdeal.nD Cert.TailRefIdeal.τ).loc Cert.TailRefIdeal.main_arg0) = m' ((c.tc : Thread Cert.TailRefIdeal.nD Cert.TailRefIdeal.τ).loc Cert.TailRefIdeal.main_arg0)
          ∧ r.2.mem ((c.tc : Thread Cert.TailRefIdeal.nD Cert.TailRefIdeal.τ).loc Cert.TailRefIdeal.main_arg1) = m' ((c.tc : Thread Cert.TailRefIdeal.nD Cert.TailRefIdeal.τ).loc Cert.TailRefIdeal.main_arg1)
          ∧ r.2.mem ((c.tc : Thread Cert.TailRefIdeal.nD Cert.TailRefIdeal.τ).loc Cert.TailRefIdeal.main_arg2) = m' ((c.tc : Thread Cert.TailRefIdeal.nD Cert.TailRefIdeal.τ).loc Cert.TailRefIdeal.main_arg2)
          ∧ r.2.mem ((c.tc : Thread Cert.TailRefIdeal.nD Cert.TailRefIdeal.τ).loc Cert.TailRefIdeal.main_arg3) = m' ((c.tc : Thread Cert.TailRefIdeal.nD Cert.TailRefIdeal.τ).loc Cert.TailRefIdeal.main_arg3)
          ∧ r.2.mem ((c.tc : Thread Cert.TailRefIdeal.nD Cert.TailRefIdeal.τ).loc Cert.TailRefIdeal.main_arg4) = m' ((c.tc : Thread Cert.TailRefIdeal.nD Cert.TailRefIdeal.τ).loc Cert.TailRefIdeal.main_arg4)
          ∧ r.2.mem ((c.tc : Thread Cert.TailRefIdeal.nD Cert.TailRefIdeal.τ).loc Cert.TailRefIdeal.main_arg5) = m' ((c.tc : Thread Cert.TailRefIdeal.nD Cert.TailRefIdeal.τ).loc Cert.TailRefIdeal.main_arg5)
          ∧ r.2.mem ((c.tc : Thread Cert.TailRefIdeal.nD Cert.TailRefIdeal.τ).loc Cert.TailRefIdeal.main_arg6) = m' ((c.tc : Thread Cert.TailRefIdeal.nD Cert.TailRefIdeal.τ).loc Cert.TailRefIdeal.main_arg6)
          ∧ r.2.mem ((c.tc : Thread Cert.TailRefIdeal.nD Cert.TailRefIdeal.τ).loc Cert.TailRefIdeal.main_arg7) = m' ((c.tc : Thread Cert.TailRefIdeal.nD Cert.TailRefIdeal.τ).loc Cert.TailRefIdeal.main_arg7)
          ∧ r.2.mem ((c.tc : Thread Cert.TailRefIdeal.nD Cert.TailRefIdeal.τ).loc Cert.TailRefIdeal.main_arg8) = m' ((c.tc : Thread Cert.TailRefIdeal.nD Cert.TailRefIdeal.τ).loc Cert.TailRefIdeal.main_arg8)
          ∧ r.2.mem ((c.tc : Thread Cert.TailRefIdeal.nD Cert.TailRefIdeal.τ).loc Cert.TailRefIdeal.main_arg9) = m' ((c.tc : Thread Cert.TailRefIdeal.nD Cert.TailRefIdeal.τ).loc Cert.TailRefIdeal.main_arg9)
          ∧ r.2.mem ((c.tc : Thread Cert.TailRefIdeal.nD Cert.TailRefIdeal.τ).loc Cert.TailRefIdeal.main_arg10) = m' ((c.tc : Thread Cert.TailRefIdeal.nD Cert.TailRefIdeal.τ).loc Cert.TailRefIdeal.main_arg10)
          ∧ r.2.mem ((c.tc : Thread Cert.TailRefIdeal.nD Cert.TailRefIdeal.τ).loc Cert.TailRefIdeal.main_arg11) = m' ((c.tc : Thread Cert.TailRefIdeal.nD Cert.TailRefIdeal.τ).loc Cert.TailRefIdeal.main_arg11)
          ∧ r.2.mem ((c.tc : Thread Cert.TailRefIdeal.nD Cert.TailRefIdeal.τ).loc Cert.TailRefIdeal.main_arg12) = m' ((c.tc : Thread Cert.TailRefIdeal.nD Cert.TailRefIdeal.τ).loc Cert.TailRefIdeal.main_arg12)
          ∧ r.2.mem ((c.tc : Thread Cert.TailRefIdeal.nD Cert.TailRefIdeal.τ).loc Cert.TailRefIdeal.main_arg13) = m' ((c.tc : Thread Cert.TailRefIdeal.nD Cert.TailRefIdeal.τ).loc Cert.TailRefIdeal.main_arg13)
          ∧ r.2.mem ((c.tc : Thread Cert.TailRefIdeal.nD Cert.TailRefIdeal.τ).loc Cert.TailRefIdeal.main_arg14) = m' ((c.tc : Thread Cert.TailRefIdeal.nD Cert.TailRefIdeal.τ).loc Cert.TailRefIdeal.main_arg14)
          ∧ r.2.mem ((c.tc : Thread Cert.TailRefIdeal.nD Cert.TailRefIdeal.τ).loc Cert.TailRefIdeal.main_arg15) = m' ((c.tc : Thread Cert.TailRefIdeal.nD Cert.TailRefIdeal.τ).loc Cert.TailRefIdeal.main_arg15))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v16_0)) (v1 : (c : Dev Cert.ProjIdeal.nD) → Buf (Elt Ideal) ((c.tc : Thread Cert.ProjIdeal.nD Cert.ProjIdeal.τ).loc Cert.ProjIdeal.main_v16_1)) (v2 : (c : Dev Cert.ProjIdeal.nD) → Buf (Elt Ideal) ((c.tc : Thread Cert.ProjIdeal.nD Cert.ProjIdeal.τ).loc Cert.ProjIdeal.main_v16_2)) (v3 : (c : Dev Cert.ProjIdeal.nD) → Buf (Elt Ideal) ((c.tc : Thread Cert.ProjIdeal.nD Cert.ProjIdeal.τ).loc Cert.ProjIdeal.main_v16_3)) (v4 : (c : Dev Cert.ProjIdeal.nD) → Buf (Elt Ideal) ((c.tc : Thread Cert.ProjIdeal.nD Cert.ProjIdeal.τ).loc Cert.ProjIdeal.main_v16_4)) (v5 : (c : Dev Cert.ProjIdeal.nD) → Buf (Elt Ideal) ((c.tc : Thread Cert.ProjIdeal.nD Cert.ProjIdeal.τ).loc Cert.ProjIdeal.main_v16_5)) (v6 : (c : Dev Cert.ProjIdeal.nD) → Buf (Elt Ideal) ((c.tc : Thread Cert.ProjIdeal.nD Cert.ProjIdeal.τ).loc Cert.ProjIdeal.main_v16_6)) (v7 : (c : Dev Cert.ProjIdeal.nD) → Buf (Elt Ideal) ((c.tc : Thread Cert.ProjIdeal.nD Cert.ProjIdeal.τ).loc Cert.ProjIdeal.main_v16_7)) (v8 : (c : Dev Cert.ProjIdeal.nD) → Buf (Elt Ideal) ((c.tc : Thread Cert.ProjIdeal.nD Cert.ProjIdeal.τ).loc Cert.ProjIdeal.main_v16_8)) (v9 : (c : Dev Cert.ProjIdeal.nD) → Buf (Elt Ideal) ((c.tc : Thread Cert.ProjIdeal.nD Cert.ProjIdeal.τ).loc Cert.ProjIdeal.main_v16_9)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v16_0) = v0 c
          ∧ r.2.mem ((c.tc : Thread Cert.ProjIdeal.nD Cert.ProjIdeal.τ).loc Cert.ProjIdeal.main_v16_1) = v1 c
          ∧ r.2.mem ((c.tc : Thread Cert.ProjIdeal.nD Cert.ProjIdeal.τ).loc Cert.ProjIdeal.main_v16_2) = v2 c
          ∧ r.2.mem ((c.tc : Thread Cert.ProjIdeal.nD Cert.ProjIdeal.τ).loc Cert.ProjIdeal.main_v16_3) = v3 c
          ∧ r.2.mem ((c.tc : Thread Cert.ProjIdeal.nD Cert.ProjIdeal.τ).loc Cert.ProjIdeal.main_v16_4) = v4 c
          ∧ r.2.mem ((c.tc : Thread Cert.ProjIdeal.nD Cert.ProjIdeal.τ).loc Cert.ProjIdeal.main_v16_5) = v5 c
          ∧ r.2.mem ((c.tc : Thread Cert.ProjIdeal.nD Cert.ProjIdeal.τ).loc Cert.ProjIdeal.main_v16_6) = v6 c
          ∧ r.2.mem ((c.tc : Thread Cert.ProjIdeal.nD Cert.ProjIdeal.τ).loc Cert.ProjIdeal.main_v16_7) = v7 c
          ∧ r.2.mem ((c.tc : Thread Cert.ProjIdeal.nD Cert.ProjIdeal.τ).loc Cert.ProjIdeal.main_v16_8) = v8 c
          ∧ r.2.mem ((c.tc : Thread Cert.ProjIdeal.nD Cert.ProjIdeal.τ).loc Cert.ProjIdeal.main_v16_9) = v9 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v27) = v0 c
          ∧ r.2.mem ((c.tc : Thread Cert.ProjRefIdeal.nD Cert.ProjRefIdeal.τ).loc Cert.ProjRefIdeal.main_v18) = v1 c
          ∧ r.2.mem ((c.tc : Thread Cert.ProjRefIdeal.nD Cert.ProjRefIdeal.τ).loc Cert.ProjRefIdeal.main_v28) = v2 c
          ∧ r.2.mem ((c.tc : Thread Cert.ProjRefIdeal.nD Cert.ProjRefIdeal.τ).loc Cert.ProjRefIdeal.main_v29) = v3 c
          ∧ r.2.mem ((c.tc : Thread Cert.ProjRefIdeal.nD Cert.ProjRefIdeal.τ).loc Cert.ProjRefIdeal.main_v30) = v4 c
          ∧ r.2.mem ((c.tc : Thread Cert.ProjRefIdeal.nD Cert.ProjRefIdeal.τ).loc Cert.ProjRefIdeal.main_v31) = v5 c
          ∧ r.2.mem ((c.tc : Thread Cert.ProjRefIdeal.nD Cert.ProjRefIdeal.τ).loc Cert.ProjRefIdeal.main_v32) = v6 c
          ∧ r.2.mem ((c.tc : Thread Cert.ProjRefIdeal.nD Cert.ProjRefIdeal.τ).loc Cert.ProjRefIdeal.main_v33) = v7 c
          ∧ r.2.mem ((c.tc : Thread Cert.ProjRefIdeal.nD Cert.ProjRefIdeal.τ).loc Cert.ProjRefIdeal.main_v36) = v8 c
          ∧ r.2.mem ((c.tc : Thread Cert.ProjRefIdeal.nD Cert.ProjRefIdeal.τ).loc Cert.ProjRefIdeal.main_v39) = v9 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Hgrn_HgrnIdeal : Prop :=
  IdealRules.named_const.Statement Cert.HgrnIdeal.κ "neg_log2e" .f32 0xBFB8AA3B#32 ((-((Real.log 2)⁻¹) : ℝ) : EReal)
  ∧ IdealRules.named_const.Statement Cert.HgrnIdeal.κ "inv_ln2" .f32 0x3FB8AA3B#32 (((Real.log 2)⁻¹ : ℝ) : EReal)

def algebraic_HgrnIdeal_HgrnRefIdeal_pre_finite_bounds [hHgrnIdeal : Cert.HgrnIdeal.Facts] [hHgrnRefIdeal : Cert.HgrnRefIdeal.Facts] [hPre_finite_bounds : Cert.Pre_finite_bounds.Facts] : Prop :=
  ∀ (m : (ℓ : Loc Cert.HgrnIdeal.nD Cert.HgrnIdeal.τ Cert.HgrnIdeal.sig) → Buf (Elt Ideal) ℓ) (g : Dev Cert.HgrnIdeal.nD → PrngReg)
    (m' : (ℓ : Loc Cert.HgrnRefIdeal.nD Cert.HgrnRefIdeal.τ Cert.HgrnRefIdeal.sig) → Buf (Elt Ideal) ℓ) (g' : Dev Cert.HgrnRefIdeal.nD → PrngReg), Pre_HgrnIdeal_finite_bounds m →
    (∀ c : Dev Cert.HgrnIdeal.nD,
      m' ((c.tc : Thread Cert.HgrnRefIdeal.nD Cert.HgrnRefIdeal.τ).loc Cert.HgrnRefIdeal.main_arg0) = m ((c.tc : Thread Cert.HgrnIdeal.nD Cert.HgrnIdeal.τ).loc Cert.HgrnIdeal.main_arg0)
      ∧ m' ((c.tc : Thread Cert.HgrnRefIdeal.nD Cert.HgrnRefIdeal.τ).loc Cert.HgrnRefIdeal.main_arg1) = m ((c.tc : Thread Cert.HgrnIdeal.nD Cert.HgrnIdeal.τ).loc Cert.HgrnIdeal.main_arg1)
      ∧ m' ((c.tc : Thread Cert.HgrnRefIdeal.nD Cert.HgrnRefIdeal.τ).loc Cert.HgrnRefIdeal.main_arg2) = m ((c.tc : Thread Cert.HgrnIdeal.nD Cert.HgrnIdeal.τ).loc Cert.HgrnIdeal.main_arg2)
      ∧ m' ((c.tc : Thread Cert.HgrnRefIdeal.nD Cert.HgrnRefIdeal.τ).loc Cert.HgrnRefIdeal.main_arg3) = m ((c.tc : Thread Cert.HgrnIdeal.nD Cert.HgrnIdeal.τ).loc Cert.HgrnIdeal.main_arg3)
      ∧ m' ((c.tc : Thread Cert.HgrnRefIdeal.nD Cert.HgrnRefIdeal.τ).loc Cert.HgrnRefIdeal.main_arg4) = m ((c.tc : Thread Cert.HgrnIdeal.nD Cert.HgrnIdeal.τ).loc Cert.HgrnIdeal.main_arg4)
      ∧ m' ((c.tc : Thread Cert.HgrnRefIdeal.nD Cert.HgrnRefIdeal.τ).loc Cert.HgrnRefIdeal.main_arg5) = m ((c.tc : Thread Cert.HgrnIdeal.nD Cert.HgrnIdeal.τ).loc Cert.HgrnIdeal.main_arg5)) →
    ∃ (v0 : (c : Dev Cert.HgrnIdeal.nD) → Buf (Elt Ideal) ((c.tc : Thread Cert.HgrnIdeal.nD Cert.HgrnIdeal.τ).loc Cert.HgrnIdeal.main_v2)),
      θ_run (Cert.HgrnIdeal.defs (F := Ideal)) (onTc (τ := Cert.HgrnIdeal.τ) (Cert.HgrnIdeal.main (F := Ideal))) ⟨m, fun _ => 0, g⟩ (fun r => ∀ c : Dev Cert.HgrnIdeal.nD,
          r.2.mem ((c.tc : Thread Cert.HgrnIdeal.nD Cert.HgrnIdeal.τ).loc Cert.HgrnIdeal.main_v2) = v0 c
          ∧ r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
          ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
          ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
          ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
          ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
          ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5))
      ∧ θ_run (Cert.HgrnRefIdeal.defs (F := Ideal)) (onTc (τ := Cert.HgrnRefIdeal.τ) (Cert.HgrnRefIdeal.main (F := Ideal))) ⟨m', fun _ => 0, g'⟩ (fun r => ∀ c : Dev Cert.HgrnRefIdeal.nD,
          r.2.mem ((c.tc : Thread Cert.HgrnRefIdeal.nD Cert.HgrnRefIdeal.τ).loc Cert.HgrnRefIdeal.main_v71) = v0 c
          ∧ r.2.mem ((c.tc : Thread Cert.HgrnRefIdeal.nD Cert.HgrnRefIdeal.τ).loc Cert.HgrnRefIdeal.main_arg0) = m' ((c.tc : Thread Cert.HgrnRefIdeal.nD Cert.HgrnRefIdeal.τ).loc Cert.HgrnRefIdeal.main_arg0)
          ∧ r.2.mem ((c.tc : Thread Cert.HgrnRefIdeal.nD Cert.HgrnRefIdeal.τ).loc Cert.HgrnRefIdeal.main_arg1) = m' ((c.tc : Thread Cert.HgrnRefIdeal.nD Cert.HgrnRefIdeal.τ).loc Cert.HgrnRefIdeal.main_arg1)
          ∧ r.2.mem ((c.tc : Thread Cert.HgrnRefIdeal.nD Cert.HgrnRefIdeal.τ).loc Cert.HgrnRefIdeal.main_arg2) = m' ((c.tc : Thread Cert.HgrnRefIdeal.nD Cert.HgrnRefIdeal.τ).loc Cert.HgrnRefIdeal.main_arg2)
          ∧ r.2.mem ((c.tc : Thread Cert.HgrnRefIdeal.nD Cert.HgrnRefIdeal.τ).loc Cert.HgrnRefIdeal.main_arg3) = m' ((c.tc : Thread Cert.HgrnRefIdeal.nD Cert.HgrnRefIdeal.τ).loc Cert.HgrnRefIdeal.main_arg3)
          ∧ r.2.mem ((c.tc : Thread Cert.HgrnRefIdeal.nD Cert.HgrnRefIdeal.τ).loc Cert.HgrnRefIdeal.main_arg4) = m' ((c.tc : Thread Cert.HgrnRefIdeal.nD Cert.HgrnRefIdeal.τ).loc Cert.HgrnRefIdeal.main_arg4)
          ∧ r.2.mem ((c.tc : Thread Cert.HgrnRefIdeal.nD Cert.HgrnRefIdeal.τ).loc Cert.HgrnRefIdeal.main_arg5) = m' ((c.tc : Thread Cert.HgrnRefIdeal.nD Cert.HgrnRefIdeal.τ).loc Cert.HgrnRefIdeal.main_arg5))

def preserves_Decay_DecayIdeal : Prop :=
  True

def algebraic_DecayIdeal_DecayRefIdeal [hDecayIdeal : Cert.DecayIdeal.Facts] [hDecayRefIdeal : Cert.DecayRefIdeal.Facts] : Prop :=
  ∀ (m : (ℓ : Loc Cert.DecayIdeal.nD Cert.DecayIdeal.τ Cert.DecayIdeal.sig) → Buf (Elt Ideal) ℓ) (g : Dev Cert.DecayIdeal.nD → PrngReg)
    (m' : (ℓ : Loc Cert.DecayRefIdeal.nD Cert.DecayRefIdeal.τ Cert.DecayRefIdeal.sig) → Buf (Elt Ideal) ℓ) (g' : Dev Cert.DecayRefIdeal.nD → PrngReg), Pre_DecayIdeal m →
    (∀ c : Dev Cert.DecayIdeal.nD,
      m' ((c.tc : Thread Cert.DecayRefIdeal.nD Cert.DecayRefIdeal.τ).loc Cert.DecayRefIdeal.main_arg0) = m ((c.tc : Thread Cert.DecayIdeal.nD Cert.DecayIdeal.τ).loc Cert.DecayIdeal.main_arg0)
      ∧ m' ((c.tc : Thread Cert.DecayRefIdeal.nD Cert.DecayRefIdeal.τ).loc Cert.DecayRefIdeal.main_arg1) = m ((c.tc : Thread Cert.DecayIdeal.nD Cert.DecayIdeal.τ).loc Cert.DecayIdeal.main_arg1)) →
    ∃ (v0 : (c : Dev Cert.DecayIdeal.nD) → Buf (Elt Ideal) ((c.tc : Thread Cert.DecayIdeal.nD Cert.DecayIdeal.τ).loc Cert.DecayIdeal.main_v3)),
      θ_run (Cert.DecayIdeal.defs (F := Ideal)) (onTc (τ := Cert.DecayIdeal.τ) (Cert.DecayIdeal.main (F := Ideal))) ⟨m, fun _ => 0, g⟩ (fun r => ∀ c : Dev Cert.DecayIdeal.nD,
          r.2.mem ((c.tc : Thread Cert.DecayIdeal.nD Cert.DecayIdeal.τ).loc Cert.DecayIdeal.main_v3) = v0 c
          ∧ r.2.mem ((c.tc : Thread Cert.DecayIdeal.nD Cert.DecayIdeal.τ).loc Cert.DecayIdeal.main_arg0) = m ((c.tc : Thread Cert.DecayIdeal.nD Cert.DecayIdeal.τ).loc Cert.DecayIdeal.main_arg0)
          ∧ r.2.mem ((c.tc : Thread Cert.DecayIdeal.nD Cert.DecayIdeal.τ).loc Cert.DecayIdeal.main_arg1) = m ((c.tc : Thread Cert.DecayIdeal.nD Cert.DecayIdeal.τ).loc Cert.DecayIdeal.main_arg1))
      ∧ θ_run (Cert.DecayRefIdeal.defs (F := Ideal)) (onTc (τ := Cert.DecayRefIdeal.τ) (Cert.DecayRefIdeal.main (F := Ideal))) ⟨m', fun _ => 0, g'⟩ (fun r => ∀ c : Dev Cert.DecayRefIdeal.nD,
          r.2.mem ((c.tc : Thread Cert.DecayRefIdeal.nD Cert.DecayRefIdeal.τ).loc Cert.DecayRefIdeal.main_v17) = v0 c
          ∧ r.2.mem ((c.tc : Thread Cert.DecayRefIdeal.nD Cert.DecayRefIdeal.τ).loc Cert.DecayRefIdeal.main_arg0) = m' ((c.tc : Thread Cert.DecayRefIdeal.nD Cert.DecayRefIdeal.τ).loc Cert.DecayRefIdeal.main_arg0)
          ∧ r.2.mem ((c.tc : Thread Cert.DecayRefIdeal.nD Cert.DecayRefIdeal.τ).loc Cert.DecayRefIdeal.main_arg1) = m' ((c.tc : Thread Cert.DecayRefIdeal.nD Cert.DecayRefIdeal.τ).loc Cert.DecayRefIdeal.main_arg1))

def Claim : Prop :=
  ∃ (hTail : Cert.Tail.Facts) (hTailIdeal : Cert.TailIdeal.Facts) (hTailRefIdeal : Cert.TailRefIdeal.Facts) (hProj : Cert.Proj.Facts) (hProjIdeal : Cert.ProjIdeal.Facts) (hProjRefIdeal : Cert.ProjRefIdeal.Facts) (hHgrn : Cert.Hgrn.Facts) (hHgrnIdeal : Cert.HgrnIdeal.Facts) (hHgrnRefIdeal : Cert.HgrnRefIdeal.Facts) (hDecay : Cert.Decay.Facts) (hDecayIdeal : Cert.DecayIdeal.Facts) (hDecayRefIdeal : Cert.DecayRefIdeal.Facts) (hPre_finite_bounds : Cert.Pre_finite_bounds.Facts),
    quiescent_Tail (hTail := hTail)
    ∧ quiescent_TailIdeal (hTailIdeal := hTailIdeal)
    ∧ quiescent_TailRefIdeal (hTailRefIdeal := hTailRefIdeal)
    ∧ quiescent_Proj (hProj := hProj)
    ∧ quiescent_ProjIdeal (hProjIdeal := hProjIdeal)
    ∧ quiescent_ProjRefIdeal (hProjRefIdeal := hProjRefIdeal)
    ∧ quiescent_Hgrn (hHgrn := hHgrn)
    ∧ quiescent_HgrnIdeal (hHgrnIdeal := hHgrnIdeal)
    ∧ quiescent_HgrnIdeal_pre_finite_bounds (hHgrnIdeal := hHgrnIdeal) (hPre_finite_bounds := hPre_finite_bounds)
    ∧ quiescent_HgrnRefIdeal (hHgrnRefIdeal := hHgrnRefIdeal)
    ∧ quiescent_HgrnRefIdeal_pre_finite_bounds (hHgrnRefIdeal := hHgrnRefIdeal) (hPre_finite_bounds := hPre_finite_bounds)
    ∧ quiescent_Decay (hDecay := hDecay)
    ∧ quiescent_DecayIdeal (hDecayIdeal := hDecayIdeal)
    ∧ quiescent_DecayRefIdeal (hDecayRefIdeal := hDecayRefIdeal)
    ∧ preserves_Tail_TailIdeal
    ∧ algebraic_TailIdeal_TailRefIdeal (hTailIdeal := hTailIdeal) (hTailRefIdeal := hTailRefIdeal)
    ∧ preserves_Proj_ProjIdeal
    ∧ algebraic_ProjIdeal_ProjRefIdeal (hProjIdeal := hProjIdeal) (hProjRefIdeal := hProjRefIdeal)
    ∧ preserves_Hgrn_HgrnIdeal
    ∧ algebraic_HgrnIdeal_HgrnRefIdeal_pre_finite_bounds (hHgrnIdeal := hHgrnIdeal) (hHgrnRefIdeal := hHgrnRefIdeal) (hPre_finite_bounds := hPre_finite_bounds)
    ∧ preserves_Decay_DecayIdeal
    ∧ algebraic_DecayIdeal_DecayRefIdeal (hDecayIdeal := hDecayIdeal) (hDecayRefIdeal := hDecayRefIdeal)
-- ==== Pre_finite_bounds.lean ====
abbrev S32768x512 : Shape := ⟨2, ![32768, 512]⟩
abbrev S2x512 : Shape := ⟨2, ![2, 512]⟩
abbrev S1x128 : Shape := ⟨2, ![1, 128]⟩
abbrev S_ : Shape := ⟨0, ![]⟩

class Facts : Prop where
  bcast_S_S2x512 : S_.BroadcastsInDim S2x512 (![] : Fin 0 → Fin S2x512.rank)

variable [Facts]

def fn {F : FTy → Type} [FloatOps F] (main_arg0 : FVec F S32768x512 .bf16) (main_arg1 : FVec F S32768x512 .f32) (main_arg2 : FVec F S32768x512 .bf16) (main_arg3 : FVec F S32768x512 .bf16) (main_arg4 : FVec F S2x512 .f32) (main_arg5 : FVec F S1x128 .f32) : IVec S2x512 1 :=
  let main_v0 : FVec F S2x512 .f32 := Host.absf main_arg4
  let main_cst : FVec F S_ .f32 := constant S_ .f32 0x7F800000#32
  let main_v1 : FVec F S2x512 .f32 := broadcastInDim S2x512 ![] bcast_S_S2x512 main_cst
  let main_v2 : IVec S2x512 1 := cmpf .olt main_v0 main_v1
  main_v2
-- ==== Tail.lean ====
abbrev S8x4096x1024 : Shape := ⟨3, ![8, 4096, 1024]⟩
abbrev S32768x512 : Shape := ⟨2, ![32768, 512]⟩
abbrev S8x4096x512 : Shape := ⟨3, ![8, 4096, 512]⟩
abbrev S32768x1024 : Shape := ⟨2, ![32768, 1024]⟩
abbrev S1x8x4096x256 : Shape := ⟨4, ![1, 8, 4096, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S8x4096x256 : Shape := ⟨3, ![8, 4096, 256]⟩
abbrev S32768x256 : Shape := ⟨2, ![32768, 256]⟩
abbrev S512x1024 : Shape := ⟨2, ![512, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S512x512 : Shape := ⟨2, ![512, 512]⟩
abbrev S512x256 : Shape := ⟨2, ![512, 256]⟩
abbrev S256x512 : Shape := ⟨2, ![256, 512]⟩
abbrev S256 : Shape := ⟨1, ![256]⟩
abbrev S256x1 : Shape := ⟨2, ![256, 1]⟩
abbrev S1024x768 : Shape := ⟨2, ![1024, 768]⟩
abbrev S256x768 : Shape := ⟨2, ![256, 768]⟩
abbrev S768x1024 : Shape := ⟨2, ![768, 1024]⟩
abbrev S256x256 : Shape := ⟨2, ![256, 256]⟩

abbrev nBuf : Space → Nat
  | .hbm => 41
  | .vmem => 24
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S8x4096x512, .bf16⟩
  | .hbm, ⟨3, _⟩ => ⟨S32768x1024, .bf16⟩
  | .hbm, ⟨4, _⟩ => ⟨S32768x1024, .bf16⟩
  | .hbm, ⟨5, _⟩ => ⟨S1x8x4096x256, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1x1024, .f32⟩
  | .hbm, ⟨14, _⟩ => ⟨S1x1024x1024, .f32⟩
  | .hbm, ⟨15, _⟩ => ⟨S1x256x1024, .f32⟩
  | .hbm, ⟨16, _⟩ => ⟨S32768x1024, .f32⟩
  | .hbm, ⟨17, _⟩ => ⟨S32768x512, .bf16⟩
  | .hbm, ⟨18, _⟩ => ⟨S8x4096x256, .f32⟩
  | .hbm, ⟨19, _⟩ => ⟨S32768x256, .f32⟩
  | .hbm, ⟨20, _⟩ => ⟨S512x1024, .f32⟩
  | .hbm, ⟨21, _⟩ => ⟨S512x1024, .bf16⟩
  | .hbm, ⟨22, _⟩ => ⟨S512x1024, .f32⟩
  | .hbm, ⟨23, _⟩ => ⟨S512x1024, .bf16⟩
  | .hbm, ⟨24, _⟩ => ⟨S1024x1024, .f32⟩
  | .hbm, ⟨25, _⟩ => ⟨S1024x1024, .bf16⟩
  | .hbm, ⟨26, _⟩ => ⟨S1024, .f32⟩
  | .hbm, ⟨27, _⟩ => ⟨S1x1024, .f32⟩
  | .hbm, ⟨28, _⟩ => ⟨S1024x2816, .f32⟩
  | .hbm, ⟨29, _⟩ => ⟨S1024x2816, .bf16⟩
  | .hbm, ⟨30, _⟩ => ⟨S1024x2816, .f32⟩
  | .hbm, ⟨31, _⟩ => ⟨S1024x2816, .bf16⟩
  | .hbm, ⟨32, _⟩ => ⟨S2816x1024, .f32⟩
  | .hbm, ⟨33, _⟩ => ⟨S2816x1024, .bf16⟩
  | .hbm, ⟨34, _⟩ => ⟨S1024, .f32⟩
  | .hbm, ⟨35, _⟩ => ⟨S1x1024, .f32⟩
  | .hbm, ⟨36, _⟩ => ⟨S1024x1024, .f32⟩
  | .hbm, ⟨37, _⟩ => ⟨S1024x1024, .bf16⟩
  | .hbm, ⟨38, _⟩ => ⟨S256x1024, .f32⟩
  | .hbm, ⟨39, _⟩ => ⟨S256x1024, .bf16⟩
  | .hbm, ⟨40, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x256, .f32⟩
  | .local _ .vmem, ⟨11, _⟩ => ⟨S512x256, .f32⟩
  | .local _ .vmem, ⟨12, _⟩ => ⟨S512x1024, .bf16⟩
  | .local _ .vmem, ⟨13, _⟩ => ⟨S512x1024, .bf16⟩
  | .local _ .vmem, ⟨14, _⟩ => ⟨S1024x1024, .bf16⟩
  | .local _ .vmem, ⟨15, _⟩ => ⟨S1x1024, .f32⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | .local _ .vmem, ⟨19, _⟩ => ⟨S1x1024, .f32⟩
  | .local _ .vmem, ⟨20, _⟩ => ⟨S1024x1024, .bf16⟩
  | .local _ .vmem, ⟨21, _⟩ => ⟨S256x1024, .bf16⟩
  | .local _ .vmem, ⟨22, _⟩ => ⟨S512x1024, .f32⟩
  | .local _ .vmem, ⟨23, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2816 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x2816 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S2816x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== TailIdeal.lean ====
variable {F : FTy → Type} [FloatOps F] [Named F]
def κ : String → Option EReal := fun
  | "neg_log2e" => some ((-((Real.log 2)⁻¹) : ℝ) : EReal)
  | _ => none
-- ==== TailRefIdeal.lean ====
abbrev S8x4096x1024 : Shape := ⟨3, ![8, 4096, 1024]⟩
abbrev S32768x512 : Shape := ⟨2, ![32768, 512]⟩
abbrev S8x4096x512 : Shape := ⟨3, ![8, 4096, 512]⟩
abbrev S32768x1024 : Shape := ⟨2, ![32768, 1024]⟩
abbrev S1x8x4096x256 : Shape := ⟨4, ![1, 8, 4096, 256]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S_ : Shape := ⟨0, ![]⟩
abbrev S512x1024 : Shape := ⟨2, ![512, 1024]⟩
abbrev S1024x1024 : Shape := ⟨2, ![1024, 1024]⟩
abbrev S1024 : Shape := ⟨1, ![1024]⟩
abbrev S32768 : Shape := ⟨1, ![32768]⟩
abbrev S32768x1 : Shape := ⟨2, ![32768, 1]⟩
abbrev S1024x2816 : Shape := ⟨2, ![1024, 2816]⟩
abbrev S32768x2816 : Shape := ⟨2, ![32768, 2816]⟩
abbrev S2816x1024 : Shape := ⟨2, ![2816, 1024]⟩
abbrev S8x4096x256 : Shape := ⟨3, ![8, 4096, 256]⟩
abbrev S32768x256 : Shape := ⟨2, ![32768, 256]⟩
abbrev S256x1024 : Shape := ⟨2, ![256, 1024]⟩

abbrev nBuf : Space → Nat
  | .hbm => 115
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S32768x512, .bf16⟩
  | .hbm, ⟨2, _⟩ => ⟨S8x4096x512, .bf16⟩
  | .hbm, ⟨3, _⟩ => ⟨S32768x1024, .bf16⟩
  | .hbm, ⟨4, _⟩ => ⟨S32768x1024, .bf16⟩
  | .hbm, ⟨5, _⟩ => ⟨S1x8x4096x256, .f32⟩
  | .hbm, ⟨6, _⟩ => ⟨S1x512x1024, .f32⟩
  | .hbm, ⟨7, _⟩ => ⟨S1x512x1024, .f32⟩
  | .hbm, ⟨8, _⟩ => ⟨S1x1024x1024, .f32⟩
  | .hbm, ⟨9, _⟩ => ⟨S1x1024, .f32⟩
  | .hbm, ⟨10, _⟩ => ⟨S1x1024x2816, .f32⟩
  | .hbm, ⟨11, _⟩ => ⟨S1x1024x2816, .f32⟩
  | .hbm, ⟨12, _⟩ => ⟨S1x2816x1024, .f32⟩
  | .hbm, ⟨13, _⟩ => ⟨S1x1024, .f32⟩
  | .hbm, ⟨14, _⟩ => ⟨S1x1024x1024, .f32⟩
  | .hbm, ⟨15, _⟩ => ⟨S1x256x1024, .f32⟩
  | .hbm, ⟨16, _⟩ => ⟨S32768x1024, .f32⟩
  | .hbm, ⟨17, _⟩ => ⟨S32768x512, .f32⟩
  | .hbm, ⟨18, _⟩ => ⟨S32768x512, .bf16⟩
  | .hbm, ⟨19, _⟩ => ⟨S32768x512, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768x1024, .f32⟩
  | .hbm, ⟨25, _⟩ => ⟨S32768x1024, .f32⟩
  | .hbm, ⟨26, _⟩ => ⟨S_, .f32⟩
  | .hbm, ⟨27, _⟩ => ⟨S32768x1024, .f32⟩
  | .hbm, ⟨28, _⟩ => ⟨S32768x1024, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768x1024, .f32⟩
  | .hbm, ⟨34, _⟩ => ⟨S32768x1024, .f32⟩
  | .hbm, ⟨35, _⟩ => ⟨S_, .f32⟩
  | .hbm, ⟨36, _⟩ => ⟨S32768x1024, .f32⟩
  | .hbm, ⟨37, _⟩ => ⟨S32768x1024, .f32⟩
  | .hbm, ⟨38, _⟩ => ⟨S512x1024, .f32⟩
  | .hbm, ⟨39, _⟩ => ⟨S32768x1024, .f32⟩
  | .hbm, ⟨40, _⟩ => ⟨S32768x1024, .f32⟩
  | .hbm, ⟨41, _⟩ => ⟨S512x1024, .f32⟩
  | .hbm, ⟨42, _⟩ => ⟨S32768x1024, .f32⟩
  | .hbm, ⟨43, _⟩ => ⟨S32768x1024, .f32⟩
  | .hbm, ⟨44, _⟩ => ⟨S32768x1024, .f32⟩
  | .hbm, ⟨45, _⟩ => ⟨S1024x1024, .f32⟩
  | .hbm, ⟨46, _⟩ => ⟨S32768x1024, .f32⟩
  | .hbm, ⟨47, _⟩ => ⟨S32768x1024, .f32⟩
  | .hbm, ⟨48, _⟩ => ⟨S1024, .f32⟩
  | .hbm, ⟨49, _⟩ => ⟨S32768x1024, .f32⟩
  | .hbm, ⟨50, _⟩ => ⟨S_, .f32⟩
  | .hbm, ⟨51, _⟩ => ⟨S32768, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S_, .f32⟩
  | .hbm, ⟨57, _⟩ => ⟨S32768x1, .f32⟩
  | .hbm, ⟨58, _⟩ => ⟨S32768x1, .f32⟩
  | .hbm, ⟨59, _⟩ => ⟨S32768x1, .f32⟩
  | .hbm, ⟨60, _⟩ => ⟨S32768x1024, .f32⟩
  | .hbm, ⟨61, _⟩ => ⟨S32768x1024, .f32⟩
  | .hbm, ⟨62, _⟩ => ⟨S1x1024, .f32⟩
  | .hbm, ⟨63, _⟩ => ⟨S32768x1024, .f32⟩
  | .hbm, ⟨64, _⟩ => ⟨S32768x1024, .f32⟩
  | .hbm, ⟨65, _⟩ => ⟨S1024x2816, .f32⟩
  | .hbm, ⟨66, _⟩ => ⟨S32768x2816, .f32⟩
  | .hbm, ⟨67, _⟩ => ⟨S32768x2816, .f32⟩
  | .hbm, ⟨68, _⟩ => ⟨S32768x2816, .f32⟩
  | .hbm, ⟨69, _⟩ => ⟨S_, .f32⟩
  | .hbm, ⟨70, _⟩ => ⟨S32768x2816, .f32⟩
  | .hbm, ⟨71, _⟩ => ⟨S32768x2816, .f32⟩
  | .hbm, ⟨72, _⟩ => ⟨S_, .f32⟩
  | .hbm, ⟨73, _⟩ => ⟨S32768x2816, .f32⟩
  | .hbm, ⟨74, _⟩ => ⟨S32768x2816, .f32⟩
  | .hbm, ⟨75, _⟩ => ⟨S32768x2816, .f32⟩
  | .hbm, ⟨76, _⟩ => ⟨S1024x2816, .f32⟩
  | .hbm, ⟨77, _⟩ => ⟨S32768x2816, .f32⟩
  | .hbm, ⟨78, _⟩ => ⟨S32768x2816, .f32⟩
  | .hbm, ⟨79, _⟩ => ⟨S2816x1024, .f32⟩
  | .hbm, ⟨80, _⟩ => ⟨S32768x1024, .f32⟩
  | .hbm, ⟨81, _⟩ => ⟨S32768x1024, .f32⟩
  | .hbm, ⟨82, _⟩ => ⟨S1024, .f32⟩
  | .hbm, ⟨83, _⟩ => ⟨S32768x1024, .f32⟩
  | .hbm, ⟨84, _⟩ => ⟨S_, .f32⟩
  | .hbm, ⟨85, _⟩ => ⟨S32768, .f32⟩
  | .hbm, ⟨86, _⟩ => ⟨S32768x1, .f32⟩
  | .hbm, ⟨87, _⟩ => ⟨S_, .f32⟩
  | .hbm, ⟨88, _⟩ => ⟨S32768x1, .f32⟩
  | .hbm, ⟨89, _⟩ => ⟨S32768x1, .f32⟩
  | .hbm, ⟨90, _⟩ => ⟨S_, .f32⟩
  | .hbm, ⟨91, _⟩ => ⟨S32768x1, .f32⟩
  | .hbm, ⟨92, _⟩ => ⟨S32768x1, .f32⟩
  | .hbm, ⟨93, _⟩ => ⟨S32768x1, .f32⟩
  | .hbm, ⟨94, _⟩ => ⟨S32768x1024, .f32⟩
  | .hbm, ⟨95, _⟩ => ⟨S32768x1024, .f32⟩
  | .hbm, ⟨96, _⟩ => ⟨S1x1024, .f32⟩
  | .hbm, ⟨97, _⟩ => ⟨S32768x1024, .f32⟩
  | .hbm, ⟨98, _⟩ => ⟨S32768x1024, .f32⟩
  | .hbm, ⟨99, _⟩ => ⟨S1024x1024, .f32⟩
  | .hbm, ⟨100, _⟩ => ⟨S32768x1024, .f32⟩
  | .hbm, ⟨101, _⟩ => ⟨S32768x1024, .f32⟩
  | .hbm, ⟨102, _⟩ => ⟨S32768x1024, .f32⟩
  | .hbm, ⟨103, _⟩ => ⟨S_, .f32⟩
  | .hbm, ⟨104, _⟩ => ⟨S32768x1024, .f32⟩
  | .hbm, ⟨105, _⟩ => ⟨S32768x1024, .f32⟩
  | .hbm, ⟨106, _⟩ => ⟨S_, .f32⟩
  | .hbm, ⟨107, _⟩ => ⟨S32768x1024, .f32⟩
  | .hbm, ⟨108, _⟩ => ⟨S32768x1024, .f32⟩
  | .hbm, ⟨109, _⟩ => ⟨S8x4096x256, .f32⟩
  | .hbm, ⟨110, _⟩ => ⟨S32768x256, .f32⟩
  | .hbm, ⟨111, _⟩ => ⟨S256x1024, .f32⟩
  | .hbm, ⟨112, _⟩ => ⟨S32768x1024, .f32⟩
  | .hbm, ⟨113, _⟩ => ⟨S32768x1024, .f32⟩
  | .hbm, ⟨114, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_cst_3 : Ref sig .tc := ⟨.hbm, 50, rfl⟩
abbrev main_v30 : Ref sig .tc := ⟨.hbm, 51, rfl⟩
abbrev main_v31 : Ref sig .tc := ⟨.hbm, 52, rfl⟩
abbrev main_cst_4 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_call0_v0 : Ref sig .tc := ⟨.hbm, 67, rfl⟩
abbrev main_call0_v1 : Ref sig .tc := ⟨.hbm, 68, rfl⟩
abbrev main_call0_cst : Ref sig .tc := ⟨.hbm, 69, rfl⟩
abbrev main_call0_v2 : Ref sig .tc := ⟨.hbm, 70, rfl⟩
abbrev main_call0_v3 : Ref sig .tc := ⟨.hbm, 71, rfl⟩
abbrev main_call0_cst_0 : Ref sig .tc := ⟨.hbm, 72, rfl⟩
abbrev main_call0_v4 : Ref sig .tc := ⟨.hbm, 73, rfl⟩
abbrev main_call0_v5 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_6 : Ref sig .tc := ⟨.hbm, 84, rfl⟩
abbrev main_v53 : Ref sig .tc := ⟨.hbm, 85, rfl⟩
abbrev main_v54 : Ref sig .tc := ⟨.hbm, 86, rfl⟩
abbrev main_cst_7 : Ref sig .tc := ⟨.hbm, 87, rfl⟩
abbrev main_v55 : Ref sig .tc := ⟨.hbm, 88, rfl⟩
abbrev main_v56 : Ref sig .tc := ⟨.hbm, 89, rfl⟩
abbrev main_cst_8 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_9 : Ref sig .tc := ⟨.hbm, 103, rfl⟩
abbrev main_v69 : Ref sig .tc := ⟨.hbm, 104, rfl⟩
abbrev main_v70 : Ref sig .tc := ⟨.hbm, 105, rfl⟩
abbrev main_cst_10 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩

abbrev nD : Nat := 1
abbrev τ : Topo := Topo.v7x

variable {F : FTy → Type} [FloatOps F]
-- ==== Proj.lean ====
abbrev S8x4096x1024 : Shape := ⟨3, ![8, 4096, 1024]⟩
abbrev S1x1024 : Shape := ⟨2, ![1, 1024]⟩
abbrev S1x1024x5640 : Shape := ⟨3, ![1, 1024, 5640]⟩
abbrev S32768x1024 : Shape := ⟨2, ![32768, 1024]⟩
abbrev S1024x5640 : Shape := ⟨2, ![1024, 5640]⟩
abbrev S1024x2048 : Shape := ⟨2, ![1024, 2048]⟩
abbrev S1024x512 : Shape := ⟨2, ![1024, 512]⟩
abbrev S1024x8 : Shape := ⟨2, ![1024, 8]⟩
abbrev S_ : Shape := ⟨0, ![]⟩
abbrev S1024x128 : Shape := ⟨2, ![1024, 128]⟩
abbrev S1024x4736 : Shape := ⟨2, ![1024, 4736]⟩
abbrev S1024x1024 : Shape := ⟨2, ![1024, 1024]⟩
abbrev S1024 : Shape := ⟨1, ![1024]⟩
abbrev S32768x512 : Shape := ⟨2, ![32768, 512]⟩
abbrev S32768x128 : Shape := ⟨2, ![32768, 128]⟩
abbrev S8x512x4096 : Shape := ⟨3, ![8, 512, 4096]⟩
abbrev S512x1024 : Shape := ⟨2, ![512, 1024]⟩
abbrev S512x512 : Shape := ⟨2, ![512, 512]⟩
abbrev S512x128 : Shape := ⟨2, ![512, 128]⟩
abbrev S1x512x512 : Shape := ⟨3, ![1, 512, 512]⟩
abbrev S512 : Shape := ⟨1, ![512]⟩
abbrev S512x1 : Shape := ⟨2, ![512, 1]⟩

abbrev nBuf : Space → Nat
  | .hbm => 31
  | .vmem => 25
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5640, .f32⟩
  | .hbm, ⟨3, _⟩ => ⟨S32768x1024, .f32⟩
  | .hbm, ⟨4, _⟩ => ⟨S1024x5640, .f32⟩
  | .hbm, ⟨5, _⟩ => ⟨S1024x2048, .f32⟩
  | .hbm, ⟨6, _⟩ => ⟨S1024x512, .f32⟩
  | .hbm, ⟨7, _⟩ => ⟨S1024x2048, .f32⟩
  | .hbm, ⟨8, _⟩ => ⟨S1024x8, .f32⟩
  | .hbm, ⟨9, _⟩ => ⟨S_, .i32⟩
  | .hbm, ⟨10, _⟩ => ⟨S_, .f32⟩
  | .hbm, ⟨11, _⟩ => ⟨S1024x128, .f32⟩
  | .hbm, ⟨12, _⟩ => ⟨S1024x4736, .f32⟩
  | .hbm, ⟨13, _⟩ => ⟨S1024x4736, .bf16⟩
  | .hbm, ⟨14, _⟩ => ⟨S1024x512, .f32⟩
  | .hbm, ⟨15, _⟩ => ⟨S1024x512, .f32⟩
  | .hbm, ⟨16, _⟩ => ⟨S1024x1024, .f32⟩
  | .hbm, ⟨17, _⟩ => ⟨S1024x1024, .f32⟩
  | .hbm, ⟨18, _⟩ => ⟨S1024x1024, .bf16⟩
  | .hbm, ⟨19, _⟩ => ⟨S1024, .f32⟩
  | .hbm, ⟨20, _⟩ => ⟨S1x1024, .f32⟩
  | .hbm, ⟨21, _⟩ => ⟨S32768x512, .bf16⟩
  | .hbm, ⟨22, _⟩ => ⟨S32768x512, .f32⟩
  | .hbm, ⟨23, _⟩ => ⟨S32768x512, .bf16⟩
  | .hbm, ⟨24, _⟩ => ⟨S32768x512, .bf16⟩
  | .hbm, ⟨25, _⟩ => ⟨S32768x512, .bf16⟩
  | .hbm, ⟨26, _⟩ => ⟨S32768x1024, .bf16⟩
  | .hbm, ⟨27, _⟩ => ⟨S32768x1024, .bf16⟩
  | .hbm, ⟨28, _⟩ => ⟨S32768x128, .f32⟩
  | .hbm, ⟨29, _⟩ => ⟨S8x512x4096, .bf16⟩
  | .hbm, ⟨30, _⟩ => ⟨S8x512x4096, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4736, .bf16⟩
  | .local _ .vmem, ⟨4, _⟩ => ⟨S1024x1024, .bf16⟩
  | .local _ .vmem, ⟨5, _⟩ => ⟨S512x512, .bf16⟩
  | .local _ .vmem, ⟨6, _⟩ => ⟨S512x512, .bf16⟩
  | .local _ .vmem, ⟨7, _⟩ => ⟨S512x512, .f32⟩
  | .local _ .vmem, ⟨8, _⟩ => ⟨S512x512, .f32⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x128, .f32⟩
  | .local _ .vmem, ⟨20, _⟩ => ⟨S512x128, .f32⟩
  | .local _ .vmem, ⟨21, _⟩ => ⟨S1x512x512, .bf16⟩
  | .local _ .vmem, ⟨22, _⟩ => ⟨S1x512x512, .bf16⟩
  | .local _ .vmem, ⟨23, _⟩ => ⟨S1x512x512, .bf16⟩
  | .local _ .vmem, ⟨24, _⟩ => ⟨S1x512x512, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16_0 : Ref sig .tc := ⟨.hbm, 21, rfl⟩
abbrev main_v16_1 : Ref sig .tc := ⟨.hbm, 22, rfl⟩
abbrev main_v16_2 : Ref sig .tc := ⟨.hbm, 23, rfl⟩
abbrev main_v16_3 : Ref sig .tc := ⟨.hbm, 24, rfl⟩
abbrev main_v16_4 : Ref sig .tc := ⟨.hbm, 25, rfl⟩
abbrev main_v16_5 : Ref sig .tc := ⟨.hbm, 26, rfl⟩
abbrev main_v16_6 : Ref sig .tc := ⟨.hbm, 27, rfl⟩
abbrev main_v16_7 : Ref sig .tc := ⟨.hbm, 28, rfl⟩
abbrev main_v16_8 : Ref sig .tc := ⟨.hbm, 29, rfl⟩
abbrev main_v16_9 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_13 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4736 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x512x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ProjRefIdeal.lean ====
abbrev S8x4096x1024 : Shape := ⟨3, ![8, 4096, 1024]⟩
abbrev S1x1024 : Shape := ⟨2, ![1, 1024]⟩
abbrev S1x1024x5640 : Shape := ⟨3, ![1, 1024, 5640]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x5640 : Shape := ⟨2, ![1024, 5640]⟩
abbrev S32768x5640 : Shape := ⟨2, ![32768, 5640]⟩
abbrev S32768x512 : Shape := ⟨2, ![32768, 512]⟩
abbrev S32768x8 : Shape := ⟨2, ![32768, 8]⟩
abbrev S32768x128 : Shape := ⟨2, ![32768, 128]⟩
abbrev S8x4096x512 : Shape := ⟨3, ![8, 4096, 512]⟩
abbrev S8x512x4096 : Shape := ⟨3, ![8, 512, 4096]⟩

abbrev nBuf : Space → Nat
  | .hbm => 48
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1x1024, .f32⟩
  | .hbm, ⟨2, _⟩ => ⟨S1x1024x5640, .f32⟩
  | .hbm, ⟨3, _⟩ => ⟨S32768x1024, .f32⟩
  | .hbm, ⟨4, _⟩ => ⟨S1024, .f32⟩
  | .hbm, ⟨5, _⟩ => ⟨S32768x1024, .f32⟩
  | .hbm, ⟨6, _⟩ => ⟨S_, .f32⟩
  | .hbm, ⟨7, _⟩ => ⟨S32768, .f32⟩
  | .hbm, ⟨8, _⟩ => ⟨S32768x1, .f32⟩
  | .hbm, ⟨9, _⟩ => ⟨S_, .f32⟩
  | .hbm, ⟨10, _⟩ => ⟨S32768x1, .f32⟩
  | .hbm, ⟨11, _⟩ => ⟨S32768x1, .f32⟩
  | .hbm, ⟨12, _⟩ => ⟨S_, .f32⟩
  | .hbm, ⟨13, _⟩ => ⟨S32768x1, .f32⟩
  | .hbm, ⟨14, _⟩ => ⟨S32768x1, .f32⟩
  | .hbm, ⟨15, _⟩ => ⟨S32768x1, .f32⟩
  | .hbm, ⟨16, _⟩ => ⟨S32768x1024, .f32⟩
  | .hbm, ⟨17, _⟩ => ⟨S32768x1024, .f32⟩
  | .hbm, ⟨18, _⟩ => ⟨S1x1024, .f32⟩
  | .hbm, ⟨19, _⟩ => ⟨S32768x1024, .f32⟩
  | .hbm, ⟨20, _⟩ => ⟨S32768x1024, .f32⟩
  | .hbm, ⟨21, _⟩ => ⟨S1024x5640, .f32⟩
  | .hbm, ⟨22, _⟩ => ⟨S32768x5640, .f32⟩
  | .hbm, ⟨23, _⟩ => ⟨S32768x512, .f32⟩
  | .hbm, ⟨24, _⟩ => ⟨S32768x512, .f32⟩
  | .hbm, ⟨25, _⟩ => ⟨S32768x512, .f32⟩
  | .hbm, ⟨26, _⟩ => ⟨S32768x512, .f32⟩
  | .hbm, ⟨27, _⟩ => ⟨S32768x512, .f32⟩
  | .hbm, ⟨28, _⟩ => ⟨S32768x512, .f32⟩
  | .hbm, ⟨29, _⟩ => ⟨S32768x512, .f32⟩
  | .hbm, ⟨30, _⟩ => ⟨S32768x8, .f32⟩
  | .hbm, ⟨31, _⟩ => ⟨S32768x1024, .f32⟩
  | .hbm, ⟨32, _⟩ => ⟨S32768x1024, .f32⟩
  | .hbm, ⟨33, _⟩ => ⟨S32768x512, .bf16⟩
  | .hbm, ⟨34, _⟩ => ⟨S32768x512, .bf16⟩
  | .hbm, ⟨35, _⟩ => ⟨S32768x512, .bf16⟩
  | .hbm, ⟨36, _⟩ => ⟨S32768x512, .bf16⟩
  | .hbm, ⟨37, _⟩ => ⟨S32768x1024, .bf16⟩
  | .hbm, ⟨38, _⟩ => ⟨S32768x1024, .bf16⟩
  | .hbm, ⟨39, _⟩ => ⟨S_, .i32⟩
  | .hbm, ⟨40, _⟩ => ⟨S_, .f32⟩
  | .hbm, ⟨41, _⟩ => ⟨S32768x128, .f32⟩
  | .hbm, ⟨42, _⟩ => ⟨S8x4096x512, .f32⟩
  | .hbm, ⟨43, _⟩ => ⟨S8x512x4096, .f32⟩
  | .hbm, ⟨44, _⟩ => ⟨S8x512x4096, .bf16⟩
  | .hbm, ⟨45, _⟩ => ⟨S8x4096x512, .f32⟩
  | .hbm, ⟨46, _⟩ => ⟨S8x512x4096, .f32⟩
  | .hbm, ⟨47, _⟩ => ⟨S8x512x4096, .bf16⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_c : Ref sig .tc := ⟨.hbm, 39, rfl⟩
abbrev main_call0_v0 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩

abbrev nD : Nat := 1
abbrev τ : Topo := Topo.v7x

variable {F : FTy → Type} [FloatOps F]
-- ==== Hgrn.lean ====
abbrev S32768x512 : Shape := ⟨2, ![32768, 512]⟩
abbrev S2x512 : Shape := ⟨2, ![2, 512]⟩
abbrev S1x128 : Shape := ⟨2, ![1, 128]⟩
abbrev S512x192 : Shape := ⟨2, ![512, 192]⟩
abbrev S128 : Shape := ⟨1, ![128]⟩
abbrev S512x512 : Shape := ⟨2, ![512, 512]⟩
abbrev S4x128x128 : Shape := ⟨3, ![4, 128, 128]⟩
abbrev S512 : Shape := ⟨1, ![512]⟩
abbrev S1x512 : Shape := ⟨2, ![1, 512]⟩
abbrev S64x512 : Shape := ⟨2, ![64, 512]⟩
abbrev S64x64 : Shape := ⟨2, ![64, 64]⟩
abbrev S192x512 : Shape := ⟨2, ![192, 512]⟩
abbrev S32x512 : Shape := ⟨2, ![32, 512]⟩
abbrev S16x512 : Shape := ⟨2, ![16, 512]⟩
abbrev S8x512 : Shape := ⟨2, ![8, 512]⟩
abbrev S64x128 : Shape := ⟨2, ![64, 128]⟩
abbrev S1x128x128 : Shape := ⟨3, ![1, 128, 128]⟩
abbrev S128x128 : Shape := ⟨2, ![128, 128]⟩
abbrev S64 : Shape := ⟨1, ![64]⟩
abbrev S64x1 : Shape := ⟨2, ![64, 1]⟩

abbrev nBuf : Space → Nat
  | .hbm => 10
  | .vmem => 14
  | .smem => 0
  | _ => 0

abbrev bufTy : (tb : Table) → Fin (tcTables nBuf tb) → BufTy
  | .hbm, ⟨0, _⟩ => ⟨S32768x512, .bf16⟩
  | .hbm, ⟨1, _⟩ => ⟨S32768x512, .f32⟩
  | .hbm, ⟨2, _⟩ => ⟨S32768x512, .bf16⟩
  | .hbm, ⟨3, _⟩ => ⟨S32768x512, .bf16⟩
  | .hbm, ⟨4, _⟩ => ⟨S2x512, .f32⟩
  | .hbm, ⟨5, _⟩ => ⟨S1x128, .f32⟩
  | .hbm, ⟨6, _⟩ => ⟨S512x192, .bf16⟩
  | .hbm, ⟨7, _⟩ => ⟨S128, .f32⟩
  | .hbm, ⟨8, _⟩ => ⟨S1x128, .f32⟩
  | .hbm, ⟨9, _⟩ => ⟨S32768x512, .bf16⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S2x512, .f32⟩
  | .local _ .vmem, ⟨9, _⟩ => ⟨S1x128, .f32⟩
  | .local _ .vmem, ⟨10, _⟩ => ⟨S512x192, .bf16⟩
  | .local _ .vmem, ⟨11, _⟩ => ⟨S512x512, .bf16⟩
  | .local _ .vmem, ⟨12, _⟩ => ⟨S512x512, .bf16⟩
  | .local _ .vmem, ⟨13, _⟩ => ⟨S4x128x128, .f32⟩
  | _, _ => ⟨S32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S512x192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== HgrnIdeal.lean ====
variable {F : FTy → Type} [FloatOps F] [Named F]
def κ : String → Option EReal := fun
  | "inv_ln2" => some (((Real.log 2)⁻¹ : ℝ) : EReal)
  | "neg_log2e" => some ((-((Real.log 2)⁻¹) : ℝ) : EReal)
  | _ => none
-- ==== HgrnRefIdeal.lean ====
abbrev S32768x512 : Shape := ⟨2, ![32768, 512]⟩
abbrev S2x512 : Shape := ⟨2, ![2, 512]⟩
abbrev S1x128 : Shape := ⟨2, ![1, 128]⟩
abbrev S_ : Shape := ⟨0, ![]⟩
abbrev S512 : Shape := ⟨1, ![512]⟩
abbrev S1x512 : Shape := ⟨2, ![1, 512]⟩
abbrev S8x64x64x4x128 : Shape := ⟨5, ![8, 64, 64, 4, 128]⟩
abbrev S64x8x4x64x128 : Shape := ⟨5, ![64, 8, 4, 64, 128]⟩
abbrev S64x64 : Shape := ⟨2, ![64, 64]⟩
abbrev S64x64x1 : Shape := ⟨3, ![64, 64, 1]⟩
abbrev S8x4x128x128 : Shape := ⟨4, ![8, 4, 128, 128]⟩
abbrev S1x8x4x64x128 : Shape := ⟨5, ![1, 8, 4, 64, 128]⟩
abbrev S8x4x64x128 : Shape := ⟨4, ![8, 4, 64, 128]⟩
abbrev S8x4x64x1x128 : Shape := ⟨5, ![8, 4, 64, 1, 128]⟩
abbrev S8x4x1x64x128 : Shape := ⟨5, ![8, 4, 1, 64, 128]⟩
abbrev S8x4x64x64x128 : Shape := ⟨5, ![8, 4, 64, 64, 128]⟩
abbrev S8x4x64x64 : Shape := ⟨4, ![8, 4, 64, 64]⟩
abbrev S8x4x1x128 : Shape := ⟨4, ![8, 4, 1, 128]⟩
abbrev S8x4x128 : Shape := ⟨3, ![8, 4, 128]⟩
abbrev S8x4x128x1 : Shape := ⟨4, ![8, 4, 128, 1]⟩
abbrev S8x4096x4x128 : Shape := ⟨4, ![8, 4096, 4, 128]⟩
abbrev S128 : Shape := ⟨1, ![128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S8x4096x512 : Shape := ⟨3, ![8, 4096, 512]⟩

abbrev nBuf : Space → Nat
  | .hbm => 197
  | .vmem => 0
  | .smem => 0
  | _ => 0

abbrev hbmTy0_0 (i : Nat) : BufTy := match i % 128 with
  | 0 => ⟨S32768x512, .bf16⟩
  | 1 => ⟨S32768x512, .f32⟩
  | 2 => ⟨S32768x512, .bf16⟩
  | 3 => ⟨S32768x512, .bf16⟩
  | 4 => ⟨S2x512, .f32⟩
  | 5 => ⟨S1x128, .f32⟩
  | 6 => ⟨S32768x512, .f32⟩
  | 7 => ⟨S32768x512, .f32⟩
  | 8 => ⟨S_, .f32⟩
  | 9 => ⟨S512, .f32⟩
  | 10 => ⟨S_, .f32⟩
  | 11 => ⟨S512, .f32⟩
  | 12 => ⟨S512, .f32⟩
  | 13 => ⟨S1x512, .f32⟩
  | 14 => ⟨S2x512, .f32⟩
  | 15 => ⟨S2x512, .f32⟩
  | 16 => ⟨S2x512, .f32⟩
  | 17 => ⟨S_, .f32⟩
  | 18 => ⟨S512, .f32⟩
  | 19 => ⟨S1x512, .f32⟩
  | 20 => ⟨S2x512, .f32⟩
  | 21 => ⟨S2x512, .f32⟩
  | 22 => ⟨S_, .f32⟩
  | 23 => ⟨S_, .f32⟩
  | 24 => ⟨S2x512, .f32⟩
  | 25 => ⟨S1x512, .f32⟩
  | 26 => ⟨S512, .f32⟩
  | 27 => ⟨S32768x512, .f32⟩
  | 28 => ⟨S32768x512, .f32⟩
  | 29 => ⟨S_, .f32⟩
  | 30 => ⟨S32768x512, .f32⟩
  | 31 => ⟨S32768x512, .f32⟩
  | 32 => ⟨S_, .f32⟩
  | 33 => ⟨S32768x512, .f32⟩
  | 34 => ⟨S32768x512, .f32⟩
  | 35 => ⟨S32768x512, .f32⟩
  | 36 => ⟨S_, .f32⟩
  | 37 => ⟨S512, .f32⟩
  | 38 => ⟨S512, .f32⟩
  | 39 => ⟨S32768x512, .f32⟩
  | 40 => ⟨S32768x512, .f32⟩
  | 41 => ⟨S_, .f32⟩
  | 42 => ⟨S32768x512, .f32⟩
  | 43 => ⟨S32768x512, .f32⟩
  | 44 => ⟨S_, .f32⟩
  | 45 => ⟨S32768x512, .f32⟩
  | 46 => ⟨S32768x512, .f32⟩
  | 47 => ⟨S1x512, .f32⟩
  | 48 => ⟨S32768x512, .f32⟩
  | 49 => ⟨S32768x512, .f32⟩
  | 50 => ⟨S1x512, .f32⟩
  | 51 => ⟨S32768x512, .f32⟩
  | 52 => ⟨S32768x512, .f32⟩
  | 53 => ⟨S_, .f32⟩
  | 54 => ⟨S32768x512, .f32⟩
  | 55 => ⟨S32768x512, .f32⟩
  | 56 => ⟨S32768x512, .f32⟩
  | 57 => ⟨S8x64x64x4x128, .f32⟩
  | 58 => ⟨S64x8x4x64x128, .f32⟩
  | 59 => ⟨S8x64x64x4x128, .f32⟩
  | 60 => ⟨S64x8x4x64x128, .f32⟩
  | 61 => ⟨S8x64x64x4x128, .f32⟩
  | 62 => ⟨S64x8x4x64x128, .f32⟩
  | 63 => ⟨S8x64x64x4x128, .f32⟩
  | 64 => ⟨S64x8x4x64x128, .f32⟩
  | 65 => ⟨S_, .f32⟩
  | 66 => ⟨S_, .f32⟩
  | 67 => ⟨S64x8x4x64x128, .f32⟩
  | 68 => ⟨S_, .i1⟩
  | 69 => ⟨S64x64, .i1⟩
  | 70 => ⟨S64x64, .i32⟩
  | 71 => ⟨S_, .i32⟩
  | 72 => ⟨S64x64, .i32⟩
  | 73 => ⟨S64x64, .i32⟩
  | 74 => ⟨S64x64, .i32⟩
  | 75 => ⟨S64x64, .i1⟩
  | 76 => ⟨S_, .i1⟩
  | 77 => ⟨S64x64, .i1⟩
  | 78 => ⟨S64x64, .i1⟩
  | 79 => ⟨S64x64x1, .i1⟩
  | 80 => ⟨S_, .f32⟩
  | 81 => ⟨S8x4x128x128, .f32⟩
  | 82 => ⟨S_, .f32⟩
  | 83 => ⟨S64x8x4x64x128, .f32⟩
  | 84 => ⟨S_, .i32⟩
  | 85 => ⟨S64x8x4x64x128, .f32⟩
  | 86 => ⟨S64x8x4x64x128, .f32⟩
  | 87 => ⟨S64x8x4x64x128, .f32⟩
  | 88 => ⟨S64x8x4x64x128, .f32⟩
  | 89 => ⟨S64x64x1, .i1⟩
  | 90 => ⟨S_, .i32⟩
  | 91 => ⟨S8x4x128x128, .f32⟩
  | 92 => ⟨S64x8x4x64x128, .f32⟩
  | 93 => ⟨S_, .i32⟩
  | 94 => ⟨S_, .i1⟩
  | 95 => ⟨S_, .i32⟩
  | 96 => ⟨S_, .i32⟩
  | 97 => ⟨S_, .i32⟩
  | 98 => ⟨S_, .i32⟩
  | 99 => ⟨S1x8x4x64x128, .f32⟩
  | 100 => ⟨S8x4x64x128, .f32⟩
  | 101 => ⟨S_, .i32⟩
  | 102 => ⟨S_, .i32⟩
  | 103 => ⟨S_, .i32⟩
  | 104 => ⟨S_, .i32⟩
  | 105 => ⟨S1x8x4x64x128, .f32⟩
  | 106 => ⟨S8x4x64x128, .f32⟩
  | 107 => ⟨S_, .i32⟩
  | 108 => ⟨S_, .i32⟩
  | 109 => ⟨S_, .i32⟩
  | 110 => ⟨S_, .i32⟩
  | 111 => ⟨S1x8x4x64x128, .f32⟩
  | 112 => ⟨S8x4x64x128, .f32⟩
  | 113 => ⟨S_, .i32⟩
  | 114 => ⟨S_, .i32⟩
  | 115 => ⟨S_, .i32⟩
  | 116 => ⟨S_, .i32⟩
  | 117 => ⟨S1x8x4x64x128, .f32⟩
  | 118 => ⟨S8x4x64x128, .f32⟩
  | 119 => ⟨S8x4x64x128, .f32⟩
  | 120 => ⟨S8x4x64x128, .f32⟩
  | 121 => ⟨S8x4x64x128, .f32⟩
  | 122 => ⟨S8x4x64x1x128, .f32⟩
  | 123 => ⟨S8x4x1x64x128, .f32⟩
  | 124 => ⟨S8x4x64x64x128, .f32⟩
  | 125 => ⟨S8x4x64x64x128, .f32⟩
  | 126 => ⟨S8x4x64x64x128, .f32⟩
  | 127 => ⟨S_, .f32⟩
  | _ => ⟨S32768x512, .bf16⟩

abbrev hbmTy0_1 (i : Nat) : BufTy := match i % 128 with
  | 0 => ⟨S_, .f32⟩
  | 1 => ⟨S8x4x64x64x128, .i1⟩
  | 2 => ⟨S8x4x64x64x128, .f32⟩
  | 3 => ⟨S8x4x64x64x128, .f32⟩
  | 4 => ⟨S8x4x64x64x128, .f32⟩
  | 5 => ⟨S8x4x64x1x128, .f32⟩
  | 6 => ⟨S8x4x1x64x128, .f32⟩
  | 7 => ⟨S8x4x64x64x128, .f32⟩
  | 8 => ⟨S8x4x64x64x128, .f32⟩
  | 9 => ⟨S8x4x64x64x128, .f32⟩
  | 10 => ⟨S8x4x64x64x128, .f32⟩
  | 11 => ⟨S_, .f32⟩
  | 12 => ⟨S8x4x64x64, .f32⟩
  | 13 => ⟨S8x4x64x128, .f32⟩
  | 14 => ⟨S8x4x1x128, .f32⟩
  | 15 => ⟨S8x4x128, .f32⟩
  | 16 => ⟨S8x4x128, .f32⟩
  | 17 => ⟨S8x4x128x1, .f32⟩
  | 18 => ⟨S8x4x128x128, .f32⟩
  | 19 => ⟨S8x4x128x128, .f32⟩
  | 20 => ⟨S8x4x64x128, .f32⟩
  | 21 => ⟨S8x4x64x128, .f32⟩
  | 22 => ⟨S8x4x64x128, .f32⟩
  | 23 => ⟨S8x4x64x128, .f32⟩
  | 24 => ⟨S8x4x128x128, .f32⟩
  | 25 => ⟨S8x4x128x128, .f32⟩
  | 26 => ⟨S8x4x64x128, .f32⟩
  | 27 => ⟨S1x8x4x64x128, .f32⟩
  | 28 => ⟨S_, .i32⟩
  | 29 => ⟨S_, .i32⟩
  | 30 => ⟨S_, .i32⟩
  | 31 => ⟨S_, .i32⟩
  | 32 => ⟨S64x8x4x64x128, .f32⟩
  | 33 => ⟨S_, .i32⟩
  | 34 => ⟨S_, .i32⟩
  | 35 => ⟨S8x64x64x4x128, .f32⟩
  | 36 => ⟨S8x4096x4x128, .f32⟩
  | 37 => ⟨S128, .f32⟩
  | 38 => ⟨S8x4096x4x128, .f32⟩
  | 39 => ⟨S_, .f32⟩
  | 40 => ⟨S8x4096x4, .f32⟩
  | 41 => ⟨S8x4096x4x1, .f32⟩
  | 42 => ⟨S_, .f32⟩
  | 43 => ⟨S8x4096x4x1, .f32⟩
  | 44 => ⟨S8x4096x4x1, .f32⟩
  | 45 => ⟨S_, .f32⟩
  | 46 => ⟨S8x4096x4x1, .f32⟩
  | 47 => ⟨S8x4096x4x1, .f32⟩
  | 48 => ⟨S8x4096x4x1, .f32⟩
  | 49 => ⟨S8x4096x4x128, .f32⟩
  | 50 => ⟨S8x4096x4x128, .f32⟩
  | 51 => ⟨S1x1x1x128, .f32⟩
  | 52 => ⟨S8x4096x4x128, .f32⟩
  | 53 => ⟨S8x4096x4x128, .f32⟩
  | 54 => ⟨S8x4096x512, .f32⟩
  | 55 => ⟨S32768x512, .f32⟩
  | 56 => ⟨S8x4096x512, .f32⟩
  | 57 => ⟨S8x4096x512, .f32⟩
  | 58 => ⟨S8x4096x512, .f32⟩
  | 59 => ⟨S_, .f32⟩
  | 60 => ⟨S8x4096x512, .f32⟩
  | 61 => ⟨S8x4096x512, .f32⟩
  | 62 => ⟨S_, .f32⟩
  | 63 => ⟨S8x4096x512, .f32⟩
  | 64 => ⟨S8x4096x512, .f32⟩
  | 65 => ⟨S8x4096x512, .f32⟩
  | 66 => ⟨S8x4096x512, .f32⟩
  | 67 => ⟨S32768x512, .f32⟩
  | 68 => ⟨S32768x512, .bf16⟩
  | _ => ⟨S32768x512, .bf16⟩

abbrev hbmTy (i : Nat) : BufTy := match i / 128 with
  | 0 => hbmTy0_0 i
  | 1 => hbmTy0_1 i
  | _ => ⟨S32768x512, .bf16⟩

abbrev bufTy : (tb : Table) → Fin (tcTables nBuf tb) → BufTy
  | .hbm, ⟨i, _⟩ => hbmTy i
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_call0_call0_cst : Ref sig .tc := ⟨.hbm, 22, rfl⟩
abbrev main_call0_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v16 : Ref sig .tc := ⟨.hbm, 35, rfl⟩
abbrev main_cst_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_v21 : Ref sig .tc := ⟨.hbm, 42, rfl⟩
abbrev main_v22 : Ref sig .tc := ⟨.hbm, 43, rfl⟩
abbrev main_cst_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_cst_5 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call2_call0_cst : Ref sig .tc := ⟨.hbm, 65, rfl⟩
abbrev main_call2_call0_v0 : Ref sig .tc := ⟨.hbm, 66, rfl⟩
abbrev main_v42 : Ref sig .tc := ⟨.hbm, 67, rfl⟩
abbrev main_c : Ref sig .tc := ⟨.hbm, 68, rfl⟩
abbrev main_v43 : Ref sig .tc := ⟨.hbm, 69, rfl⟩
abbrev main_call3_v0 : Ref sig .tc := ⟨.hbm, 70, rfl⟩
abbrev main_call3_c : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_call3_c_0 : Ref sig .tc := ⟨.hbm, 76, rfl⟩
abbrev main_call3_v5 : Ref sig .tc := ⟨.hbm, 77, rfl⟩
abbrev main_v44 : Ref sig .tc := ⟨.hbm, 78, rfl⟩
abbrev main_v45 : Ref sig .tc := ⟨.hbm, 79, rfl⟩
abbrev main_cst_6 : Ref sig .tc := ⟨.hbm, 80, rfl⟩
abbrev main_v46 : Ref sig .tc := ⟨.hbm, 81, rfl⟩
abbrev main_cst_7 : Ref sig .tc := ⟨.hbm, 82, rfl⟩
abbrev main_v47 : Ref sig .tc := ⟨.hbm, 83, rfl⟩
abbrev main_c_8 : Ref sig .tc := ⟨.hbm, 84, rfl⟩
abbrev main_v48_0 : Ref sig .tc := ⟨.hbm, 85, rfl⟩
abbrev main_v48_1 : Ref sig .tc := ⟨.hbm, 86, rfl⟩
abbrev main_v48_2 : Ref sig .tc := ⟨.hbm, 87, rfl⟩
abbrev main_v48_3 : Ref sig .tc := ⟨.hbm, 88, rfl⟩
abbrev main_v48_4 : Ref sig .tc := ⟨.hbm, 89, rfl⟩
abbrev main_v48_5 : Ref sig .tc := ⟨.hbm, 90, rfl⟩
abbrev main_v48_6 : Ref sig .tc := ⟨.hbm, 91, rfl⟩
abbrev main_v48_7 : Ref sig .tc := ⟨.hbm, 92, rfl⟩
abbrev main_while0c_c_19 : Ref sig .tc := ⟨.hbm, 93, rfl⟩
abbrev main_while0c_v72 : Ref sig .tc := ⟨.hbm, 94, rfl⟩
abbrev main_while0b_call4_c : Ref sig .tc := ⟨.hbm, 95, rfl⟩
abbrev main_while0b_call4_c_0 : Ref sig .tc := ⟨.hbm, 96, rfl⟩
abbrev main_while0b_call4_c_1 : Ref sig .tc := ⟨.hbm, 97, rfl⟩
abbrev main_while0b_call4_c_2 : Ref sig .tc := ⟨.hbm, 98, rfl⟩
abbrev main_while0b_call4_v0 : Ref sig .tc := ⟨.hbm, 99, rfl⟩
abbrev main_while0b_v72 : Ref sig .tc := ⟨.hbm, 100, rfl⟩
abbrev main_while0b_call5_c : Ref sig .tc := ⟨.hbm, 101, rfl⟩
abbrev main_while0b_call5_c_0 : Ref sig .tc := ⟨.hbm, 102, rfl⟩
abbrev main_while0b_call5_c_1 : Ref sig .tc := ⟨.hbm, 103, rfl⟩
abbrev main_while0b_call5_c_2 : Ref sig .tc := ⟨.hbm, 104, rfl⟩
abbrev main_while0b_call5_v0 : Ref sig .tc := ⟨.hbm, 105, rfl⟩
abbrev main_while0b_v73 : Ref sig .tc := ⟨.hbm, 106, rfl⟩
abbrev main_while0b_call6_c : Ref sig .tc := ⟨.hbm, 107, rfl⟩
abbrev main_while0b_call6_c_0 : Ref sig .tc := ⟨.hbm, 108, rfl⟩
abbrev main_while0b_call6_c_1 : Ref sig .tc := ⟨.hbm, 109, rfl⟩
abbrev main_while0b_call6_c_2 : Ref sig .tc := ⟨.hbm, 110, rfl⟩
abbrev main_while0b_call6_v0 : Ref sig .tc := ⟨.hbm, 111, rfl⟩
abbrev main_while0b_v74 : Ref sig .tc := ⟨.hbm, 112, rfl⟩
abbrev main_while0b_call7_c : Ref sig .tc := ⟨.hbm, 113, rfl⟩
abbrev main_while0b_call7_c_0 : Ref sig .tc := ⟨.hbm, 114, rfl⟩
abbrev main_while0b_call7_c_1 : Ref sig .tc := ⟨.hbm, 115, rfl⟩
abbrev main_while0b_call7_c_2 : Ref sig .tc := ⟨.hbm, 116, rfl⟩
abbrev main_while0b_call7_v0 : Ref sig .tc := ⟨.hbm, 117, rfl⟩
abbrev main_while0b_v75 : Ref sig .tc := ⟨.hbm, 118, rfl⟩
abbrev main_while0b_v76 : Ref sig .tc := ⟨.hbm, 119, rfl⟩
abbrev main_while0b_v77 : Ref sig .tc := ⟨.hbm, 120, rfl⟩
abbrev main_while0b_v78 : Ref sig .tc := ⟨.hbm, 121, rfl⟩
abbrev main_while0b_v79 : Ref sig .tc := ⟨.hbm, 122, rfl⟩
abbrev main_while0b_v80 : Ref sig .tc := ⟨.hbm, 123, rfl⟩
abbrev main_while0b_v81 : Ref sig .tc := ⟨.hbm, 124, rfl⟩
abbrev main_while0b_v82 : Ref sig .tc := ⟨.hbm, 125, rfl⟩
abbrev main_while0b_v83 : Ref sig .tc := ⟨.hbm, 126, rfl⟩
abbrev main_while0b_cst_19 : Ref sig .tc := ⟨.hbm, 127, rfl⟩
abbrev main_while0b_call8_v0 : Ref sig .tc := ⟨.hbm, 128, rfl⟩
abbrev main_while0b_call8_v1 : Ref sig .tc := ⟨.hbm, 129, rfl⟩
abbrev main_while0b_call8_v2 : Ref sig .tc := ⟨.hbm, 130, rfl⟩
abbrev main_while0b_v84 : Ref sig .tc := ⟨.hbm, 131, rfl⟩
abbrev main_while0b_v85 : Ref sig .tc := ⟨.hbm, 132, rfl⟩
abbrev main_while0b_v86 : Ref sig .tc := ⟨.hbm, 133, rfl⟩
abbrev main_while0b_v87 : Ref sig .tc := ⟨.hbm, 134, rfl⟩
abbrev main_while0b_v88 : Ref sig .tc := ⟨.hbm, 135, rfl⟩
abbrev main_while0b_v89 : Ref sig .tc := ⟨.hbm, 136, rfl⟩
abbrev main_while0b_v90 : Ref sig .tc := ⟨.hbm, 137, rfl⟩
abbrev main_while0b_v91 : Ref sig .tc := ⟨.hbm, 138, rfl⟩
abbrev main_while0b_cst_20 : Ref sig .tc := ⟨.hbm, 139, rfl⟩
abbrev main_while0b_v92 : Ref sig .tc := ⟨.hbm, 140, rfl⟩
abbrev main_while0b_v93 : Ref sig .tc := ⟨.hbm, 141, rfl⟩
abbrev main_while0b_v94 : Ref sig .tc := ⟨.hbm, 142, rfl⟩
abbrev main_while0b_v95 : Ref sig .tc := ⟨.hbm, 143, rfl⟩
abbrev main_while0b_v96 : Ref sig .tc := ⟨.hbm, 144, rfl⟩
abbrev main_while0b_v97 : Ref sig .tc := ⟨.hbm, 145, rfl⟩
abbrev main_while0b_v98 : Ref sig .tc := ⟨.hbm, 146, rfl⟩
abbrev main_while0b_v99 : Ref sig .tc := ⟨.hbm, 147, rfl⟩
abbrev main_while0b_v100 : Ref sig .tc := ⟨.hbm, 148, rfl⟩
abbrev main_while0b_v101 : Ref sig .tc := ⟨.hbm, 149, rfl⟩
abbrev main_while0b_v102 : Ref sig .tc := ⟨.hbm, 150, rfl⟩
abbrev main_while0b_v103 : Ref sig .tc := ⟨.hbm, 151, rfl⟩
abbrev main_while0b_v104 : Ref sig .tc := ⟨.hbm, 152, rfl⟩
abbrev main_while0b_v105 : Ref sig .tc := ⟨.hbm, 153, rfl⟩
abbrev main_while0b_v106 : Ref sig .tc := ⟨.hbm, 154, rfl⟩
abbrev main_while0b_call9_v0 : Ref sig .tc := ⟨.hbm, 155, rfl⟩
abbrev main_while0b_call9_c : Ref sig .tc := ⟨.hbm, 156, rfl⟩
abbrev main_while0b_call9_c_0 : Ref sig .tc := ⟨.hbm, 157, rfl⟩
abbrev main_while0b_call9_c_1 : Ref sig .tc := ⟨.hbm, 158, rfl⟩
abbrev main_while0b_call9_c_2 : Ref sig .tc := ⟨.hbm, 159, rfl⟩
abbrev main_while0b_v107 : Ref sig .tc := ⟨.hbm, 160, rfl⟩
abbrev main_while0b_c_21 : Ref sig .tc := ⟨.hbm, 161, rfl⟩
abbrev main_while0b_v108 : Ref sig .tc := ⟨.hbm, 162, rfl⟩
abbrev main_v49 : Ref sig .tc := ⟨.hbm, 163, rfl⟩
abbrev main_v50 : Ref sig .tc := ⟨.hbm, 164, rfl⟩
abbrev main_v51 : Ref sig .tc := ⟨.hbm, 165, rfl⟩
abbrev main_v52 : Ref sig .tc := ⟨.hbm, 166, rfl⟩
abbrev main_cst_9 : Ref sig .tc := ⟨.hbm, 167, rfl⟩
abbrev main_v53 : Ref sig .tc := ⟨.hbm, 168, rfl⟩
abbrev main_v54 : Ref sig .tc := ⟨.hbm, 169, rfl⟩
abbrev main_cst_10 : Ref sig .tc := ⟨.hbm, 170, rfl⟩
abbrev main_v55 : Ref sig .tc := ⟨.hbm, 171, rfl⟩
abbrev main_v56 : Ref sig .tc := ⟨.hbm, 172, rfl⟩
abbrev main_cst_11 : Ref sig .tc := ⟨.hbm, 173, rfl⟩
abbrev main_v57 : Ref sig .tc := ⟨.hbm, 174, rfl⟩
abbrev main_v58 : Ref sig .tc := ⟨.hbm, 175, rfl⟩
abbrev main_v59 : Ref sig .tc := ⟨.hbm, 176, rfl⟩
abbrev main_v60 : Ref sig .tc := ⟨.hbm, 177, rfl⟩
abbrev main_v61 : Ref sig .tc := ⟨.hbm, 178, rfl⟩
abbrev main_v62 : Ref sig .tc := ⟨.hbm, 179, rfl⟩
abbrev main_v63 : Ref sig .tc := ⟨.hbm, 180, rfl⟩
abbrev main_v64 : Ref sig .tc := ⟨.hbm, 181, rfl⟩
abbrev main_v65 : Ref sig .tc := ⟨.hbm, 182, rfl⟩
abbrev main_v66 : Ref sig .tc := ⟨.hbm, 183, rfl⟩
abbrev main_v67 : Ref sig .tc := ⟨.hbm, 184, rfl⟩
abbrev main_call10_v0 : Ref sig .tc := ⟨.hbm, 185, rfl⟩
abbrev main_call10_v1 : Ref sig .tc := ⟨.hbm, 186, rfl⟩
abbrev main_call10_cst : Ref sig .tc := ⟨.hbm, 187, rfl⟩
abbrev main_call10_v2 : Ref sig .tc := ⟨.hbm, 188, rfl⟩
abbrev main_call10_v3 : Ref sig .tc := ⟨.hbm, 189, rfl⟩
abbrev main_call10_cst_0 : Ref sig .tc := ⟨.hbm, 190, rfl⟩
abbrev main_call10_v4 : Ref sig .tc := ⟨.hbm, 191, rfl⟩
abbrev main_call10_v5 : Ref sig .tc := ⟨.hbm, 192, rfl⟩
abbrev main_v68 : Ref sig .tc := ⟨.hbm, 193, rfl⟩
abbrev main_v69 : Ref sig .tc := ⟨.hbm, 194, rfl⟩
abbrev main_v70 : Ref sig .tc := ⟨.hbm, 195, rfl⟩
abbrev main_v71 : Ref sig .tc := ⟨.hbm, 196, rfl⟩

abbrev nD : Nat := 1
abbrev τ : Topo := Topo.v7x

variable {F : FTy → Type} [FloatOps F]

abbrev main_while0_count : Scf.Loop 32 := ⟨0#32, 64#32, 1#32⟩
-- ==== Decay.lean ====
abbrev S8x4096x128 : Shape := ⟨3, ![8, 4096, 128]⟩
abbrev S1x8 : Shape := ⟨2, ![1, 8]⟩
abbrev S8 : Shape := ⟨1, ![8]⟩
abbrev S_ : Shape := ⟨0, ![]⟩
abbrev S128 : Shape := ⟨1, ![128]⟩
abbrev S1x128 : Shape := ⟨2, ![1, 128]⟩
abbrev S1x4096x128 : Shape := ⟨3, ![1, 4096, 128]⟩
abbrev S128x128 : Shape := ⟨2, ![128, 128]⟩
abbrev S1x128x128 : Shape := ⟨3, ![1, 128, 128]⟩

abbrev nBuf : Space → Nat
  | .hbm => 8
  | .vmem => 5
  | .smem => 0
  | _ => 0

abbrev bufTy : (tb : Table) → Fin (tcTables nBuf tb) → BufTy
  | .hbm, ⟨0, _⟩ => ⟨S8x4096x128, .f32⟩
  | .hbm, ⟨1, _⟩ => ⟨S1x8, .f32⟩
  | .hbm, ⟨2, _⟩ => ⟨S8, .f32⟩
  | .hbm, ⟨3, _⟩ => ⟨S_, .i32⟩
  | .hbm, ⟨4, _⟩ => ⟨S_, .f32⟩
  | .hbm, ⟨5, _⟩ => ⟨S128, .f32⟩
  | .hbm, ⟨6, _⟩ => ⟨S1x128, .f32⟩
  | .hbm, ⟨7, _⟩ => ⟨S8x4096x128, .bf16⟩
  | .local _ .vmem, ⟨0, _⟩ => ⟨S1x4096x128, .f32⟩
  | .local _ .vmem, ⟨1, _⟩ => ⟨S1x4096x128, .f32⟩
  | .local _ .vmem, ⟨2, _⟩ => ⟨S1x128, .f32⟩
  | .local _ .vmem, ⟨3, _⟩ => ⟨S1x4096x128, .bf16⟩
  | .local _ .vmem, ⟨4, _⟩ => ⟨S1x4096x128, .bf16⟩
  | _, _ => ⟨S8x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DecayRefIdeal.lean ====
abbrev S8x4096x128 : Shape := ⟨3, ![8, 4096, 128]⟩
abbrev S1x8 : Shape := ⟨2, ![1, 8]⟩
abbrev S8x4096x8 : Shape := ⟨3, ![8, 4096, 8]⟩
abbrev S8 : Shape := ⟨1, ![8]⟩
abbrev S1x1x8 : Shape := ⟨3, ![1, 1, 8]⟩
abbrev S_ : Shape := ⟨0, ![]⟩
abbrev S8x4096x24 : Shape := ⟨3, ![8, 4096, 24]⟩

abbrev nBuf : Space → Nat
  | .hbm => 40
  | .vmem => 0
  | .smem => 0
  | _ => 0

abbrev bufTy : (tb : Table) → Fin (tcTables nBuf tb) → BufTy
  | .hbm, ⟨0, _⟩ => ⟨S8x4096x128, .f32⟩
  | .hbm, ⟨1, _⟩ => ⟨S1x8, .f32⟩
  | .hbm, ⟨2, _⟩ => ⟨S8x4096x8, .f32⟩
  | .hbm, ⟨3, _⟩ => ⟨S8, .f32⟩
  | .hbm, ⟨4, _⟩ => ⟨S1x1x8, .f32⟩
  | .hbm, ⟨5, _⟩ => ⟨S8x4096x8, .f32⟩
  | .hbm, ⟨6, _⟩ => ⟨S8x4096x8, .f32⟩
  | .hbm, ⟨7, _⟩ => ⟨S8x4096x8, .f32⟩
  | .hbm, ⟨8, _⟩ => ⟨S_, .f32⟩
  | .hbm, ⟨9, _⟩ => ⟨S8x4096x8, .f32⟩
  | .hbm, ⟨10, _⟩ => ⟨S8x4096x8, .f32⟩
  | .hbm, ⟨11, _⟩ => ⟨S8x4096x8, .f32⟩
  | .hbm, ⟨12, _⟩ => ⟨S8x4096x8, .f32⟩
  | .hbm, ⟨13, _⟩ => ⟨S8x4096x8, .i1⟩
  | .hbm, ⟨14, _⟩ => ⟨S8x4096x8, .f32⟩
  | .hbm, ⟨15, _⟩ => ⟨S8x4096x8, .f32⟩
  | .hbm, ⟨16, _⟩ => ⟨S8x4096x8, .f32⟩
  | .hbm, ⟨17, _⟩ => ⟨S8x4096x8, .f32⟩
  | .hbm, ⟨18, _⟩ => ⟨S8x4096x8, .f32⟩
  | .hbm, ⟨19, _⟩ => ⟨S8x4096x8, .f32⟩
  | .hbm, ⟨20, _⟩ => ⟨S8x4096x8, .f32⟩
  | .hbm, ⟨21, _⟩ => ⟨S8x4096x8, .f32⟩
  | .hbm, ⟨22, _⟩ => ⟨S8x4096x8, .f32⟩
  | .hbm, ⟨23, _⟩ => ⟨S_, .f32⟩
  | .hbm, ⟨24, _⟩ => ⟨S_, .f32⟩
  | .hbm, ⟨25, _⟩ => ⟨S8x4096x8, .f32⟩
  | .hbm, ⟨26, _⟩ => ⟨S_, .f32⟩
  | .hbm, ⟨27, _⟩ => ⟨S8x4096x8, .f32⟩
  | .hbm, ⟨28, _⟩ => ⟨S8x4096x8, .f32⟩
  | .hbm, ⟨29, _⟩ => ⟨S8x4096x8, .bf16⟩
  | .hbm, ⟨30, _⟩ => ⟨S8x4096x8, .f32⟩
  | .hbm, ⟨31, _⟩ => ⟨S8x4096x8, .f32⟩
  | .hbm, ⟨32, _⟩ => ⟨S8x4096x8, .bf16⟩
  | .hbm, ⟨33, _⟩ => ⟨S8x4096x8, .f32⟩
  | .hbm, ⟨34, _⟩ => ⟨S8x4096x8, .f32⟩
  | .hbm, ⟨35, _⟩ => ⟨S8x4096x8, .bf16⟩
  | .hbm, ⟨36, _⟩ => ⟨S8x4096x24, .bf16⟩
  | .hbm, ⟨37, _⟩ => ⟨S_, .i32⟩
  | .hbm, ⟨38, _⟩ => ⟨S_, .bf16⟩
  | .hbm, ⟨39, _⟩ => ⟨S8x4096x128, .bf16⟩
  | _, _ => ⟨S8x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v5 : Ref sig .tc := ⟨.hbm, 22, rfl⟩
abbrev main_call1_call0_cst : Ref sig .tc := ⟨.hbm, 23, rfl⟩
abbrev main_call1_call0_v0 : Ref sig .tc := ⟨.hbm, 24, rfl⟩
abbrev main_v6 : Ref sig .tc := ⟨.hbm, 25, rfl⟩
abbrev main_cst : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_call2_v0 : Ref sig .tc := ⟨.hbm, 38, rfl⟩
abbrev main_v17 : Ref sig .tc := ⟨.hbm, 39, rfl⟩

abbrev nD : Nat := 1
abbrev τ : Topo := Topo.v7x

variable {F : FTy → Type} [FloatOps F]
-- ==== Proof.Common.lean ====
/- Facts about the extended reals that more than one of the proofs needs: the kernels' sigmoid, written with `exp2`
   and the named constant `-1 / log 2`, is the logistic function, and a sum over 2816 terms in three stretches. -/
module

public import Idealize.ShloMosaic.PureOps.Ideal
public import Idealize.ShloMosaic.PureOps.Ideal.Laws

@[expose] public section

noncomputable section

namespace Cert.Common

open Idealize.ShloMosaic

/-- `2 ^ (x · (-1 / log 2)) = e ^ (-x)`, at the infinities too. -/
theorem exp2_mul (x : EReal) : Ideal.exp2 (x * ((-((Real.log 2)⁻¹) : ℝ) : EReal)) = Ideal.exp (-x) := by
  have hl : 0 < Real.log 2 := Real.log_pos (by norm_num)
  have hneg : (-((Real.log 2)⁻¹) : ℝ) < 0 := by have := inv_pos.mpr hl; linarith
  induction x using EReal.rec with
  | bot => rw [EReal.bot_mul_coe_of_neg hneg]; simp
  | top => rw [EReal.top_mul_coe_of_neg hneg]; simp
  | coe r =>
    rw [← EReal.coe_mul, ← EReal.coe_neg, Ideal.exp2_coe, Ideal.exp_coe]
    congr 1
    show (2 : ℝ) ^ (r * -(Real.log 2)⁻¹) = _
    rw [Real.rpow_def_of_pos (by norm_num)]
    congr 1
    field_simp

/-- The kernels' sigmoid is the logistic function. -/
theorem sigmoid_eq (x : EReal) :
    Ideal.div 1 (1 + Ideal.exp2 (x * ((-((Real.log 2)⁻¹) : ℝ) : EReal))) = Ideal.logistic x := by
  rw [exp2_mul]; rfl

/-- A sum of 2816 terms is its first 1024, the next 1024 and the last 768. -/
theorem sum_2816 (f : Fin 2816 → EReal) :
    ∑ k, f k = (∑ k : Fin 1024, f ⟨k.val, by omega⟩ + ∑ k : Fin 1024, f ⟨1024 + k.val, by omega⟩)
      + ∑ k : Fin 768, f ⟨2048 + k.val, by omega⟩ := by
  rw [Fin.sum_univ_add (a := 1024 + 1024) (b := 768) f, Fin.sum_univ_add (a := 1024) (b := 1024)]
  rfl

end Cert.Common

end
-- ==== Proof.Tail.Spec.lean ====
/- What the end of the layer computes for one token, row by row over the extended reals: the two branches gated and
   projected, added to the residual stream; the SwiGLU feed-forward on the normed stream; the gated per-layer
   embedding. Both programs are shown to compute `tailRow`. -/
module

public import Idealize.ShloMosaic.PureOps.Ideal

@[expose] public section

noncomputable section

namespace Cert.TailSpec

open Idealize.ShloMosaic

/-- A row times a matrix. -/
def mm {K N : ℕ} (a : Fin K → EReal) (w : Fin K → Fin N → EReal) (n : Fin N) : EReal := ∑ k, a k * w k n

/-- The two branches, each projected and gated by the sigmoid of its gate, added. -/
def merged (ga gb : Fin 1024 → EReal) (ya yb : Fin 512 → EReal) (wa wb : Fin 512 → Fin 1024 → EReal) (k : Fin 1024) :
    EReal :=
  Ideal.logistic (ga k) * mm ya wa k + Ideal.logistic (gb k) * mm yb wb k

/-- The residual stream after the branches' output projection. -/
def stream (x : Fin 1024 → EReal) (mg : Fin 1024 → EReal) (wo : Fin 1024 → Fin 1024 → EReal) (d : Fin 1024) : EReal :=
  x d + mm mg wo d

/-- A row divided by its root mean square, times the norm's gain. -/
def rms (x g : Fin 1024 → EReal) (d : Fin 1024) : EReal :=
  x d * Ideal.rsqrt (Ideal.div (∑ k, x k * x k) (Ideal.ofBits .f32 0x44800000#32) + Ideal.ofBits .f32 0x358637BD#32) * g d

/-- The feed-forward's hidden unit `n`: the gate's `silu` times the up projection. -/
def swiglu {N : ℕ} (h : Fin 1024 → EReal) (wg wu : Fin 1024 → Fin N → EReal) (n : Fin N) : EReal :=
  mm h wg n * Ideal.logistic (mm h wg n) * mm h wu n

/-- The stream after the feed-forward. -/
def afterFfn (x h : Fin 1024 → EReal) (wg wu : Fin 1024 → Fin 2816 → EReal) (wd : Fin 2816 → Fin 1024 → EReal)
    (d : Fin 1024) : EReal :=
  x d + mm (swiglu h wg wu) wd d

/-- The stream after the per-layer embedding `p`, gated by the normed stream `h`. -/
def afterPle (x h : Fin 1024 → EReal) (p : Fin 256 → EReal) (wpg : Fin 1024 → Fin 1024 → EReal)
    (wpp : Fin 256 → Fin 1024 → EReal) (d : Fin 1024) : EReal :=
  x d + Ideal.logistic (mm h wpg d) * mm p wpp d

/-- One token's row of the layer's result, from its rows of the arguments and the weights. -/
def tailRow (x : Fin 1024 → EReal) (ya yb : Fin 512 → EReal) (ga gb : Fin 1024 → EReal) (p : Fin 256 → EReal)
    (wa wb : Fin 512 → Fin 1024 → EReal) (wo : Fin 1024 → Fin 1024 → EReal) (gf : Fin 1024 → EReal)
    (wg wu : Fin 1024 → Fin 2816 → EReal) (wd : Fin 2816 → Fin 1024 → EReal) (gp : Fin 1024 → EReal)
    (wpg : Fin 1024 → Fin 1024 → EReal) (wpp : Fin 256 → Fin 1024 → EReal) : Fin 1024 → EReal :=
  afterPle
    (afterFfn (stream x (merged ga gb ya yb wa wb) wo) (rms (stream x (merged ga gb ya yb wa wb) wo) gf) wg wu wd)
    (rms (afterFfn (stream x (merged ga gb ya yb wa wb) wo) (rms (stream x (merged ga gb ya yb wa wb) wo) gf) wg wu wd) gp)
    p wpg wpp

end Cert.TailSpec

end
-- ==== Proof.Tail.Kernel.lean ====
/- What one block of the kernel computes: each of the two groups of 256 rows, read at an entry, is `tailRow` of the
   block's rows. -/
module

public import proofs.«01_k».proof.Proof.Gen.TailIdeal.Frame
public import proofs.«01_k».proof.Proof.Common
public import proofs.«01_k».proof.Proof.Tail.Spec
public import Idealize.ShloMosaic.Lib.Pointwise

@[expose] public section

set_option maxRecDepth 16384

noncomputable section

namespace Cert.TailIdeal.Block

open Cert.TailIdeal Cert.TailIdeal.Gen Cert.TailSpec Idealize.ShloMosaic Idealize.ShloMosaic.Pointwise

/-- The named constant is `-1 / log 2`. -/
theorem neg_log2e : (Named.named κ "neg_log2e" (φ := .f32) 0xBFB8AA3B#32 : Ideal .f32) = ((-((Real.log 2)⁻¹) : ℝ) : EReal) :=
  IdealRules.named_const.ideal_named_scalar _ _ _ _ rfl

/-- The kernel's sigmoid is the logistic function. -/
theorem sig (x : EReal) :
    Ideal.div 1 (1 + FloatOps.exp2 (F := Ideal) (φ := .f32) (x * Named.named (F := Ideal) κ "neg_log2e" (φ := .f32) 0xBFB8AA3B#32))
      = Ideal.logistic x := by
  rw [neg_log2e]; exact Common.sigmoid_eq x

/-! ## The first group of rows, operation by operation -/

/-- The gated branches of the first group. -/
theorem pay4 (v0 v9 : Vec Ideal S256x1024 .bf16) (v18 : Vec Ideal S256x512 .bf16) (v19 : Vec Ideal S512x1024 .bf16)
    (v23 : Vec Ideal S256x512 .bf16) (v25 : Vec Ideal S512x1024 .bf16) (r : Fin 256) (k : Fin 1024) :
    k0_pay4 (F := Ideal) v0 v9 v18 v19 v23 v25 (ix2 r k) = merged (fun k => v0 (ix2 r k)) (fun k => v9 (ix2 r k))
      (fun j => v18 (ix2 r j)) (fun j => v23 (ix2 r j)) (fun j k => v19 (ix2 j k)) (fun j k => v25 (ix2 j k)) k := by
  pointwise [k0_pay4]
  rw [sig, sig]; rfl

/-- The gated branches of the second group. -/
theorem pay8 (v0 v9 : Vec Ideal S256x1024 .bf16) (v18 : Vec Ideal S256x512 .bf16) (v19 : Vec Ideal S512x1024 .bf16)
    (v23 : Vec Ideal S256x512 .bf16) (v25 : Vec Ideal S512x1024 .bf16) (r : Fin 256) (k : Fin 1024) :
    k0_pay8 (F := Ideal) v0 v9 v18 v19 v23 v25 (ix2 r k) = merged (fun k => v0 (ix2 r k)) (fun k => v9 (ix2 r k))
      (fun j => v18 (ix2 r j)) (fun j => v23 (ix2 r j)) (fun j k => v19 (ix2 j k)) (fun j k => v25 (ix2 j k)) k := by
  pointwise [k0_pay8]
  rw [sig, sig]; rfl

/-- The stream after the branches, first group. -/
theorem pay6 (x : Vec Ideal S256x1024 .f32) (mg : FVec Ideal S256x1024 .bf16) (wo : Vec Ideal S1024x1024 .bf16)
    (r : Fin 256) (d : Fin 1024) :
    k0_pay6 (F := Ideal) (k0_pay3 x) mg (k0_pay5 wo) (ix2 r d)
      = stream (fun d => x (ix2 r d)) (fun k => mg (ix2 r k)) (fun k d => wo (ix2 k d)) d := by
  pointwise [k0_pay6, k0_pay3, k0_pay5]
  rfl

/-- The stream after the branches, second group. -/
theorem pay9 (x : Vec Ideal S256x1024 .f32) (mg : FVec Ideal S256x1024 .bf16) (wo : Vec Ideal S1024x1024 .bf16)
    (r : Fin 256) (d : Fin 1024) :
    k0_pay9 (F := Ideal) (k0_pay7 x) mg wo (ix2 r d)
      = stream (fun d => x (ix2 r d)) (fun k => mg (ix2 r k)) (fun k d => wo (ix2 k d)) d := by
  pointwise [k0_pay9, k0_pay7]
  rfl

/-- The normed stream the feed-forward reads, first group. -/
theorem pay10 (x : FVec Ideal S256x1024 .f32) (g : Vec Ideal S1x1024 .f32) (r : Fin 256) (d : Fin 1024) :
    k0_pay10 (F := Ideal) x g (ix2 r d) = rms (fun d => x (ix2 r d)) (fun d => g (ix2 0 d)) d := by
  pointwise [k0_pay10]
  rfl

/-- The normed stream the feed-forward reads, second group. -/
theorem pay11 (a : FVec Ideal S256x1024 .f32) (b : FVec Ideal S256x1024 .bf16) (w : Vec Ideal S1024x1024 .bf16)
    (g : Vec Ideal S1x1024 .f32) (r : Fin 256) (d : Fin 1024) :
    k0_pay11 (F := Ideal) a b w g (ix2 r d) = rms (fun d => k0_pay9 a b w (ix2 r d)) (fun d => g (ix2 0 d)) d := by
  pointwise [k0_pay11]
  rfl

/-- The first stretch of the feed-forward, first group. -/
theorem pay15 (x : FVec Ideal S256x1024 .f32) (g : Vec Ideal S1x1024 .f32) (wg wu wd : Vec Ideal S1024x1024 .bf16)
    (r : Fin 256) (d : Fin 1024) :
    k0_pay15 (F := Ideal) (k0_pay10 x g) (k0_pay12 x g wg) (k0_pay13 x g wg) (k0_pay14 (F := Ideal)) wu wd (ix2 r d)
      = mm (swiglu (fun k => k0_pay10 x g (ix2 r k)) (fun k n => wg (ix2 k n)) (fun k n => wu (ix2 k n)))
          (fun n d => wd (ix2 n d)) d := by
  pointwise [k0_pay15, k0_pay12, k0_pay13, k0_pay14]
  simp only [sig]; rfl

/-- The first stretch of the feed-forward, second group. -/
theorem pay16 (h : FVec Ideal S256x1024 .bf16) (wg wu wd : Vec Ideal S1024x1024 .bf16)
    (r : Fin 256) (d : Fin 1024) :
    k0_pay16 (F := Ideal) h wg wu wd (ix2 r d)
      = mm (swiglu (fun k => h (ix2 r k)) (fun k n => wg (ix2 k n)) (fun k n => wu (ix2 k n)))
          (fun n d => wd (ix2 n d)) d := by
  pointwise [k0_pay16]
  simp only [sig]; rfl

/-- The second stretch of the feed-forward, first group. -/
theorem pay19 (h : FVec Ideal S256x1024 .bf16) (acc : FVec Ideal S256x1024 .f32) (wg wu wd : Vec Ideal S1024x1024 .bf16)
    (r : Fin 256) (d : Fin 1024) :
    k0_pay19 (F := Ideal) h acc (k0_pay17 h wg) (k0_pay18 h wg) wu wd (ix2 r d)
      = acc (ix2 r d) + mm (swiglu (fun k => h (ix2 r k)) (fun k n => wg (ix2 k n)) (fun k n => wu (ix2 k n)))
          (fun n d => wd (ix2 n d)) d := by
  pointwise [k0_pay19, k0_pay17, k0_pay18]
  simp only [sig]; rfl

/-- The second stretch of the feed-forward, second group. -/
theorem pay20 (h : FVec Ideal S256x1024 .bf16) (acc : FVec Ideal S256x1024 .f32) (wg wu wd : Vec Ideal S1024x1024 .bf16)
    (r : Fin 256) (d : Fin 1024) :
    k0_pay20 (F := Ideal) h acc wg wu wd (ix2 r d)
      = acc (ix2 r d) + mm (swiglu (fun k => h (ix2 r k)) (fun k n => wg (ix2 k n)) (fun k n => wu (ix2 k n)))
          (fun n d => wd (ix2 n d)) d := by
  pointwise [k0_pay20]
  simp only [sig]; rfl

/-- The last stretch of the feed-forward and the residual, first group. -/
theorem pay23 (x : FVec Ideal S256x1024 .f32) (h : FVec Ideal S256x1024 .bf16) (acc : FVec Ideal S256x1024 .f32)
    (wg wu : Vec Ideal S1024x768 .bf16) (wd : Vec Ideal S768x1024 .bf16) (r : Fin 256) (d : Fin 1024) :
    k0_pay23 (F := Ideal) x h acc (k0_pay21 h wg) (k0_pay22 h wg) wu wd (ix2 r d)
      = x (ix2 r d) + (acc (ix2 r d)
          + mm (swiglu (fun k => h (ix2 r k)) (fun k n => wg (ix2 k n)) (fun k n => wu (ix2 k n)))
              (fun n d => wd (ix2 n d)) d) := by
  pointwise [k0_pay23, k0_pay21, k0_pay22]
  simp only [sig]; rfl

/-- The last stretch of the feed-forward and the residual, second group. -/
theorem pay24 (x : FVec Ideal S256x1024 .f32) (h : FVec Ideal S256x1024 .bf16) (acc : FVec Ideal S256x1024 .f32)
    (wg wu : Vec Ideal S1024x768 .bf16) (wd : Vec Ideal S768x1024 .bf16) (r : Fin 256) (d : Fin 1024) :
    k0_pay24 (F := Ideal) x h acc wg wu wd (ix2 r d)
      = x (ix2 r d) + (acc (ix2 r d)
          + mm (swiglu (fun k => h (ix2 r k)) (fun k n => wg (ix2 k n)) (fun k n => wu (ix2 k n)))
              (fun n d => wd (ix2 n d)) d) := by
  pointwise [k0_pay24]
  simp only [sig]; rfl

/-- The normed stream the embedding's gate reads, second group. -/
theorem pay26 (x : FVec Ideal S256x1024 .f32) (g : Vec Ideal S1x1024 .f32) (r : Fin 256) (d : Fin 1024) :
    k0_pay26 (F := Ideal) x g (ix2 r d) = rms (fun d => x (ix2 r d)) (fun d => g (ix2 0 d)) d := by
  pointwise [k0_pay26]
  rfl

/-- The second group's result. -/
theorem pay2 (x : FVec Ideal S256x1024 .f32) (h : FVec Ideal S256x1024 .bf16) (p : Vec Ideal S256x256 .f32)
    (wpp : Vec Ideal S256x1024 .bf16) (wpg : Vec Ideal S1024x1024 .bf16) (r : Fin 256) (d : Fin 1024) :
    k0_pay2 (F := Ideal) x h p wpp wpg (ix2 r d)
      = afterPle (fun d => x (ix2 r d)) (fun k => h (ix2 r k)) (fun k => p (ix2 r k)) (fun k d => wpg (ix2 k d))
          (fun k d => wpp (ix2 k d)) d := by
  pointwise [k0_pay2]
  simp only [sig]; rfl

/-- The first group's result; the sum of squares was taken where the stream was computed. -/
theorem pay1 (x x36 : FVec Ideal S256x1024 .f32) (h : FVec Ideal S256x1024 .bf16) (acc : FVec Ideal S256x1024 .f32)
    (a b : FVec Ideal S256x768 .f32) (wu : Vec Ideal S1024x768 .bf16) (wd : Vec Ideal S768x1024 .bf16)
    (hx : x = k0_pay23 x36 h acc a b wu wd) (g : Vec Ideal S1x1024 .f32)
    (p : Vec Ideal S256x256 .f32) (wpp : Vec Ideal S256x1024 .bf16) (wpg : Vec Ideal S1024x1024 .bf16) (r : Fin 256)
    (d : Fin 1024) :
    k0_pay1 (F := Ideal) x (k0_pay27 p wpp) (k0_pay28 x (k0_pay25 x36 h acc a b wu wd) g wpg) (k0_pay29 (F := Ideal)) (ix2 r d)
      = afterPle (fun d => x (ix2 r d)) (rms (fun d => x (ix2 r d)) (fun d => g (ix2 0 d))) (fun k => p (ix2 r k))
          (fun k d => wpg (ix2 k d)) (fun k d => wpp (ix2 k d)) d := by
  subst hx
  pointwise [k0_pay1, k0_pay27, k0_pay28, k0_pay25, k0_pay29]
  simp only [sig]; rfl

end Cert.TailIdeal.Block

end
-- ==== Proof.Tail.Block.lean ====
/- One block of the kernel's result: entry `(R, d)` of the block is `tailRow` of row `R` of the block's inputs. -/
module

public import proofs.«01_k».proof.Proof.Tail.Kernel

@[expose] public section

set_option maxRecDepth 16384

noncomputable section

namespace Cert.TailIdeal.Block

open Cert.TailIdeal Cert.TailIdeal.Gen Cert.TailSpec Idealize.ShloMosaic Idealize.ShloMosaic.Pointwise

section Rows

variable (x0 : Vec Ideal S512x1024 .f32) (x1 x2 : Vec Ideal S512x512 .bf16) (x3 x4 : Vec Ideal S512x1024 .bf16)
  (x5 : Vec Ideal S512x256 .f32) (x6 x7 : Vec Ideal S512x1024 .bf16) (x8 : Vec Ideal S1024x1024 .bf16)
  (x9 : Vec Ideal S1x1024 .f32) (x10 x11 : Vec Ideal S1024x2816 .bf16) (x12 : Vec Ideal S2816x1024 .bf16)
  (x13 : Vec Ideal S1x1024 .f32) (x14 : Vec Ideal S1024x1024 .bf16) (x15 : Vec Ideal S256x1024 .bf16)

/-- Row `R` of the block's stream after the branches. -/
def s1 (R : Fin 512) : Fin 1024 → EReal :=
  stream (fun d => x0 (ix2 R d)) (merged (fun k => x3 (ix2 R k)) (fun k => x4 (ix2 R k)) (fun j => x1 (ix2 R j))
    (fun j => x2 (ix2 R j)) (fun j k => x6 (ix2 j k)) (fun j k => x7 (ix2 j k))) (fun k d => x8 (ix2 k d))

/-- Row `R` of the block's stream after the feed-forward. -/
def s2 (R : Fin 512) : Fin 1024 → EReal :=
  afterFfn (s1 x0 x1 x2 x3 x4 x6 x7 x8 R) (rms (s1 x0 x1 x2 x3 x4 x6 x7 x8 R) (fun d => x9 (ix2 0 d)))
    (fun k n => x10 (ix2 k n)) (fun k n => x11 (ix2 k n)) (fun n d => x12 (ix2 n d))

/-- Row `R` of the block's result. -/
def row (R : Fin 512) : Fin 1024 → EReal :=
  tailRow (fun d => x0 (ix2 R d)) (fun j => x1 (ix2 R j)) (fun j => x2 (ix2 R j)) (fun k => x3 (ix2 R k))
    (fun k => x4 (ix2 R k)) (fun k => x5 (ix2 R k)) (fun j k => x6 (ix2 j k)) (fun j k => x7 (ix2 j k))
    (fun k d => x8 (ix2 k d)) (fun d => x9 (ix2 0 d)) (fun k n => x10 (ix2 k n)) (fun k n => x11 (ix2 k n))
    (fun n d => x12 (ix2 n d)) (fun d => x13 (ix2 0 d)) (fun k d => x14 (ix2 k d)) (fun k d => x15 (ix2 k d))

/-- A feed-forward taken in three stretches of its hidden units is the whole one. -/
theorem ffn_split (h : Fin 1024 → EReal) (wg wu : Fin 1024 → Fin 2816 → EReal) (wd : Fin 2816 → Fin 1024 → EReal)
    (d : Fin 1024) :
    mm (swiglu h wg wu) wd d
      = (mm (swiglu h (fun k (n : Fin 1024) => wg k ⟨n.val, by omega⟩) (fun k n => wu k ⟨n.val, by omega⟩))
            (fun n d => wd ⟨n.val, by omega⟩ d) d
          + mm (swiglu h (fun k (n : Fin 1024) => wg k ⟨1024 + n.val, by omega⟩) (fun k n => wu k ⟨1024 + n.val, by omega⟩))
            (fun n d => wd ⟨1024 + n.val, by omega⟩ d) d)
        + mm (swiglu h (fun k (n : Fin 768) => wg k ⟨2048 + n.val, by omega⟩) (fun k n => wu k ⟨2048 + n.val, by omega⟩))
            (fun n d => wd ⟨2048 + n.val, by omega⟩ d) d := by
  unfold mm
  rw [Common.sum_2816]
  rfl

/-- The first group's stream after the branches. -/
theorem pay30 (r : Fin 256) (d : Fin 1024) :
    k0_pay30 x0 x1 x2 x3 x4 x5 x6 x7 x8 x9 x10 x11 x12 x13 x14 x15 (ix2 r d) = s1 x0 x1 x2 x3 x4 x6 x7 x8 ⟨r.val, by omega⟩ d := by
  unfold k0_pay30
  rw [pay6]
  simp only [pay4]
  pointwise
  rfl

/-- The second group's stream after the branches. -/
theorem pay39a (r : Fin 256) (d : Fin 1024) :
    k0_pay9 (k0_pay31 x0 x1 x2 x3 x4 x5 x6 x7 x8 x9 x10 x11 x12 x13 x14 x15) (k0_pay32 x0 x1 x2 x3 x4 x5 x6 x7 x8 x9 x10 x11 x12 x13 x14 x15) (View.ld x8 r0_3) (ix2 r d)
      = s1 x0 x1 x2 x3 x4 x6 x7 x8 ⟨256 + r.val, by omega⟩ d := by
  unfold k0_pay31 k0_pay32
  rw [pay9]
  simp only [pay8]
  pointwise
  rfl

/-- The first group's stream after the feed-forward. -/
theorem pay38 (r : Fin 256) (d : Fin 1024) :
    k0_pay38 x0 x1 x2 x3 x4 x5 x6 x7 x8 x9 x10 x11 x12 x13 x14 x15 (ix2 r d) = s2 x0 x1 x2 x3 x4 x6 x7 x8 x9 x10 x11 x12 ⟨r.val, by omega⟩ d := by
  unfold k0_pay38 k0_pay35 k0_pay36 k0_pay37 k0_pay33
  rw [pay23, pay19, pay15]
  simp only [pay10, pay30]
  pointwise
  unfold s2 afterFfn
  rw [ffn_split]

/-- The second group's stream after the feed-forward. -/
theorem pay39 (r : Fin 256) (d : Fin 1024) :
    k0_pay39 x0 x1 x2 x3 x4 x5 x6 x7 x8 x9 x10 x11 x12 x13 x14 x15 (ix2 r d) = s2 x0 x1 x2 x3 x4 x6 x7 x8 x9 x10 x11 x12 ⟨256 + r.val, by omega⟩ d := by
  unfold k0_pay39 k0_pay34
  rw [pay24, pay20, pay16]
  simp only [pay11, pay39a]
  pointwise
  unfold s2 afterFfn
  rw [ffn_split]

/-- The block the kernel writes, entry by entry. -/
theorem out_apply (R : Fin 512) (d : Fin 1024) :
    out0_16 x0 x1 x2 x3 x4 x5 x6 x7 x8 x9 x10 x11 x12 x13 x14 x15 (ix2 R d) = row x0 x1 x2 x3 x4 x5 x6 x7 x8 x9 x10 x11 x12 x13 x14 x15 R d := by
  unfold out0_16
  by_cases hR : R.val < 256
  · have e : (ix2 R d : S512x1024.Idx) = r0_0.emb (ix2 (⟨R.val, hR⟩ : Fin 256) d) := by
      funext a; apply Fin.ext; show _ = r0_0.off a + r0_0.stride a * _
      fin_cases a <;> simp [Rect.off_unit, Rect.stride_unit]
    have hn : (ix2 R d : S512x1024.Idx) ∉ r0_4.set := by
      rw [Rect.mem_set_unit]
      intro h
      have h0 : 256 ≤ R.val := (h 0).1
      omega
    refine (View.canon_cons_of_not_mem _ _ (by exact hn)).trans ?_
    rw [e]
    refine (View.canon_cons_emb r0_0 _ [] _).trans ((pay1 (k0_pay38 x0 x1 x2 x3 x4 x5 x6 x7 x8 x9 x10 x11 x12 x13 x14 x15) _ _ _ _ _ _ _ rfl _ _ _ _ _ _).trans ?_)
    simp only [pay38]
    pointwise
    rfl
  · have hlt : R.val - 256 < 256 := by omega
    have e : (ix2 R d : S512x1024.Idx) = r0_4.emb (ix2 (⟨R.val - 256, hlt⟩ : Fin 256) d) := by
      funext a; apply Fin.ext; show _ = r0_4.off a + r0_4.stride a * _
      fin_cases a
      · simp [Rect.off_unit, Rect.stride_unit]; omega
      · simp [Rect.off_unit, Rect.stride_unit]
    have eR : R = ⟨256 + (R.val - 256), by omega⟩ := Fin.ext (by simp; omega)
    rw [e]
    refine (View.canon_cons_emb r0_4 _ _ _).trans ((pay2 _ _ _ _ _ _ _).trans ?_)
    simp only [pay26, pay39]
    pointwise
    conv_rhs => rw [eR]
    rfl

end Rows

end Cert.TailIdeal.Block

end
-- ==== Proof.Tail.Windows.lean ====
/- The kernel's windows: at grid point `t` the six token inputs are rows `512 t … 512 t + 511` of their arrays, the
   weights are whole, and the 64 blocks of the result tile its array. -/
module

public import proofs.«01_k».proof.Proof.Gen.TailIdeal.Value
public import proofs.«01_k».proof.Proof.Tail.Block

@[expose] public section

set_option maxRecDepth 16384

noncomputable section

namespace Cert.TailIdeal.Windows

open Cert.TailIdeal Cert.TailIdeal.Gen Cert.TailSpec Idealize.ShloMosaic Idealize.ShloMosaic.Pointwise Idealize.ShloMosaic.TcCoe Idealize.SL.Sem
open Idealize.ShloMosaic.Pipeline (Dat)

variable (m : (ℓ : Loc nD τ sig) → Buf (Elt Ideal) ℓ)

/-- Row `R` of block `t` in the whole array. -/
def at512 (t : Fin cfg0.N) (R : Fin 512) : Fin 32768 := ⟨512 * t.val + R.val, by have := t.isLt; have hN : cfg0.N = 64 := N_0; omega⟩

/-- The token windows' blocks follow the grid; the weights' do not move. -/
theorem idx_rows : ∀ t : Fin cfg0.N,
    win0_0.index t 0 = t.val ∧ win0_0.index t 1 = 0
    ∧ win0_1.index t 0 = t.val ∧ win0_1.index t 1 = 0
    ∧ win0_2.index t 0 = t.val ∧ win0_2.index t 1 = 0
    ∧ win0_3.index t 0 = t.val ∧ win0_3.index t 1 = 0
    ∧ win0_4.index t 0 = t.val ∧ win0_4.index t 1 = 0
    ∧ win0_5.index t 0 = t.val ∧ win0_5.index t 1 = 0
    ∧ win0_16.index t 0 = t.val ∧ win0_16.index t 1 = 0 :=
  (by decide +kernel : ∀ t : Fin grid0.N, _)

/-- The weights' windows stay at the origin. -/
theorem idx_weights : ∀ t : Fin cfg0.N,
    win0_6.index t 0 = 0 ∧ win0_6.index t 1 = 0
    ∧ win0_7.index t 0 = 0 ∧ win0_7.index t 1 = 0
    ∧ win0_8.index t 0 = 0 ∧ win0_8.index t 1 = 0
    ∧ win0_9.index t 0 = 0 ∧ win0_9.index t 1 = 0
    ∧ win0_10.index t 0 = 0 ∧ win0_10.index t 1 = 0
    ∧ win0_11.index t 0 = 0 ∧ win0_11.index t 1 = 0
    ∧ win0_12.index t 0 = 0 ∧ win0_12.index t 1 = 0
    ∧ win0_13.index t 0 = 0 ∧ win0_13.index t 1 = 0
    ∧ win0_14.index t 0 = 0 ∧ win0_14.index t 1 = 0
    ∧ win0_15.index t 0 = 0 ∧ win0_15.index t 1 = 0 :=
  (by decide +kernel : ∀ t : Fin grid0.N, _)

theorem iblk0 (c : Dev nD) (t : Fin cfg0.N) (R : Fin 512) (d : Fin 1024) :
    (iblk m c 0 t : Vec Ideal S512x1024 .f32) (ix2 R d) = V m c main_v0 (ix2 (at512 t R) d) := by
  obtain ⟨h0, h1⟩ : win0_0.index t 0 = t.val ∧ win0_0.index t 1 = 0 := by have := idx_rows t; tauto
  unfold iblk
  rw [View.read_apply]
  show V m c main_v0 _ = V m c main_v0 _
  congr 1
  funext a
  apply Fin.ext
  match a with
  | ⟨0, _⟩ => show win0_0.index t 0 * 512 + 1 * R.val = 512 * t.val + R.val; rw [h0]; omega
  | ⟨1, _⟩ => show win0_0.index t 1 * 1024 + 1 * d.val = d.val; rw [h1]; omega

theorem iblk1 (c : Dev nD) (t : Fin cfg0.N) (R : Fin 512) (d : Fin 512) :
    (iblk m c 1 t : Vec Ideal S512x512 .bf16) (ix2 R d) = V m c main_arg1 (ix2 (at512 t R) d) := by
  obtain ⟨h0, h1⟩ : win0_1.index t 0 = t.val ∧ win0_1.index t 1 = 0 := by have := idx_rows t; tauto
  unfold iblk
  rw [View.read_apply]
  show V m c main_arg1 _ = V m c main_arg1 _
  congr 1
  funext a
  apply Fin.ext
  match a with
  | ⟨0, _⟩ => show win0_1.index t 0 * 512 + 1 * R.val = 512 * t.val + R.val; rw [h0]; omega
  | ⟨1, _⟩ => show win0_1.index t 1 * 512 + 1 * d.val = d.val; rw [h1]; omega

theorem iblk2 (c : Dev nD) (t : Fin cfg0.N) (R : Fin 512) (d : Fin 512) :
    (iblk m c 2 t : Vec Ideal S512x512 .bf16) (ix2 R d) = V m c main_v1 (ix2 (at512 t R) d) := by
  obtain ⟨h0, h1⟩ : win0_2.index t 0 = t.val ∧ win0_2.index t 1 = 0 := by have := idx_rows t; tauto
  unfold iblk
  rw [View.read_apply]
  show V m c main_v1 _ = V m c main_v1 _
  congr 1
  funext a
  apply Fin.ext
  match a with
  | ⟨0, _⟩ => show win0_2.index t 0 * 512 + 1 * R.val = 512 * t.val + R.val; rw [h0]; omega
  | ⟨1, _⟩ => show win0_2.index t 1 * 512 + 1 * d.val = d.val; rw [h1]; omega

theorem iblk3 (c : Dev nD) (t : Fin cfg0.N) (R : Fin 512) (d : Fin 1024) :
    (iblk m c 3 t : Vec Ideal S512x1024 .bf16) (ix2 R d) = V m c main_arg3 (ix2 (at512 t R) d) := by
  obtain ⟨h0, h1⟩ : win0_3.index t 0 = t.val ∧ win0_3.index t 1 = 0 := by have := idx_rows t; tauto
  unfold iblk
  rw [View.read_apply]
  show V m c main_arg3 _ = V m c main_arg3 _
  congr 1
  funext a
  apply Fin.ext
  match a with
  | ⟨0, _⟩ => show win0_3.index t 0 * 512 + 1 * R.val = 512 * t.val + R.val; rw [h0]; omega
  | ⟨1, _⟩ => show win0_3.index t 1 * 1024 + 1 * d.val = d.val; rw [h1]; omega

theorem iblk4 (c : Dev nD) (t : Fin cfg0.N) (R : Fin 512) (d : Fin 1024) :
    (iblk m c 4 t : Vec Ideal S512x1024 .bf16) (ix2 R d) = V m c main_arg4 (ix2 (at512 t R) d) := by
  obtain ⟨h0, h1⟩ : win0_4.index t 0 = t.val ∧ win0_4.index t 1 = 0 := by have := idx_rows t; tauto
  unfold iblk
  rw [View.read_apply]
  show V m c main_arg4 _ = V m c main_arg4 _
  congr 1
  funext a
  apply Fin.ext
  match a with
  | ⟨0, _⟩ => show win0_4.index t 0 * 512 + 1 * R.val = 512 * t.val + R.val; rw [h0]; omega
  | ⟨1, _⟩ => show win0_4.index t 1 * 1024 + 1 * d.val = d.val; rw [h1]; omega

theorem iblk5 (c : Dev nD) (t : Fin cfg0.N) (R : Fin 512) (d : Fin 256) :
    (iblk m c 5 t : Vec Ideal S512x256 .f32) (ix2 R d) = V m c main_v3 (ix2 (at512 t R) d) := by
  obtain ⟨h0, h1⟩ : win0_5.index t 0 = t.val ∧ win0_5.index t 1 = 0 := by have := idx_rows t; tauto
  unfold iblk
  rw [View.read_apply]
  show V m c main_v3 _ = V m c main_v3 _
  congr 1
  funext a
  apply Fin.ext
  match a with
  | ⟨0, _⟩ => show win0_5.index t 0 * 512 + 1 * R.val = 512 * t.val + R.val; rw [h0]; omega
  | ⟨1, _⟩ => show win0_5.index t 1 * 256 + 1 * d.val = d.val; rw [h1]; omega

theorem iblk6 (c : Dev nD) (t : Fin cfg0.N) (k : Fin 512) (d : Fin 1024) :
    (iblk m c 6 t : Vec Ideal S512x1024 .bf16) (ix2 k d) = V m c main_v5 (ix2 k d) := by
  obtain ⟨h0, h1⟩ : win0_6.index t 0 = 0 ∧ win0_6.index t 1 = 0 := by have := idx_weights t; tauto
  unfold iblk
  rw [View.read_apply]
  show V m c main_v5 _ = V m c main_v5 _
  congr 1
  funext a
  apply Fin.ext
  match a with
  | ⟨0, _⟩ => show win0_6.index t 0 * 512 + 1 * k.val = k.val; rw [h0]; omega
  | ⟨1, _⟩ => show win0_6.index t 1 * 1024 + 1 * d.val = d.val; rw [h1]; omega

theorem iblk7 (c : Dev nD) (t : Fin cfg0.N) (k : Fin 512) (d : Fin 1024) :
    (iblk m c 7 t : Vec Ideal S512x1024 .bf16) (ix2 k d) = V m c main_v7 (ix2 k d) := by
  obtain ⟨h0, h1⟩ : win0_7.index t 0 = 0 ∧ win0_7.index t 1 = 0 := by have := idx_weights t; tauto
  unfold iblk
  rw [View.read_apply]
  show V m c main_v7 _ = V m c main_v7 _
  congr 1
  funext a
  apply Fin.ext
  match a with
  | ⟨0, _⟩ => show win0_7.index t 0 * 512 + 1 * k.val = k.val; rw [h0]; omega
  | ⟨1, _⟩ => show win0_7.index t 1 * 1024 + 1 * d.val = d.val; rw [h1]; omega

theorem iblk8 (c : Dev nD) (t : Fin cfg0.N) (k : Fin 1024) (d : Fin 1024) :
    (iblk m c 8 t : Vec Ideal S1024x1024 .bf16) (ix2 k d) = V m c main_v9 (ix2 k d) := by
  obtain ⟨h0, h1⟩ : win0_8.index t 0 = 0 ∧ win0_8.index t 1 = 0 := by have := idx_weights t; tauto
  unfold iblk
  rw [View.read_apply]
  show V m c main_v9 _ = V m c main_v9 _
  congr 1
  funext a
  apply Fin.ext
  match a with
  | ⟨0, _⟩ => show win0_8.index t 0 * 1024 + 1 * k.val = k.val; rw [h0]; omega
  | ⟨1, _⟩ => show win0_8.index t 1 * 1024 + 1 * d.val = d.val; rw [h1]; omega

theorem iblk9 (c : Dev nD) (t : Fin cfg0.N) (k : Fin 1) (d : Fin 1024) :
    (iblk m c 9 t : Vec Ideal S1x1024 .f32) (ix2 k d) = V m c main_v11 (ix2 k d) := by
  obtain ⟨h0, h1⟩ : win0_9.index t 0 = 0 ∧ win0_9.index t 1 = 0 := by have := idx_weights t; tauto
  unfold iblk
  rw [View.read_apply]
  show V m c main_v11 _ = V m c main_v11 _
  congr 1
  funext a
  apply Fin.ext
  match a with
  | ⟨0, _⟩ => show win0_9.index t 0 * 1 + 1 * k.val = k.val; rw [h0]; omega
  | ⟨1, _⟩ => show win0_9.index t 1 * 1024 + 1 * d.val = d.val; rw [h1]; omega

theorem iblk10 (c : Dev nD) (t : Fin cfg0.N) (k : Fin 1024) (d : Fin 2816) :
    (iblk m c 10 t : Vec Ideal S1024x2816 .bf16) (ix2 k d) = V m c main_v13 (ix2 k d) := by
  obtain ⟨h0, h1⟩ : win0_10.index t 0 = 0 ∧ win0_10.index t 1 = 0 := by have := idx_weights t; tauto
  unfold iblk
  rw [View.read_apply]
  show V m c main_v13 _ = V m c main_v13 _
  congr 1
  funext a
  apply Fin.ext
  match a with
  | ⟨0, _⟩ => show win0_10.index t 0 * 1024 + 1 * k.val = k.val; rw [h0]; omega
  | ⟨1, _⟩ => show win0_10.index t 1 * 2816 + 1 * d.val = d.val; rw [h1]; omega

theorem iblk11 (c : Dev nD) (t : Fin cfg0.N) (k : Fin 1024) (d : Fin 2816) :
    (iblk m c 11 t : Vec Ideal S1024x2816 .bf16) (ix2 k d) = V m c main_v15 (ix2 k d) := by
  obtain ⟨h0, h1⟩ : win0_11.index t 0 = 0 ∧ win0_11.index t 1 = 0 := by have := idx_weights t; tauto
  unfold iblk
  rw [View.read_apply]
  show V m c main_v15 _ = V m c main_v15 _
  congr 1
  funext a
  apply Fin.ext
  match a with
  | ⟨0, _⟩ => show win0_11.index t 0 * 1024 + 1 * k.val = k.val; rw [h0]; omega
  | ⟨1, _⟩ => show win0_11.index t 1 * 2816 + 1 * d.val = d.val; rw [h1]; omega

theorem iblk12 (c : Dev nD) (t : Fin cfg0.N) (k : Fin 2816) (d : Fin 1024) :
    (iblk m c 12 t : Vec Ideal S2816x1024 .bf16) (ix2 k d) = V m c main_v17 (ix2 k d) := by
  obtain ⟨h0, h1⟩ : win0_12.index t 0 = 0 ∧ win0_12.index t 1 = 0 := by have := idx_weights t; tauto
  unfold iblk
  rw [View.read_apply]
  show V m c main_v17 _ = V m c main_v17 _
  congr 1
  funext a
  apply Fin.ext
  match a with
  | ⟨0, _⟩ => show win0_12.index t 0 * 2816 + 1 * k.val = k.val; rw [h0]; omega
  | ⟨1, _⟩ => show win0_12.index t 1 * 1024 + 1 * d.val = d.val; rw [h1]; omega

theorem iblk13 (c : Dev nD) (t : Fin cfg0.N) (k : Fin 1) (d : Fin 1024) :
    (iblk m c 13 t : Vec Ideal S1x1024 .f32) (ix2 k d) = V m c main_v19 (ix2 k d) := by
  obtain ⟨h0, h1⟩ : win0_13.index t 0 = 0 ∧ win0_13.index t 1 = 0 := by have := idx_weights t; tauto
  unfold iblk
  rw [View.read_apply]
  show V m c main_v19 _ = V m c main_v19 _
  congr 1
  funext a
  apply Fin.ext
  match a with
  | ⟨0, _⟩ => show win0_13.index t 0 * 1 + 1 * k.val = k.val; rw [h0]; omega
  | ⟨1, _⟩ => show win0_13.index t 1 * 1024 + 1 * d.val = d.val; rw [h1]; omega

theorem iblk14 (c : Dev nD) (t : Fin cfg0.N) (k : Fin 1024) (d : Fin 1024) :
    (iblk m c 14 t : Vec Ideal S1024x1024 .bf16) (ix2 k d) = V m c main_v21 (ix2 k d) := by
  obtain ⟨h0, h1⟩ : win0_14.index t 0 = 0 ∧ win0_14.index t 1 = 0 := by have := idx_weights t; tauto
  unfold iblk
  rw [View.read_apply]
  show V m c main_v21 _ = V m c main_v21 _
  congr 1
  funext a
  apply Fin.ext
  match a with
  | ⟨0, _⟩ => show win0_14.index t 0 * 1024 + 1 * k.val = k.val; rw [h0]; omega
  | ⟨1, _⟩ => show win0_14.index t 1 * 1024 + 1 * d.val = d.val; rw [h1]; omega

theorem iblk15 (c : Dev nD) (t : Fin cfg0.N) (k : Fin 256) (d : Fin 1024) :
    (iblk m c 15 t : Vec Ideal S256x1024 .bf16) (ix2 k d) = V m c main_v23 (ix2 k d) := by
  obtain ⟨h0, h1⟩ : win0_15.index t 0 = 0 ∧ win0_15.index t 1 = 0 := by have := idx_weights t; tauto
  unfold iblk
  rw [View.read_apply]
  show V m c main_v23 _ = V m c main_v23 _
  congr 1
  funext a
  apply Fin.ext
  match a with
  | ⟨0, _⟩ => show win0_15.index t 0 * 256 + 1 * k.val = k.val; rw [h0]; omega
  | ⟨1, _⟩ => show win0_15.index t 1 * 1024 + 1 * d.val = d.val; rw [h1]; omega

/-- One token's row of the result, from the arrays the launch stages. -/
def rowAt (c : Dev nD) (R : Fin 32768) : Fin 1024 → EReal :=
  tailRow (fun d => V m c main_v0 (ix2 R d))
    (fun d => V m c main_arg1 (ix2 R d))
    (fun d => V m c main_v1 (ix2 R d))
    (fun d => V m c main_arg3 (ix2 R d))
    (fun d => V m c main_arg4 (ix2 R d))
    (fun d => V m c main_v3 (ix2 R d))
    (fun k d => V m c main_v5 (ix2 k d))
    (fun k d => V m c main_v7 (ix2 k d))
    (fun k d => V m c main_v9 (ix2 k d))
    (fun d => V m c main_v11 (ix2 0 d))
    (fun k d => V m c main_v13 (ix2 k d))
    (fun k d => V m c main_v15 (ix2 k d))
    (fun k d => V m c main_v17 (ix2 k d))
    (fun d => V m c main_v19 (ix2 0 d))
    (fun k d => V m c main_v21 (ix2 k d))
    (fun k d => V m c main_v23 (ix2 k d))

/-- The whole array of results. -/
def result (c : Dev nD) : Buf (Elt Ideal) ((c : Thread nD τ).loc main_v24) := fun i => rowAt m c (i 0) (i 1)

/-- A row of block `t`'s result is that token's row. -/
theorem block_row (c : Dev nD) (t : Fin cfg0.N) (R : Fin 512) (d : Fin 1024) :
    Block.row (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) R d
      = rowAt m c (at512 t R) d := by
  unfold Block.row rowAt
  simp only [iblk0, iblk1, iblk2, iblk3, iblk4, iblk5, iblk6, iblk7, iblk8, iblk9, iblk10, iblk11, iblk12, iblk13, iblk14, iblk15]

/-- What point `t` writes back is block `t` of `result`. -/
theorem flushed_eq (c : Dev nD) (t : Fin cfg0.N) :
    (dats m 0 c).flushed 16 t = ((cfg0.win 16).blk t).view.read (Elt Ideal) (result m c) := by
  obtain ⟨h0, h1⟩ : win0_16.index t 0 = t.val ∧ win0_16.index t 1 = 0 := by have := idx_rows t; tauto
  rw [Value.flushed16]
  funext j
  rw [View.read_apply]
  have e0 : ((cfg0.win 16).blk t).view.emb j 0 = at512 t (j 0) := by
    apply Fin.ext
    show win0_16.index t 0 * 512 + 1 * (j 0).val = 512 * t.val + (j 0).val; rw [h0]; omega
  have e1 : ((cfg0.win 16).blk t).view.emb j 1 = (j 1 : Fin 1024) := by
    apply Fin.ext
    show win0_16.index t 1 * 1024 + 1 * (j 1).val = (j 1).val; rw [h1]; omega
  show (out0_16 (F := Ideal) _ _ _ _ _ _ _ _ _ _ _ _ _ _ _ _ _ : EReal) = rowAt m c (((cfg0.win 16).blk t).view.emb j 0) (((cfg0.win 16).blk t).view.emb j 1)
  rw [e0, e1]
  refine (congrArg _ (eq_ix2 _)).trans ((Block.out_apply _ _ _ _ _ _ _ _ _ _ _ _ _ _ _ _ (j 0) (j 1)).trans
    (block_row m c t (j 0) (j 1)))

/-- The result's blocks are 512 rows by 1024 columns. -/
theorem xsize16 : ∀ t : Fin cfg0.N, win0_16.index t 0 * win0_16.size 0 = t.val * 512 ∧ win0_16.xsize (grid0.coords t) 0 = 512
    ∧ win0_16.index t 1 * win0_16.size 1 = 0 ∧ win0_16.xsize (grid0.coords t) 1 = 1024 :=
  (by decide +kernel : ∀ t : Fin grid0.N, _)

/-- An index of the result array lies in block `t` when its row is one of the block's. -/
theorem mem_blk (t : Fin cfg0.N) (i : S32768x1024.Idx) :
    i ∈ ((cfg0.win 16).blk t).view.set ↔ t.val * 512 ≤ (i 0 : Nat) ∧ (i 0 : Nat) < t.val * 512 + 512 := by
  have e := xsize16 t
  show i ∈ ((View.whole main_v24).slice (win0_16.rect t)).set ↔ _
  rw [View.set_slice_whole, Rect.mem_set_unit]
  have h1 : (i 1 : Nat) < 1024 := (i 1).isLt
  refine ⟨fun h => ?_, fun h a => ?_⟩
  · have : win0_16.index t 0 * win0_16.size 0 ≤ (i 0 : Nat) ∧ (i 0 : Nat) < win0_16.index t 0 * win0_16.size 0 + win0_16.xsize (grid0.coords t) 0 := h 0
    rw [e.1, e.2.1] at this; exact this
  · match a with
    | ⟨0, _⟩ => show win0_16.index t 0 * win0_16.size 0 ≤ (i 0 : Nat) ∧ (i 0 : Nat) < win0_16.index t 0 * win0_16.size 0 + win0_16.xsize (grid0.coords t) 0
                rw [e.1, e.2.1]; exact h
    | ⟨1, _⟩ => show win0_16.index t 1 * win0_16.size 1 ≤ (i 1 : Nat) ∧ (i 1 : Nat) < win0_16.index t 1 * win0_16.size 1 + win0_16.xsize (grid0.coords t) 1
                rw [e.2.2.1, e.2.2.2]; omega

/-- The blocks tile the array. -/
theorem cover (i : S32768x1024.Idx) :
    ∃ t : Fin cfg0.N, (cfg0.win 16).flush t = true ∧ i ∈ ((cfg0.win 16).blk t).view.set := by
  have h0 : (i 0 : Nat) < 32768 := (i 0).isLt
  have hN : cfg0.N = 64 := N_0
  refine ⟨⟨(i 0 : Nat) / 512, by omega⟩, flush0_16 _, ?_⟩
  rw [mem_blk]
  dsimp only
  omega

/-- So the result array ends holding `result`. -/
theorem final (c : Dev nD) : (dats m 0 c).arrAt 16 cfg0.N = result m c :=
  (dats m 0 c).arrAt_eq_of_cover 16 (result m c) (fun t _ => flushed_eq m c t) cover

end Cert.TailIdeal.Windows

end
-- ==== Proof.Tail.RefRows.lean ====
/- The reference at an entry: row `R`, column `d` of its result is `tailRow` of row `R` of its arguments, read through
   the reshapes its first operations make. -/
module

public import proofs.«01_k».proof.Proof.Gen.TailRefIdeal.Read
public import proofs.«01_k».proof.Proof.Common
public import proofs.«01_k».proof.Proof.Tail.Spec
public import Idealize.ShloMosaic.Lib.Pointwise

@[expose] public section

set_option maxRecDepth 16384

noncomputable section

namespace Cert.TailRefIdeal.Rows

open Cert.TailRefIdeal Cert.TailRefIdeal.Read Cert.TailSpec Idealize.ShloMosaic Idealize.ShloMosaic.Pointwise

variable (x0 : (⟨S8x4096x1024, .f32⟩ : BufTy).Contents (Elt Ideal)) (x1 : (⟨S32768x512, .bf16⟩ : BufTy).Contents (Elt Ideal))
  (x2 : (⟨S8x4096x512, .bf16⟩ : BufTy).Contents (Elt Ideal)) (x3 x4 : (⟨S32768x1024, .bf16⟩ : BufTy).Contents (Elt Ideal))
  (x5 : (⟨S1x8x4096x256, .f32⟩ : BufTy).Contents (Elt Ideal)) (x6 x7 : (⟨S1x512x1024, .f32⟩ : BufTy).Contents (Elt Ideal))
  (x8 : (⟨S1x1024x1024, .f32⟩ : BufTy).Contents (Elt Ideal)) (x9 : (⟨S1x1024, .f32⟩ : BufTy).Contents (Elt Ideal))
  (x10 x11 : (⟨S1x1024x2816, .f32⟩ : BufTy).Contents (Elt Ideal)) (x12 : (⟨S1x2816x1024, .f32⟩ : BufTy).Contents (Elt Ideal))
  (x13 : (⟨S1x1024, .f32⟩ : BufTy).Contents (Elt Ideal)) (x14 : (⟨S1x1024x1024, .f32⟩ : BufTy).Contents (Elt Ideal))
  (x15 : (⟨S1x256x1024, .f32⟩ : BufTy).Contents (Elt Ideal))

/-- The gated branches. -/
theorem v24 (R : Fin 32768) (k : Fin 1024) :
    val_main_v24 (F := Ideal) x1 x2 x3 x4 x6 x7 (ix2 R k)
      = merged (fun k => x3 (ix2 R k)) (fun k => x4 (ix2 R k)) (fun j => x1 (ix2 R j))
          (fun j => val_main_v2 (F := Ideal) x2 (ix2 R j)) (fun j k => val_main_v18 (F := Ideal) x6 (ix2 j k))
          (fun j k => val_main_v21 (F := Ideal) x7 (ix2 j k)) k := by
  pointwise [val_main_v24, val_main_v23, val_main_v20, val_main_v22, val_main_v19, val_main_v17, val_main_v16, val_main_cst_2,
    val_main_v15, val_main_v14, val_main_cst_1, val_main_v13, val_main_v12, val_main_v11, val_main_v10, val_main_v9,
    val_main_cst_0, val_main_v8, val_main_v7, val_main_cst, val_main_v6, val_main_v5, val_main_v4, val_main_v3, val_main_v1]
  rfl

/-- The stream after the branches. -/
theorem v27 (R : Fin 32768) (d : Fin 1024) :
    val_main_v27 (F := Ideal) x0 x1 x2 x3 x4 x6 x7 x8 (ix2 R d)
      = stream (fun d => val_main_v0 (F := Ideal) x0 (ix2 R d))
          (fun k => val_main_v24 (F := Ideal) x1 x2 x3 x4 x6 x7 (ix2 R k)) (fun k d => val_main_v25 (F := Ideal) x8 (ix2 k d)) d := by
  pointwise [val_main_v27, val_main_v26]
  rfl

/-- The normed stream the feed-forward reads. -/
theorem v41 (R : Fin 32768) (d : Fin 1024) :
    val_main_v41 (F := Ideal) x0 x1 x2 x3 x4 x6 x7 x8 x9 (ix2 R d)
      = rms (fun d => val_main_v27 (F := Ideal) x0 x1 x2 x3 x4 x6 x7 x8 (ix2 R d)) (fun d => x9 (ix2 0 d)) d := by
  pointwise [val_main_v41, val_main_v40, val_main_v39, val_main_v38, val_main_v37, val_main_v36, val_main_v35, val_main_v34,
    val_main_cst_5, val_main_v33, val_main_v32, val_main_cst_4, val_main_v31, val_main_v30, val_main_cst_3, val_main_v29,
    val_main_v28]
  rfl

/-- The stream after the feed-forward. -/
theorem v50 (R : Fin 32768) (d : Fin 1024) :
    val_main_v50 (F := Ideal) x0 x1 x2 x3 x4 x6 x7 x8 x9 x10 x11 x12 (ix2 R d)
      = afterFfn (fun d => val_main_v27 (F := Ideal) x0 x1 x2 x3 x4 x6 x7 x8 (ix2 R d)) (fun d => val_main_v41 (F := Ideal) x0 x1 x2 x3 x4 x6 x7 x8 x9 (ix2 R d))
          (fun k n => val_main_v42 (F := Ideal) x10 (ix2 k n)) (fun k n => val_main_v45 (F := Ideal) x11 (ix2 k n))
          (fun n d => val_main_v48 (F := Ideal) x12 (ix2 n d)) d := by
  pointwise [val_main_v50, val_main_v49, val_main_v47, val_main_v46, val_main_v44, val_main_v43, val_main_call0_v5,
    val_main_call0_v4, val_main_call0_cst_0, val_main_call0_v3, val_main_call0_v2, val_main_call0_cst, val_main_call0_v1,
    val_main_call0_v0]
  rfl

/-- The normed stream the embedding's gate reads. -/
theorem v64 (R : Fin 32768) (d : Fin 1024) :
    val_main_v64 (F := Ideal) x0 x1 x2 x3 x4 x6 x7 x8 x9 x10 x11 x12 x13 (ix2 R d)
      = rms (fun d => val_main_v50 (F := Ideal) x0 x1 x2 x3 x4 x6 x7 x8 x9 x10 x11 x12 (ix2 R d)) (fun d => x13 (ix2 0 d)) d := by
  pointwise [val_main_v64, val_main_v63, val_main_v62, val_main_v61, val_main_v60, val_main_v59, val_main_v58, val_main_v57,
    val_main_cst_8, val_main_v56, val_main_v55, val_main_cst_7, val_main_v54, val_main_v53, val_main_cst_6, val_main_v52,
    val_main_v51]
  rfl

/-- The result. -/
theorem v78 (R : Fin 32768) (d : Fin 1024) :
    val_main_v78 (F := Ideal) x0 x1 x2 x3 x4 x5 x6 x7 x8 x9 x10 x11 x12 x13 x14 x15 (ix2 R d)
      = afterPle (fun d => val_main_v50 (F := Ideal) x0 x1 x2 x3 x4 x6 x7 x8 x9 x10 x11 x12 (ix2 R d)) (fun d => val_main_v64 (F := Ideal) x0 x1 x2 x3 x4 x6 x7 x8 x9 x10 x11 x12 x13 (ix2 R d))
          (fun k => val_main_v74 (F := Ideal) x5 (ix2 R k)) (fun k d => val_main_v65 (F := Ideal) x14 (ix2 k d))
          (fun k d => val_main_v75 (F := Ideal) x15 (ix2 k d)) d := by
  pointwise [val_main_v78, val_main_v77, val_main_v76, val_main_v72, val_main_v71, val_main_cst_10, val_main_v70, val_main_v69,
    val_main_cst_9, val_main_v68, val_main_v67, val_main_v66]
  rfl

/-- The reference's result is `tailRow`. -/
theorem result_apply (R : Fin 32768) (d : Fin 1024) :
    val_main_v78 (F := Ideal) x0 x1 x2 x3 x4 x5 x6 x7 x8 x9 x10 x11 x12 x13 x14 x15 (ix2 R d)
      = tailRow (fun d => val_main_v0 (F := Ideal) x0 (ix2 R d)) (fun j => x1 (ix2 R j)) (fun j => val_main_v2 (F := Ideal) x2 (ix2 R j))
          (fun k => x3 (ix2 R k)) (fun k => x4 (ix2 R k)) (fun k => val_main_v74 (F := Ideal) x5 (ix2 R k))
          (fun j k => val_main_v18 (F := Ideal) x6 (ix2 j k)) (fun j k => val_main_v21 (F := Ideal) x7 (ix2 j k))
          (fun k d => val_main_v25 (F := Ideal) x8 (ix2 k d)) (fun d => x9 (ix2 0 d))
          (fun k n => val_main_v42 (F := Ideal) x10 (ix2 k n)) (fun k n => val_main_v45 (F := Ideal) x11 (ix2 k n))
          (fun n d => val_main_v48 (F := Ideal) x12 (ix2 n d)) (fun d => x13 (ix2 0 d))
          (fun k d => val_main_v65 (F := Ideal) x14 (ix2 k d)) (fun k d => val_main_v75 (F := Ideal) x15 (ix2 k d)) d := by
  rw [v78]
  simp only [v64, v50, v41, v27, v24]
  rfl

end Cert.TailRefIdeal.Rows

end
-- ==== Proof.Tail.Equation.lean ====
/- The two programs compute one array: what the kernel's launch stages is what the reference's first operations make of
   the same arguments, so a token's row is the reference's row. -/
module

public import proofs.«01_k».proof.Proof.Tail.Windows
public import proofs.«01_k».proof.Proof.Tail.RefRows

@[expose] public section

set_option maxRecDepth 16384

noncomputable section

namespace Cert.TailIdeal.Equation

open Cert.TailIdeal Cert.TailIdeal.Gen Idealize.ShloMosaic Idealize.ShloMosaic.Pointwise Idealize.ShloMosaic.TcCoe Idealize.SL.Sem
open Cert.TailRefIdeal.Read

variable (m : (ℓ : Loc nD τ sig) → Buf (Elt Ideal) ℓ)

theorem v0_eq (c : Dev nD) : V m c main_v0 = val_main_v0 (F := Ideal) (m ((c : Thread nD τ).loc main_arg0)) := by
  show StableHlo.after hostOps0 _ _ = _
  simp only [hostOps0]
  after_results_simp <;> rfl

theorem v1_eq (c : Dev nD) : V m c main_v1 = val_main_v2 (F := Ideal) (m ((c : Thread nD τ).loc main_arg2)) := by
  show StableHlo.after hostOps0 _ _ = _
  simp only [hostOps0]
  after_results_simp <;> rfl

theorem v3_eq (c : Dev nD) : V m c main_v3 = val_main_v74 (F := Ideal) (m ((c : Thread nD τ).loc main_arg5)) := by
  show StableHlo.after hostOps0 _ _ = _
  simp only [hostOps0]
  after_results_simp <;> rfl

theorem v5_eq (c : Dev nD) : V m c main_v5 = val_main_v18 (F := Ideal) (m ((c : Thread nD τ).loc main_arg6)) := by
  show StableHlo.after hostOps0 _ _ = _
  simp only [hostOps0]
  after_results_simp <;> rfl

theorem v7_eq (c : Dev nD) : V m c main_v7 = val_main_v21 (F := Ideal) (m ((c : Thread nD τ).loc main_arg7)) := by
  show StableHlo.after hostOps0 _ _ = _
  simp only [hostOps0]
  after_results_simp <;> rfl

theorem v9_eq (c : Dev nD) : V m c main_v9 = val_main_v25 (F := Ideal) (m ((c : Thread nD τ).loc main_arg8)) := by
  show StableHlo.after hostOps0 _ _ = _
  simp only [hostOps0]
  after_results_simp <;> rfl

theorem v13_eq (c : Dev nD) : V m c main_v13 = val_main_v42 (F := Ideal) (m ((c : Thread nD τ).loc main_arg10)) := by
  show StableHlo.after hostOps0 _ _ = _
  simp only [hostOps0]
  after_results_simp <;> rfl

theorem v15_eq (c : Dev nD) : V m c main_v15 = val_main_v45 (F := Ideal) (m ((c : Thread nD τ).loc main_arg11)) := by
  show StableHlo.after hostOps0 _ _ = _
  simp only [hostOps0]
  after_results_simp <;> rfl

theorem v17_eq (c : Dev nD) : V m c main_v17 = val_main_v48 (F := Ideal) (m ((c : Thread nD τ).loc main_arg12)) := by
  show StableHlo.after hostOps0 _ _ = _
  simp only [hostOps0]
  after_results_simp <;> rfl

theorem v21_eq (c : Dev nD) : V m c main_v21 = val_main_v65 (F := Ideal) (m ((c : Thread nD τ).loc main_arg14)) := by
  show StableHlo.after hostOps0 _ _ = _
  simp only [hostOps0]
  after_results_simp <;> rfl

theorem v23_eq (c : Dev nD) : V m c main_v23 = val_main_v75 (F := Ideal) (m ((c : Thread nD τ).loc main_arg15)) := by
  show StableHlo.after hostOps0 _ _ = _
  simp only [hostOps0]
  after_results_simp <;> rfl

theorem v11_eq (c : Dev nD) (d : Fin 1024) :
    V m c main_v11 (ix2 0 d) = m ((c : Thread nD τ).loc main_arg9) (ix2 0 d) := by
  have h : V m c main_v11 = broadcastInDim (α := EReal) S1x1024 ![1] bcast_S1024_S1x1024_1
      (shapeCast S1024 (m ((c : Thread nD τ).loc main_arg9)) shapeCasts_S1x1024_S1024) := by
    show StableHlo.after hostOps0 _ _ = _
    simp only [hostOps0]
    after_results_simp <;> rfl
  rw [h]
  pointwise

theorem v19_eq (c : Dev nD) (d : Fin 1024) :
    V m c main_v19 (ix2 0 d) = m ((c : Thread nD τ).loc main_arg13) (ix2 0 d) := by
  have h : V m c main_v19 = broadcastInDim (α := EReal) S1x1024 ![1] bcast_S1024_S1x1024_1
      (shapeCast S1024 (m ((c : Thread nD τ).loc main_arg13)) shapeCasts_S1x1024_S1024) := by
    show StableHlo.after hostOps0 _ _ = _
    simp only [hostOps0]
    after_results_simp <;> rfl
  rw [h]
  pointwise

/-- A token's row, entry by entry. -/
theorem rowAt_eq (c : Dev nD) (R : Fin 32768) (d : Fin 1024) :
    Windows.rowAt m c R d = val_main_v78 (F := Ideal) (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15)) (ix2 R d) := by
  refine Eq.trans ?_ (Cert.TailRefIdeal.Rows.result_apply _ _ _ _ _ _ _ _ _ _ _ _ _ _ _ _ R d).symm
  unfold Windows.rowAt
  congr 1
  · exact funext fun d => v11_eq m c d
  · exact funext fun d => v19_eq m c d

/-- The kernel's result array is the reference's result on the same arguments. -/
theorem result_eq (c : Dev nD) :
    Windows.result m c = val_main_v78 (F := Ideal) (m ((c : Thread nD τ).loc main_arg0))
      (m ((c : Thread nD τ).loc main_arg1))
      (m ((c : Thread nD τ).loc main_arg2))
      (m ((c : Thread nD τ).loc main_arg3))
      (m ((c : Thread nD τ).loc main_arg4))
      (m ((c : Thread nD τ).loc main_arg5))
      (m ((c : Thread nD τ).loc main_arg6))
      (m ((c : Thread nD τ).loc main_arg7))
      (m ((c : Thread nD τ).loc main_arg8))
      (m ((c : Thread nD τ).loc main_arg9))
      (m ((c : Thread nD τ).loc main_arg10))
      (m ((c : Thread nD τ).loc main_arg11))
      (m ((c : Thread nD τ).loc main_arg12))
      (m ((c : Thread nD τ).loc main_arg13))
      (m ((c : Thread nD τ).loc main_arg14))
      (m ((c : Thread nD τ).loc main_arg15)) := by
  funext i
  exact (rowAt_eq m c (i 0) (i 1)).trans (congrArg _ (eq_ix2 i).symm)

end Cert.TailIdeal.Equation

end
-- ==== Proof.Tail.Claims.lean ====
/- What is claimed of the layer's end: the three runs stop with their arguments kept, the named constant is the one value
   the program's text records, and kernel and reference compute one array. -/
module

public import proofs.«01_k».proof.Defs
public import proofs.«01_k».proof.Proof.Gen.Tail.Frame
public import proofs.«01_k».proof.Proof.Tail.Equation

@[expose] public section

set_option maxRecDepth 16384

noncomputable section

namespace Cert.TailClaims

open Idealize.ShloMosaic Idealize.ShloMosaic.TcCoe Idealize.SL.Sem

/-- The kernel's run ends, keeps its arguments and leaves every counter at zero. -/
theorem frame_kernel : Cert.quiescent_Tail := fun m ρ _ => Cert.Tail.Gen.frame m ρ

/-- So does the idealized kernel's. -/
theorem frame_ideal : Cert.quiescent_TailIdeal := fun m ρ _ => Cert.TailIdeal.Gen.frame m ρ

/-- So does the reference's. -/
theorem frame_ref : Cert.quiescent_TailRefIdeal := fun m ρ _ =>
  (θ_run Cert.TailRefIdeal.defs _ _).mono (fun r h => ⟨fun c => (h c).2, sem_eq_zero_of_no_sems (by decide) r.2⟩)
    (Cert.TailRefIdeal.Value.run (F := Ideal) m ρ)

/-- The literal -1.44269502 stands for minus the reciprocal of the logarithm of two. -/
theorem preserves : Cert.preserves_Tail_TailIdeal :=
  IdealRules.named_const.statement Cert.TailIdeal.κ "neg_log2e" .f32 0xBFB8AA3B#32 ((-((Real.log 2)⁻¹) : ℝ) : EReal) rfl

/-- On the same arguments the idealized kernel and the reference leave the same array. -/
theorem algebraic : Cert.algebraic_TailIdeal_TailRefIdeal := by
  intro m ρ m' ρ' _ hagree
  refine ⟨fun c => Cert.TailIdeal.Windows.result m c, ?_, ?_⟩
  · exact (θ_run Cert.TailIdeal.defs _ _).mono
      (fun _ h c => ⟨(h c).1.trans (Cert.TailIdeal.Windows.final m c), (h c).2⟩)
      (Cert.TailIdeal.Value.run_blocks (F := Ideal) m ρ)
  · refine (θ_run Cert.TailRefIdeal.defs _ _).mono (fun _ h c => ⟨(h c).1.trans ?_, (h c).2⟩)
      (Cert.TailRefIdeal.Value.run (F := Ideal) m' ρ')
    obtain ⟨h0, h1, h2, h3, h4, h5, h6, h7, h8, h9, h10, h11, h12, h13, h14, h15⟩ := hagree c
    refine (Cert.TailRefIdeal.Read.val_main_v78_eq m' c).trans ?_
    rw [h0, h1, h2, h3, h4, h5, h6, h7, h8, h9, h10, h11, h12, h13, h14, h15]
    exact (Cert.TailIdeal.Equation.result_eq m c).symm

end Cert.TailClaims

end
-- ==== Proof.Proj.Block.lean ====
/- What one block of the projection computes: an entry of each of its ten results is a normed row times a column of the
   weights. -/
module

public import proofs.«01_k».proof.Proof.Gen.ProjIdeal.Frame
public import proofs.«01_k».proof.Proof.Tail.Spec
public import Idealize.ShloMosaic.Lib.Pointwise

@[expose] public section

set_option maxRecDepth 16384

noncomputable section

namespace Cert.ProjIdeal.Block

open Cert.ProjIdeal Cert.ProjIdeal.Gen Cert.TailSpec Idealize.ShloMosaic Idealize.ShloMosaic.Pointwise

/-- A row of `x` normed with the gain `g`, times one column of weights. -/
def entry (x g w : Fin 1024 → EReal) : EReal := ∑ k, rms x g k * w k

/-- The normed block. -/
theorem pay3 (x : Vec Ideal S512x1024 .f32) (g : Vec Ideal S1x1024 .f32) (R : Fin 512) (k : Fin 1024) :
    k0_pay3 (F := Ideal) x g (ix2 R k) = rms (fun k => x (ix2 R k)) (fun k => g (ix2 0 k)) k := by
  pointwise [k0_pay3]
  rfl

section Rows

variable (x0 : Vec Ideal S512x1024 .f32) (x1 : Vec Ideal S1x1024 .f32) (x2 : Vec Ideal S1024x4736 .bf16) (x3 : Vec Ideal S1024x1024 .bf16)

/-! A block that is written whole holds what was stored. -/

theorem canon512 (v : Vec Ideal S512x512 .bf16) (R : Fin 512) (d : Fin 512) :
    (View.canon [⟨r0_3, v⟩] : Vec Ideal S512x512 .bf16) (ix2 R d) = v (ix2 R d) := by
  have e : (ix2 R d : S512x512.Idx) = r0_3.emb (ix2 R d) := by
    funext a; apply Fin.ext; show _ = r0_3.off a + r0_3.stride a * _
    fin_cases a <;> simp [Rect.off_unit, Rect.stride_unit]
  refine (congrArg _ e).trans ?_
  exact View.canon_cons_emb r0_3 v [] (ix2 R d)

theorem canon512f (v : Vec Ideal S512x512 .f32) (R : Fin 512) (d : Fin 512) :
    (View.canon [⟨r0_3, v⟩] : Vec Ideal S512x512 .f32) (ix2 R d) = v (ix2 R d) := by
  have e : (ix2 R d : S512x512.Idx) = r0_3.emb (ix2 R d) := by
    funext a; apply Fin.ext; show _ = r0_3.off a + r0_3.stride a * _
    fin_cases a <;> simp [Rect.off_unit, Rect.stride_unit]
  refine (congrArg _ e).trans ?_
  exact View.canon_cons_emb r0_3 v [] (ix2 R d)

theorem canon1024 (v : Vec Ideal S512x1024 .bf16) (R : Fin 512) (d : Fin 1024) :
    (View.canon [⟨r0_0, v⟩] : Vec Ideal S512x1024 .bf16) (ix2 R d) = v (ix2 R d) := by
  have e : (ix2 R d : S512x1024.Idx) = r0_0.emb (ix2 R d) := by
    funext a; apply Fin.ext; show _ = r0_0.off a + r0_0.stride a * _
    fin_cases a <;> simp [Rect.off_unit, Rect.stride_unit]
  refine (congrArg _ e).trans ?_
  exact View.canon_cons_emb r0_0 v [] (ix2 R d)

theorem canon128 (v : Vec Ideal S512x128 .f32) (R : Fin 512) (d : Fin 128) :
    (View.canon [⟨r0_11, v⟩] : Vec Ideal S512x128 .f32) (ix2 R d) = v (ix2 R d) := by
  have e : (ix2 R d : S512x128.Idx) = r0_11.emb (ix2 R d) := by
    funext a; apply Fin.ext; show _ = r0_11.off a + r0_11.stride a * _
    fin_cases a <;> simp [Rect.off_unit, Rect.stride_unit]
  refine (congrArg _ e).trans ?_
  exact View.canon_cons_emb r0_11 v [] (ix2 R d)

theorem canonT (v : Vec Ideal S1x512x512 .bf16) (d R : Fin 512) :
    (View.canon [⟨r0_13, v⟩] : Vec Ideal S1x512x512 .bf16) (ix3 0 d R) = v (ix3 0 d R) := by
  have e : (ix3 0 d R : S1x512x512.Idx) = r0_13.emb (ix3 0 d R) := by
    funext a; apply Fin.ext; show _ = r0_13.off a + r0_13.stride a * _
    fin_cases a <;> simp [Rect.off_unit, Rect.stride_unit]
  refine (congrArg _ e).trans ?_
  exact View.canon_cons_emb r0_13 v [] (ix3 0 d R)

/-! Each result's block, entry by entry: which column of the weights it takes. -/

theorem out4 (R : Fin 512) (d : Fin 512) : out0_4 x0 x1 x2 x3 (ix2 R d)
    = entry (fun k => x0 (ix2 R k)) (fun k => x1 (ix2 0 k)) (fun k => x2 (ix2 k ⟨d.val, by omega⟩)) := by
  unfold out0_4
  refine (canon512 _ R d).trans ?_
  unfold k0_pay4
  pointwise
  simp only [pay3]
  pointwise
  rfl

theorem out5 (R : Fin 512) (d : Fin 512) : out0_5 x0 x1 x2 x3 (ix2 R d)
    = entry (fun k => x0 (ix2 R k)) (fun k => x1 (ix2 0 k)) (fun k => x2 (ix2 k ⟨512 + d.val, by omega⟩)) := by
  unfold out0_5
  refine (canon512f _ R d).trans ?_
  unfold k0_pay5
  pointwise
  simp only [pay3]
  pointwise
  rfl

theorem out6 (R : Fin 512) (d : Fin 512) : out0_6 x0 x1 x2 x3 (ix2 R d)
    = entry (fun k => x0 (ix2 R k)) (fun k => x1 (ix2 0 k)) (fun k => x2 (ix2 k ⟨1024 + d.val, by omega⟩)) := by
  unfold out0_6
  refine (canon512 _ R d).trans ?_
  unfold k0_pay6
  pointwise
  simp only [pay3]
  pointwise
  rfl

theorem out7 (R : Fin 512) (d : Fin 512) : out0_7 x0 x1 x2 x3 (ix2 R d)
    = entry (fun k => x0 (ix2 R k)) (fun k => x1 (ix2 0 k)) (fun k => x2 (ix2 k ⟨1536 + d.val, by omega⟩)) := by
  unfold out0_7
  refine (canon512 _ R d).trans ?_
  unfold k0_pay7 k0_pay13
  pointwise
  simp only [pay3]
  pointwise
  rfl

theorem out8 (R : Fin 512) (d : Fin 512) : out0_8 x0 x1 x2 x3 (ix2 R d)
    = entry (fun k => x0 (ix2 R k)) (fun k => x1 (ix2 0 k)) (fun k => x2 (ix2 k ⟨2048 + d.val, by omega⟩)) := by
  unfold out0_8
  refine (canon512 _ R d).trans ?_
  unfold k0_pay8 k0_pay13
  pointwise
  simp only [pay3]
  pointwise
  rfl

theorem out9 (R : Fin 512) (d : Fin 1024) : out0_9 x0 x1 x2 x3 (ix2 R d)
    = entry (fun k => x0 (ix2 R k)) (fun k => x1 (ix2 0 k)) (fun k => x2 (ix2 k ⟨2560 + d.val, by omega⟩)) := by
  unfold out0_9
  refine (canon1024 _ R d).trans ?_
  unfold k0_pay9 k0_pay13
  pointwise
  simp only [pay3]
  pointwise
  rfl

theorem out10 (R : Fin 512) (d : Fin 1024) : out0_10 x0 x1 x2 x3 (ix2 R d)
    = entry (fun k => x0 (ix2 R k)) (fun k => x1 (ix2 0 k)) (fun k => x2 (ix2 k ⟨3584 + d.val, by omega⟩)) := by
  unfold out0_10
  refine (canon1024 _ R d).trans ?_
  unfold k0_pay10 k0_pay13
  pointwise
  simp only [pay3]
  pointwise
  rfl

theorem out11 (R : Fin 512) (d : Fin 128) : out0_11 x0 x1 x2 x3 (ix2 R d)
    = entry (fun k => x0 (ix2 R k)) (fun k => x1 (ix2 0 k)) (fun k => x2 (ix2 k ⟨4608 + d.val, by omega⟩)) := by
  unfold out0_11
  refine (canon128 _ R d).trans ?_
  unfold k0_pay11 k0_pay13
  pointwise
  simp only [pay3]
  pointwise
  rfl

theorem out12 (d R : Fin 512) : out0_12 x0 x1 x2 x3 (ix3 0 d R)
    = entry (fun k => x0 (ix2 R k)) (fun k => x1 (ix2 0 k)) (fun k => x3 (ix2 ⟨d.val, by omega⟩ k)) := by
  unfold out0_12
  refine (canonT _ d R).trans ?_
  unfold k0_pay1 k0_pay12 k0_pay13
  pointwise
  simp only [pay3]
  pointwise
  exact Finset.sum_congr rfl fun k _ => mul_comm _ _

theorem out13 (d R : Fin 512) : out0_13 x0 x1 x2 x3 (ix3 0 d R)
    = entry (fun k => x0 (ix2 R k)) (fun k => x1 (ix2 0 k)) (fun k => x3 (ix2 ⟨512 + d.val, by omega⟩ k)) := by
  unfold out0_13
  refine (canonT _ d R).trans ?_
  unfold k0_pay2 k0_pay13
  pointwise
  simp only [pay3]
  pointwise
  exact Finset.sum_congr rfl fun k _ => mul_comm _ _

end Rows

end Cert.ProjIdeal.Block

end
-- ==== Proof.Proj.Weights.lean ====
/- The arrays the projection's launch stages: the rows of `x`, the norm's gain, and the two matrices its weights are laid
   out in, column by column of the argument. -/
module

public import proofs.«01_k».proof.Proof.Gen.ProjIdeal.Frame
public import Idealize.ShloMosaic.Lib.Pointwise

@[expose] public section

set_option maxRecDepth 16384

noncomputable section

namespace Cert.ProjIdeal.Weights

open Cert.ProjIdeal Cert.ProjIdeal.Gen Idealize.ShloMosaic Idealize.ShloMosaic.Pointwise Idealize.ShloMosaic.TcCoe Idealize.SL.Sem

/-- The weights as a matrix. -/
def flat (w : Vec Ideal S1x1024x5640 .f32) : Vec Ideal S1024x5640 .f32 := shapeCast S1024x5640 w shapeCasts_S1x1024x5640_S1024x5640

theorem flat_apply (w : Vec Ideal S1x1024x5640 .f32) (k : Fin 1024) (j : Fin 5640) : flat w (ix2 k j) = w (ix3 0 k j) := by
  pointwise [flat]

/-- The first matrix: the columns that are read row by row, then the decay logits' with zeros beside them. -/
def rowsMat (w : Vec Ideal S1x1024x5640 .f32) : FVec Ideal S1024x4736 .bf16 :=
  truncf .bf16 (concatenate S1024x4736 1
    [⟨S1024x2048, extractStridedSlice S1024x2048 ![0, 0] (flat w) slices_S1024x5640_S1024x2048_0_0⟩,
     ⟨S1024x512, extractStridedSlice S1024x512 ![0, 2560] (flat w) slices_S1024x5640_S1024x512_0_2560⟩,
     ⟨S1024x2048, extractStridedSlice S1024x2048 ![0, 3592] (flat w) slices_S1024x5640_S1024x2048_0_3592⟩,
     ⟨S1024x128, pad S1024x128 ![0, 0] ![0, 120] ![0, 0]
        (extractStridedSlice S1024x8 ![0, 3584] (flat w) slices_S1024x5640_S1024x8_0_3584)
        (sitofp (F := Ideal) .f32 (constantI S_ 32 0#32)) pads_S1024x8_S1024x128_000_01200 h_S_⟩]
    concatenates_S1024x2048_S1024x512_S1024x2048_S1024x128_S1024x4736_d1) bitsLt_bf16_f32

/-- The second matrix: the attention's queries and values, a row for each column. -/
def colsMat (w : Vec Ideal S1x1024x5640 .f32) : FVec Ideal S1024x1024 .bf16 :=
  truncf .bf16 (transpose S1024x1024 [1, 0] (concatenate S1024x1024 1
    [⟨S1024x512, extractStridedSlice S1024x512 ![0, 2048] (flat w) slices_S1024x5640_S1024x512_0_2048⟩,
     ⟨S1024x512, extractStridedSlice S1024x512 ![0, 3072] (flat w) slices_S1024x5640_S1024x512_0_3072⟩]
    concatenates_S1024x512_S1024x512_S1024x1024_d1) transposes_S1024x1024_S1024x1024_1_0) bitsLt_bf16_f32

/-- Columns below 2048 are the argument's. -/
theorem rowsMat_lo (w : Vec Ideal S1x1024x5640 .f32) (k : Fin 1024) (j : Fin 4736) (h : j.val < 2048) :
    rowsMat w (ix2 k j) = w (ix3 0 k ⟨j.val, by omega⟩) := by
  rw [← flat_apply w]
  pointwise [rowsMat]
  simp [h]

/-- The next 512 are the attention's keys. -/
theorem rowsMat_key (w : Vec Ideal S1x1024x5640 .f32) (k : Fin 1024) (d : Fin 512) :
    rowsMat w (ix2 k ⟨2048 + d.val, by omega⟩) = w (ix3 0 k ⟨2560 + d.val, by omega⟩) := by
  rw [← flat_apply w]
  pointwise [rowsMat]

/-- The next 2048 are the two gates. -/
theorem rowsMat_gate (w : Vec Ideal S1x1024x5640 .f32) (k : Fin 1024) (d : Fin 2048) :
    rowsMat w (ix2 k ⟨2560 + d.val, by omega⟩) = w (ix3 0 k ⟨3592 + d.val, by omega⟩) := by
  rw [← flat_apply w]
  pointwise [rowsMat]
  rw [dif_neg (by omega), dif_neg (by omega), dif_pos (by omega)]
  exact congrArg (fun n => flat w (ix2 k n)) (Fin.ext (by show 3592 + (2560 + d.val - 2048 - 512) = 3592 + d.val; omega))

/-- Then the 8 columns of decay logits, -/
theorem rowsMat_decay (w : Vec Ideal S1x1024x5640 .f32) (k : Fin 1024) (d : Fin 128) (h : d.val < 8) :
    rowsMat w (ix2 k ⟨4608 + d.val, by omega⟩) = w (ix3 0 k ⟨3584 + d.val, by omega⟩) := by
  rw [← flat_apply w]
  pointwise [rowsMat]
  rw [dif_neg (by omega), dif_neg (by omega), dif_neg (by omega), dif_pos (by omega)]
  exact congrArg (fun n => flat w (ix2 k n))
    (Fin.ext (by show 3584 + (4608 + d.val - 2048 - 512 - 2048) = 3584 + d.val; omega))

/-- and zeros. -/
theorem rowsMat_zero (w : Vec Ideal S1x1024x5640 .f32) (k : Fin 1024) (d : Fin 128) (h : 8 ≤ d.val) :
    rowsMat w (ix2 k ⟨4608 + d.val, by omega⟩) = 0 := by
  pointwise [rowsMat]
  rw [dif_neg (by omega), dif_neg (by omega), dif_neg (by omega), dif_neg (by omega)]
  show (((0#32 : BitVec 32).toInt : ℝ) : EReal) = 0
  simp

/-- The second matrix's first 512 rows are the queries' columns, -/
theorem colsMat_q (w : Vec Ideal S1x1024x5640 .f32) (d : Fin 512) (k : Fin 1024) :
    colsMat w (ix2 ⟨d.val, by omega⟩ k) = w (ix3 0 k ⟨2048 + d.val, by omega⟩) := by
  rw [← flat_apply w]
  pointwise [colsMat]

/-- and the others the values'. -/
theorem colsMat_v (w : Vec Ideal S1x1024x5640 .f32) (d : Fin 512) (k : Fin 1024) :
    colsMat w (ix2 ⟨512 + d.val, by omega⟩ k) = w (ix3 0 k ⟨3072 + d.val, by omega⟩) := by
  rw [← flat_apply w]
  pointwise [colsMat]

variable (m : (ℓ : Loc nD τ sig) → Buf (Elt Ideal) ℓ)

theorem v0_eq (c : Dev nD) : V m c main_v0 = (shapeCast S32768x1024 (m ((c : Thread nD τ).loc main_arg0)) shapeCasts_S8x4096x1024_S32768x1024 : Vec Ideal S32768x1024 .f32) := by
  show StableHlo.after (List.flatten [hostOps0, hostOps0_1, hostOps0_2]) _ _ = _
  simp only [hostOps0, hostOps0_1, hostOps0_2, List.flatten_cons, List.flatten_nil, List.cons_append, List.nil_append]
  after_results_simp <;> rfl

theorem v15_apply (c : Dev nD) (k : Fin 1024) : V m c main_v15 (ix2 0 k) = m ((c : Thread nD τ).loc main_arg1) (ix2 0 k) := by
  have h : V m c main_v15 = broadcastInDim (α := EReal) S1x1024 ![1] bcast_S1024_S1x1024_1
      (shapeCast S1024 (m ((c : Thread nD τ).loc main_arg1)) shapeCasts_S1x1024_S1024) := by
    show StableHlo.after (List.flatten [hostOps0, hostOps0_1, hostOps0_2]) _ _ = _
    simp only [hostOps0, hostOps0_1, hostOps0_2, List.flatten_cons, List.flatten_nil, List.cons_append, List.nil_append]
    after_results_simp <;> rfl
  rw [h]
  pointwise

theorem v8_eq (c : Dev nD) : V m c main_v8 = rowsMat (m ((c : Thread nD τ).loc main_arg2)) := by
  show StableHlo.after (List.flatten [hostOps0, hostOps0_1, hostOps0_2]) _ _ = _
  simp only [hostOps0, hostOps0_1, hostOps0_2, List.flatten_cons, List.flatten_nil, List.cons_append, List.nil_append]
  after_results_simp <;> rfl

theorem v13_eq (c : Dev nD) : V m c main_v13 = colsMat (m ((c : Thread nD τ).loc main_arg2)) := by
  show StableHlo.after (List.flatten [hostOps0, hostOps0_1, hostOps0_2]) _ _ = _
  simp only [hostOps0, hostOps0_1, hostOps0_2, List.flatten_cons, List.flatten_nil, List.cons_append, List.nil_append]
  after_results_simp <;> rfl

end Cert.ProjIdeal.Weights

end
-- ==== Proof.Proj.Windows.lean ====
/- The projection's windows: at grid point `t` the rows of `x` are `512 t … 512 t + 511`, the gain and the weights are
   whole, and each result's 64 blocks tile its array; two of the results are stored with a row for each column. -/
module

public import proofs.«01_k».proof.Proof.Gen.ProjIdeal.Value
public import proofs.«01_k».proof.Proof.Proj.Block
public import proofs.«01_k».proof.Proof.Proj.Weights

@[expose] public section

set_option maxRecDepth 16384

noncomputable section

namespace Cert.ProjIdeal.Windows

open Cert.ProjIdeal Cert.ProjIdeal.Gen Cert.ProjIdeal.Block Cert.ProjIdeal.Weights Idealize.ShloMosaic Idealize.ShloMosaic.Pointwise Idealize.ShloMosaic.TcCoe Idealize.SL.Sem
open Idealize.ShloMosaic.Pipeline (Dat)

variable (m : (ℓ : Loc nD τ sig) → Buf (Elt Ideal) ℓ)

/-- Row `R` of block `t` in the whole array. -/
def at512 (t : Fin cfg0.N) (R : Fin 512) : Fin 32768 := ⟨512 * t.val + R.val, by have := t.isLt; have hN : cfg0.N = 64 := N_0; omega⟩

/-- Entry `j` of token `R`'s projection, from the arguments. -/
def proj (c : Dev nD) (R : Fin 32768) (j : Fin 5640) : EReal :=
  entry (fun k => (shapeCast S32768x1024 (m ((c : Thread nD τ).loc main_arg0)) shapeCasts_S8x4096x1024_S32768x1024 : Vec Ideal S32768x1024 .f32) (ix2 R k))
    (fun k => m ((c : Thread nD τ).loc main_arg1) (ix2 0 k)) (fun k => m ((c : Thread nD τ).loc main_arg2) (ix3 0 k j))

/-- The windows' blocks: the rows' follow the grid, the gain's and the weights' stay. -/
theorem idx_in : ∀ t : Fin cfg0.N, win0_0.index t 0 = t.val ∧ win0_0.index t 1 = 0
    ∧ win0_1.index t 0 = 0 ∧ win0_1.index t 1 = 0
    ∧ win0_2.index t 0 = 0 ∧ win0_2.index t 1 = 0
    ∧ win0_3.index t 0 = 0 ∧ win0_3.index t 1 = 0 :=
  (by decide +kernel : ∀ t : Fin grid0.N, _)

theorem iblk0 (c : Dev nD) (t : Fin cfg0.N) (R : Fin 512) (d : Fin 1024) :
    (iblk m c 0 t : Vec Ideal S512x1024 .f32) (ix2 R d) = V m c main_v0 (ix2 (at512 t R) d) := by
  have hi := idx_in t
  unfold iblk
  rw [View.read_apply]
  show V m c main_v0 _ = V m c main_v0 _
  congr 1
  funext a
  apply Fin.ext
  match a with
  | ⟨0, _⟩ => show win0_0.index t 0 * 512 + 1 * R.val = 512 * t.val + R.val; omega
  | ⟨1, _⟩ => show win0_0.index t 1 * 1024 + 1 * d.val = d.val; omega

theorem iblk1 (c : Dev nD) (t : Fin cfg0.N) (R : Fin 1) (d : Fin 1024) :
    (iblk m c 1 t : Vec Ideal S1x1024 .f32) (ix2 R d) = V m c main_v15 (ix2 (R) d) := by
  have hi := idx_in t
  unfold iblk
  rw [View.read_apply]
  show V m c main_v15 _ = V m c main_v15 _
  congr 1
  funext a
  apply Fin.ext
  match a with
  | ⟨0, _⟩ => show win0_1.index t 0 * 1 + 1 * R.val = R.val; omega
  | ⟨1, _⟩ => show win0_1.index t 1 * 1024 + 1 * d.val = d.val; omega

theorem iblk2 (c : Dev nD) (t : Fin cfg0.N) (R : Fin 1024) (d : Fin 4736) :
    (iblk m c 2 t : Vec Ideal S1024x4736 .bf16) (ix2 R d) = V m c main_v8 (ix2 (R) d) := by
  have hi := idx_in t
  unfold iblk
  rw [View.read_apply]
  show V m c main_v8 _ = V m c main_v8 _
  congr 1
  funext a
  apply Fin.ext
  match a with
  | ⟨0, _⟩ => show win0_2.index t 0 * 1024 + 1 * R.val = R.val; omega
  | ⟨1, _⟩ => show win0_2.index t 1 * 4736 + 1 * d.val = d.val; omega

theorem iblk3 (c : Dev nD) (t : Fin cfg0.N) (R : Fin 1024) (d : Fin 1024) :
    (iblk m c 3 t : Vec Ideal S1024x1024 .bf16) (ix2 R d) = V m c main_v13 (ix2 (R) d) := by
  have hi := idx_in t
  unfold iblk
  rw [View.read_apply]
  show V m c main_v13 _ = V m c main_v13 _
  congr 1
  funext a
  apply Fin.ext
  match a with
  | ⟨0, _⟩ => show win0_3.index t 0 * 1024 + 1 * R.val = R.val; omega
  | ⟨1, _⟩ => show win0_3.index t 1 * 1024 + 1 * d.val = d.val; omega

/-- A normed row of block `t` times a column that is column `j` of the argument. -/
theorem entry_block (c : Dev nD) (t : Fin cfg0.N) (R : Fin 512) (j : Fin 5640) (col : Fin 1024 → EReal)
    (h : ∀ k, col k = m ((c : Thread nD τ).loc main_arg2) (ix3 0 k j)) :
    entry (fun k => (iblk m c 0 t : Vec Ideal S512x1024 .f32) (ix2 R k)) (fun k => (iblk m c 1 t : Vec Ideal S1x1024 .f32) (ix2 0 k)) col
      = proj m c (at512 t R) j := by
  unfold proj
  rw [funext h]
  simp only [iblk0, iblk1]
  rw [v0_eq, funext fun k => v15_apply m c k]

/-- Column `j` of the first matrix. -/
theorem col2 (c : Dev nD) (t : Fin cfg0.N) (k : Fin 1024) (j : Fin 4736) :
    (iblk m c 2 t : Vec Ideal S1024x4736 .bf16) (ix2 k j) = rowsMat (m ((c : Thread nD τ).loc main_arg2)) (ix2 k j) :=
  (iblk2 m c t k j).trans (congrFun (v8_eq m c) _)

/-- Row `j` of the second. -/
theorem col3 (c : Dev nD) (t : Fin cfg0.N) (j k : Fin 1024) :
    (iblk m c 3 t : Vec Ideal S1024x1024 .bf16) (ix2 j k) = colsMat (m ((c : Thread nD τ).loc main_arg2)) (ix2 j k) :=
  (iblk3 m c t j k).trans (congrFun (v13_eq m c) _)

/-! ### Result 1 -/

/-- Entry `(R, d)` of result 1. -/
def val4 (c : Dev nD) (R : Fin 32768) (d : Fin 512) : EReal := proj m c R ⟨d.val, by omega⟩

/-- The whole array. -/
def result4 (c : Dev nD) : Buf (Elt Ideal) ((c : Thread nD τ).loc main_v16_0) := fun i => val4 m c (i 0) (i 1)

theorem block4 (c : Dev nD) (t : Fin cfg0.N) (R : Fin 512) (d : Fin 512) :
    out0_4 (F := Ideal) (iblk m c 0 t) (iblk m c 1 t) (iblk m c 2 t) (iblk m c 3 t) (ix2 R d) = val4 m c (at512 t R) d :=
  (Block.out4 _ _ _ _ R d).trans (entry_block m c t R _ _ fun k => (col2 m c t k _).trans (rowsMat_lo _ k ⟨d.val, by omega⟩ (by show d.val < 2048; omega)))

theorem idx4 : ∀ t : Fin cfg0.N, win0_4.index t 0 = t.val ∧ win0_4.index t 1 = 0
    ∧ win0_4.index t 0 * win0_4.size 0 = t.val * 512 ∧ win0_4.xsize (grid0.coords t) 0 = 512
    ∧ win0_4.index t 1 * win0_4.size 1 = 0 ∧ win0_4.xsize (grid0.coords t) 1 = 512 :=
  (by decide +kernel : ∀ t : Fin grid0.N, _)

theorem flushed_eq4 (c : Dev nD) (t : Fin cfg0.N) :
    (dats m 0 c).flushed 4 t = ((cfg0.win 4).blk t).view.read (Elt Ideal) (result4 m c) := by
  obtain ⟨h0, h1, -⟩ := idx4 t
  rw [Value.flushed4]
  funext j
  rw [View.read_apply]
  have e0 : ((cfg0.win 4).blk t).view.emb j 0 = at512 t (j 0) := by
    apply Fin.ext
    show win0_4.index t 0 * 512 + 1 * (j 0).val = 512 * t.val + (j 0).val; omega
  have e1 : ((cfg0.win 4).blk t).view.emb j 1 = (j 1 : Fin 512) := by
    apply Fin.ext
    show win0_4.index t 1 * 512 + 1 * (j 1).val = (j 1).val; omega
  show (out0_4 (F := Ideal) _ _ _ _ _ : EReal) = val4 m c (((cfg0.win 4).blk t).view.emb j 0) (((cfg0.win 4).blk t).view.emb j 1)
  rw [e0, e1]
  exact (congrArg _ (eq_ix2 _)).trans (block4 m c t (j 0) (j 1))

/-- The array ends holding `result4`: its blocks tile it. -/
theorem final4 (c : Dev nD) : (dats m 0 c).arrAt 4 cfg0.N = result4 m c :=
  (dats m 0 c).arrAt_eq_of_cover 4 (result4 m c) (fun t _ => flushed_eq4 m c t) fun i => by
    have h0 : (i 0 : Nat) < 32768 := (i 0).isLt
    have h1 : (i 1 : Nat) < 512 := (i 1).isLt
    have hN : cfg0.N = 64 := N_0
    let t : Fin cfg0.N := ⟨(i 0 : Nat) / 512, by omega⟩
    obtain ⟨-, -, e⟩ := idx4 t
    have ht : t.val = (i 0 : Nat) / 512 := rfl
    refine ⟨t, flush0_4 _, ?_⟩
    show i ∈ ((View.whole main_v16_0).slice (win0_4.rect t)).set
    rw [View.set_slice_whole, Rect.mem_set_unit]
    intro a
    match a with
    | ⟨0, _⟩ => show win0_4.index t 0 * win0_4.size 0 ≤ (i 0 : Nat) ∧ (i 0 : Nat) < win0_4.index t 0 * win0_4.size 0 + win0_4.xsize (grid0.coords t) 0
                rw [e.1, e.2.1]; omega
    | ⟨1, _⟩ => show win0_4.index t 1 * win0_4.size 1 ≤ (i 1 : Nat) ∧ (i 1 : Nat) < win0_4.index t 1 * win0_4.size 1 + win0_4.xsize (grid0.coords t) 1
                rw [e.2.2.1, e.2.2.2]; omega

/-! ### Result 2 -/

/-- Entry `(R, d)` of result 2. -/
def val5 (c : Dev nD) (R : Fin 32768) (d : Fin 512) : EReal := proj m c R ⟨512 + d.val, by omega⟩

/-- The whole array. -/
def result5 (c : Dev nD) : Buf (Elt Ideal) ((c : Thread nD τ).loc main_v16_1) := fun i => val5 m c (i 0) (i 1)

theorem block5 (c : Dev nD) (t : Fin cfg0.N) (R : Fin 512) (d : Fin 512) :
    out0_5 (F := Ideal) (iblk m c 0 t) (iblk m c 1 t) (iblk m c 2 t) (iblk m c 3 t) (ix2 R d) = val5 m c (at512 t R) d :=
  (Block.out5 _ _ _ _ R d).trans (entry_block m c t R _ _ fun k => (col2 m c t k _).trans (rowsMat_lo _ k ⟨512 + d.val, by omega⟩ (by show 512 + d.val < 2048; omega)))

theorem idx5 : ∀ t : Fin cfg0.N, win0_5.index t 0 = t.val ∧ win0_5.index t 1 = 0
    ∧ win0_5.index t 0 * win0_5.size 0 = t.val * 512 ∧ win0_5.xsize (grid0.coords t) 0 = 512
    ∧ win0_5.index t 1 * win0_5.size 1 = 0 ∧ win0_5.xsize (grid0.coords t) 1 = 512 :=
  (by decide +kernel : ∀ t : Fin grid0.N, _)

theorem flushed_eq5 (c : Dev nD) (t : Fin cfg0.N) :
    (dats m 0 c).flushed 5 t = ((cfg0.win 5).blk t).view.read (Elt Ideal) (result5 m c) := by
  obtain ⟨h0, h1, -⟩ := idx5 t
  rw [Value.flushed5]
  funext j
  rw [View.read_apply]
  have e0 : ((cfg0.win 5).blk t).view.emb j 0 = at512 t (j 0) := by
    apply Fin.ext
    show win0_5.index t 0 * 512 + 1 * (j 0).val = 512 * t.val + (j 0).val; omega
  have e1 : ((cfg0.win 5).blk t).view.emb j 1 = (j 1 : Fin 512) := by
    apply Fin.ext
    show win0_5.index t 1 * 512 + 1 * (j 1).val = (j 1).val; omega
  show (out0_5 (F := Ideal) _ _ _ _ _ : EReal) = val5 m c (((cfg0.win 5).blk t).view.emb j 0) (((cfg0.win 5).blk t).view.emb j 1)
  rw [e0, e1]
  exact (congrArg _ (eq_ix2 _)).trans (block5 m c t (j 0) (j 1))

/-- The array ends holding `result5`: its blocks tile it. -/
theorem final5 (c : Dev nD) : (dats m 0 c).arrAt 5 cfg0.N = result5 m c :=
  (dats m 0 c).arrAt_eq_of_cover 5 (result5 m c) (fun t _ => flushed_eq5 m c t) fun i => by
    have h0 : (i 0 : Nat) < 32768 := (i 0).isLt
    have h1 : (i 1 : Nat) < 512 := (i 1).isLt
    have hN : cfg0.N = 64 := N_0
    let t : Fin cfg0.N := ⟨(i 0 : Nat) / 512, by omega⟩
    obtain ⟨-, -, e⟩ := idx5 t
    have ht : t.val = (i 0 : Nat) / 512 := rfl
    refine ⟨t, flush0_5 _, ?_⟩
    show i ∈ ((View.whole main_v16_1).slice (win0_5.rect t)).set
    rw [View.set_slice_whole, Rect.mem_set_unit]
    intro a
    match a with
    | ⟨0, _⟩ => show win0_5.index t 0 * win0_5.size 0 ≤ (i 0 : Nat) ∧ (i 0 : Nat) < win0_5.index t 0 * win0_5.size 0 + win0_5.xsize (grid0.coords t) 0
                rw [e.1, e.2.1]; omega
    | ⟨1, _⟩ => show win0_5.index t 1 * win0_5.size 1 ≤ (i 1 : Nat) ∧ (i 1 : Nat) < win0_5.index t 1 * win0_5.size 1 + win0_5.xsize (grid0.coords t) 1
                rw [e.2.2.1, e.2.2.2]; omega

/-! ### Result 3 -/

/-- Entry `(R, d)` of result 3. -/
def val6 (c : Dev nD) (R : Fin 32768) (d : Fin 512) : EReal := proj m c R ⟨1024 + d.val, by omega⟩

/-- The whole array. -/
def result6 (c : Dev nD) : Buf (Elt Ideal) ((c : Thread nD τ).loc main_v16_2) := fun i => val6 m c (i 0) (i 1)

theorem block6 (c : Dev nD) (t : Fin cfg0.N) (R : Fin 512) (d : Fin 512) :
    out0_6 (F := Ideal) (iblk m c 0 t) (iblk m c 1 t) (iblk m c 2 t) (iblk m c 3 t) (ix2 R d) = val6 m c (at512 t R) d :=
  (Block.out6 _ _ _ _ R d).trans (entry_block m c t R _ _ fun k => (col2 m c t k _).trans (rowsMat_lo _ k ⟨1024 + d.val, by omega⟩ (by show 1024 + d.val < 2048; omega)))

theorem idx6 : ∀ t : Fin cfg0.N, win0_6.index t 0 = t.val ∧ win0_6.index t 1 = 0
    ∧ win0_6.index t 0 * win0_6.size 0 = t.val * 512 ∧ win0_6.xsize (grid0.coords t) 0 = 512
    ∧ win0_6.index t 1 * win0_6.size 1 = 0 ∧ win0_6.xsize (grid0.coords t) 1 = 512 :=
  (by decide +kernel : ∀ t : Fin grid0.N, _)

theorem flushed_eq6 (c : Dev nD) (t : Fin cfg0.N) :
    (dats m 0 c).flushed 6 t = ((cfg0.win 6).blk t).view.read (Elt Ideal) (result6 m c) := by
  obtain ⟨h0, h1, -⟩ := idx6 t
  rw [Value.flushed6]
  funext j
  rw [View.read_apply]
  have e0 : ((cfg0.win 6).blk t).view.emb j 0 = at512 t (j 0) := by
    apply Fin.ext
    show win0_6.index t 0 * 512 + 1 * (j 0).val = 512 * t.val + (j 0).val; omega
  have e1 : ((cfg0.win 6).blk t).view.emb j 1 = (j 1 : Fin 512) := by
    apply Fin.ext
    show win0_6.index t 1 * 512 + 1 * (j 1).val = (j 1).val; omega
  show (out0_6 (F := Ideal) _ _ _ _ _ : EReal) = val6 m c (((cfg0.win 6).blk t).view.emb j 0) (((cfg0.win 6).blk t).view.emb j 1)
  rw [e0, e1]
  exact (congrArg _ (eq_ix2 _)).trans (block6 m c t (j 0) (j 1))

/-- The array ends holding `result6`: its blocks tile it. -/
theorem final6 (c : Dev nD) : (dats m 0 c).arrAt 6 cfg0.N = result6 m c :=
  (dats m 0 c).arrAt_eq_of_cover 6 (result6 m c) (fun t _ => flushed_eq6 m c t) fun i => by
    have h0 : (i 0 : Nat) < 32768 := (i 0).isLt
    have h1 : (i 1 : Nat) < 512 := (i 1).isLt
    have hN : cfg0.N = 64 := N_0
    let t : Fin cfg0.N := ⟨(i 0 : Nat) / 512, by omega⟩
    obtain ⟨-, -, e⟩ := idx6 t
    have ht : t.val = (i 0 : Nat) / 512 := rfl
    refine ⟨t, flush0_6 _, ?_⟩
    show i ∈ ((View.whole main_v16_2).slice (win0_6.rect t)).set
    rw [View.set_slice_whole, Rect.mem_set_unit]
    intro a
    match a with
    | ⟨0, _⟩ => show win0_6.index t 0 * win0_6.size 0 ≤ (i 0 : Nat) ∧ (i 0 : Nat) < win0_6.index t 0 * win0_6.size 0 + win0_6.xsize (grid0.coords t) 0
                rw [e.1, e.2.1]; omega
    | ⟨1, _⟩ => show win0_6.index t 1 * win0_6.size 1 ≤ (i 1 : Nat) ∧ (i 1 : Nat) < win0_6.index t 1 * win0_6.size 1 + win0_6.xsize (grid0.coords t) 1
                rw [e.2.2.1, e.2.2.2]; omega

/-! ### Result 4 -/

/-- Entry `(R, d)` of result 4. -/
def val7 (c : Dev nD) (R : Fin 32768) (d : Fin 512) : EReal := proj m c R ⟨1536 + d.val, by omega⟩

/-- The whole array. -/
def result7 (c : Dev nD) : Buf (Elt Ideal) ((c : Thread nD τ).loc main_v16_3) := fun i => val7 m c (i 0) (i 1)

theorem block7 (c : Dev nD) (t : Fin cfg0.N) (R : Fin 512) (d : Fin 512) :
    out0_7 (F := Ideal) (iblk m c 0 t) (iblk m c 1 t) (iblk m c 2 t) (iblk m c 3 t) (ix2 R d) = val7 m c (at512 t R) d :=
  (Block.out7 _ _ _ _ R d).trans (entry_block m c t R _ _ fun k => (col2 m c t k _).trans (rowsMat_lo _ k ⟨1536 + d.val, by omega⟩ (by show 1536 + d.val < 2048; omega)))

theorem idx7 : ∀ t : Fin cfg0.N, win0_7.index t 0 = t.val ∧ win0_7.index t 1 = 0
    ∧ win0_7.index t 0 * win0_7.size 0 = t.val * 512 ∧ win0_7.xsize (grid0.coords t) 0 = 512
    ∧ win0_7.index t 1 * win0_7.size 1 = 0 ∧ win0_7.xsize (grid0.coords t) 1 = 512 :=
  (by decide +kernel : ∀ t : Fin grid0.N, _)

theorem flushed_eq7 (c : Dev nD) (t : Fin cfg0.N) :
    (dats m 0 c).flushed 7 t = ((cfg0.win 7).blk t).view.read (Elt Ideal) (result7 m c) := by
  obtain ⟨h0, h1, -⟩ := idx7 t
  rw [Value.flushed7]
  funext j
  rw [View.read_apply]
  have e0 : ((cfg0.win 7).blk t).view.emb j 0 = at512 t (j 0) := by
    apply Fin.ext
    show win0_7.index t 0 * 512 + 1 * (j 0).val = 512 * t.val + (j 0).val; omega
  have e1 : ((cfg0.win 7).blk t).view.emb j 1 = (j 1 : Fin 512) := by
    apply Fin.ext
    show win0_7.index t 1 * 512 + 1 * (j 1).val = (j 1).val; omega
  show (out0_7 (F := Ideal) _ _ _ _ _ : EReal) = val7 m c (((cfg0.win 7).blk t).view.emb j 0) (((cfg0.win 7).blk t).view.emb j 1)
  rw [e0, e1]
  exact (congrArg _ (eq_ix2 _)).trans (block7 m c t (j 0) (j 1))

/-- The array ends holding `result7`: its blocks tile it. -/
theorem final7 (c : Dev nD) : (dats m 0 c).arrAt 7 cfg0.N = result7 m c :=
  (dats m 0 c).arrAt_eq_of_cover 7 (result7 m c) (fun t _ => flushed_eq7 m c t) fun i => by
    have h0 : (i 0 : Nat) < 32768 := (i 0).isLt
    have h1 : (i 1 : Nat) < 512 := (i 1).isLt
    have hN : cfg0.N = 64 := N_0
    let t : Fin cfg0.N := ⟨(i 0 : Nat) / 512, by omega⟩
    obtain ⟨-, -, e⟩ := idx7 t
    have ht : t.val = (i 0 : Nat) / 512 := rfl
    refine ⟨t, flush0_7 _, ?_⟩
    show i ∈ ((View.whole main_v16_3).slice (win0_7.rect t)).set
    rw [View.set_slice_whole, Rect.mem_set_unit]
    intro a
    match a with
    | ⟨0, _⟩ => show win0_7.index t 0 * win0_7.size 0 ≤ (i 0 : Nat) ∧ (i 0 : Nat) < win0_7.index t 0 * win0_7.size 0 + win0_7.xsize (grid0.coords t) 0
                rw [e.1, e.2.1]; omega
    | ⟨1, _⟩ => show win0_7.index t 1 * win0_7.size 1 ≤ (i 1 : Nat) ∧ (i 1 : Nat) < win0_7.index t 1 * win0_7.size 1 + win0_7.xsize (grid0.coords t) 1
                rw [e.2.2.1, e.2.2.2]; omega

/-! ### Result 5 -/

/-- Entry `(R, d)` of result 5. -/
def val8 (c : Dev nD) (R : Fin 32768) (d : Fin 512) : EReal := proj m c R ⟨2560 + d.val, by omega⟩

/-- The whole array. -/
def result8 (c : Dev nD) : Buf (Elt Ideal) ((c : Thread nD τ).loc main_v16_4) := fun i => val8 m c (i 0) (i 1)

theorem block8 (c : Dev nD) (t : Fin cfg0.N) (R : Fin 512) (d : Fin 512) :
    out0_8 (F := Ideal) (iblk m c 0 t) (iblk m c 1 t) (iblk m c 2 t) (iblk m c 3 t) (ix2 R d) = val8 m c (at512 t R) d :=
  (Block.out8 _ _ _ _ R d).trans (entry_block m c t R _ _ fun k => (col2 m c t k _).trans (rowsMat_key _ k d))

theorem idx8 : ∀ t : Fin cfg0.N, win0_8.index t 0 = t.val ∧ win0_8.index t 1 = 0
    ∧ win0_8.index t 0 * win0_8.size 0 = t.val * 512 ∧ win0_8.xsize (grid0.coords t) 0 = 512
    ∧ win0_8.index t 1 * win0_8.size 1 = 0 ∧ win0_8.xsize (grid0.coords t) 1 = 512 :=
  (by decide +kernel : ∀ t : Fin grid0.N, _)

theorem flushed_eq8 (c : Dev nD) (t : Fin cfg0.N) :
    (dats m 0 c).flushed 8 t = ((cfg0.win 8).blk t).view.read (Elt Ideal) (result8 m c) := by
  obtain ⟨h0, h1, -⟩ := idx8 t
  rw [Value.flushed8]
  funext j
  rw [View.read_apply]
  have e0 : ((cfg0.win 8).blk t).view.emb j 0 = at512 t (j 0) := by
    apply Fin.ext
    show win0_8.index t 0 * 512 + 1 * (j 0).val = 512 * t.val + (j 0).val; omega
  have e1 : ((cfg0.win 8).blk t).view.emb j 1 = (j 1 : Fin 512) := by
    apply Fin.ext
    show win0_8.index t 1 * 512 + 1 * (j 1).val = (j 1).val; omega
  show (out0_8 (F := Ideal) _ _ _ _ _ : EReal) = val8 m c (((cfg0.win 8).blk t).view.emb j 0) (((cfg0.win 8).blk t).view.emb j 1)
  rw [e0, e1]
  exact (congrArg _ (eq_ix2 _)).trans (block8 m c t (j 0) (j 1))

/-- The array ends holding `result8`: its blocks tile it. -/
theorem final8 (c : Dev nD) : (dats m 0 c).arrAt 8 cfg0.N = result8 m c :=
  (dats m 0 c).arrAt_eq_of_cover 8 (result8 m c) (fun t _ => flushed_eq8 m c t) fun i => by
    have h0 : (i 0 : Nat) < 32768 := (i 0).isLt
    have h1 : (i 1 : Nat) < 512 := (i 1).isLt
    have hN : cfg0.N = 64 := N_0
    let t : Fin cfg0.N := ⟨(i 0 : Nat) / 512, by omega⟩
    obtain ⟨-, -, e⟩ := idx8 t
    have ht : t.val = (i 0 : Nat) / 512 := rfl
    refine ⟨t, flush0_8 _, ?_⟩
    show i ∈ ((View.whole main_v16_4).slice (win0_8.rect t)).set
    rw [View.set_slice_whole, Rect.mem_set_unit]
    intro a
    match a with
    | ⟨0, _⟩ => show win0_8.index t 0 * win0_8.size 0 ≤ (i 0 : Nat) ∧ (i 0 : Nat) < win0_8.index t 0 * win0_8.size 0 + win0_8.xsize (grid0.coords t) 0
                rw [e.1, e.2.1]; omega
    | ⟨1, _⟩ => show win0_8.index t 1 * win0_8.size 1 ≤ (i 1 : Nat) ∧ (i 1 : Nat) < win0_8.index t 1 * win0_8.size 1 + win0_8.xsize (grid0.coords t) 1
                rw [e.2.2.1, e.2.2.2]; omega

/-! ### Result 6 -/

/-- Entry `(R, d)` of result 6. -/
def val9 (c : Dev nD) (R : Fin 32768) (d : Fin 1024) : EReal := proj m c R ⟨3592 + d.val, by omega⟩

/-- The whole array. -/
def result9 (c : Dev nD) : Buf (Elt Ideal) ((c : Thread nD τ).loc main_v16_5) := fun i => val9 m c (i 0) (i 1)

theorem block9 (c : Dev nD) (t : Fin cfg0.N) (R : Fin 512) (d : Fin 1024) :
    out0_9 (F := Ideal) (iblk m c 0 t) (iblk m c 1 t) (iblk m c 2 t) (iblk m c 3 t) (ix2 R d) = val9 m c (at512 t R) d :=
  (Block.out9 _ _ _ _ R d).trans (entry_block m c t R _ _ fun k => (col2 m c t k _).trans (rowsMat_gate _ k ⟨d.val, by omega⟩))

theorem idx9 : ∀ t : Fin cfg0.N, win0_9.index t 0 = t.val ∧ win0_9.index t 1 = 0
    ∧ win0_9.index t 0 * win0_9.size 0 = t.val * 512 ∧ win0_9.xsize (grid0.coords t) 0 = 512
    ∧ win0_9.index t 1 * win0_9.size 1 = 0 ∧ win0_9.xsize (grid0.coords t) 1 = 1024 :=
  (by decide +kernel : ∀ t : Fin grid0.N, _)

theorem flushed_eq9 (c : Dev nD) (t : Fin cfg0.N) :
    (dats m 0 c).flushed 9 t = ((cfg0.win 9).blk t).view.read (Elt Ideal) (result9 m c) := by
  obtain ⟨h0, h1, -⟩ := idx9 t
  rw [Value.flushed9]
  funext j
  rw [View.read_apply]
  have e0 : ((cfg0.win 9).blk t).view.emb j 0 = at512 t (j 0) := by
    apply Fin.ext
    show win0_9.index t 0 * 512 + 1 * (j 0).val = 512 * t.val + (j 0).val; omega
  have e1 : ((cfg0.win 9).blk t).view.emb j 1 = (j 1 : Fin 1024) := by
    apply Fin.ext
    show win0_9.index t 1 * 1024 + 1 * (j 1).val = (j 1).val; omega
  show (out0_9 (F := Ideal) _ _ _ _ _ : EReal) = val9 m c (((cfg0.win 9).blk t).view.emb j 0) (((cfg0.win 9).blk t).view.emb j 1)
  rw [e0, e1]
  exact (congrArg _ (eq_ix2 _)).trans (block9 m c t (j 0) (j 1))

/-- The array ends holding `result9`: its blocks tile it. -/
theorem final9 (c : Dev nD) : (dats m 0 c).arrAt 9 cfg0.N = result9 m c :=
  (dats m 0 c).arrAt_eq_of_cover 9 (result9 m c) (fun t _ => flushed_eq9 m c t) fun i => by
    have h0 : (i 0 : Nat) < 32768 := (i 0).isLt
    have h1 : (i 1 : Nat) < 1024 := (i 1).isLt
    have hN : cfg0.N = 64 := N_0
    let t : Fin cfg0.N := ⟨(i 0 : Nat) / 512, by omega⟩
    obtain ⟨-, -, e⟩ := idx9 t
    have ht : t.val = (i 0 : Nat) / 512 := rfl
    refine ⟨t, flush0_9 _, ?_⟩
    show i ∈ ((View.whole main_v16_5).slice (win0_9.rect t)).set
    rw [View.set_slice_whole, Rect.mem_set_unit]
    intro a
    match a with
    | ⟨0, _⟩ => show win0_9.index t 0 * win0_9.size 0 ≤ (i 0 : Nat) ∧ (i 0 : Nat) < win0_9.index t 0 * win0_9.size 0 + win0_9.xsize (grid0.coords t) 0
                rw [e.1, e.2.1]; omega
    | ⟨1, _⟩ => show win0_9.index t 1 * win0_9.size 1 ≤ (i 1 : Nat) ∧ (i 1 : Nat) < win0_9.index t 1 * win0_9.size 1 + win0_9.xsize (grid0.coords t) 1
                rw [e.2.2.1, e.2.2.2]; omega

/-! ### Result 7 -/

/-- Entry `(R, d)` of result 7. -/
def val10 (c : Dev nD) (R : Fin 32768) (d : Fin 1024) : EReal := proj m c R ⟨4616 + d.val, by omega⟩

/-- The whole array. -/
def result10 (c : Dev nD) : Buf (Elt Ideal) ((c : Thread nD τ).loc main_v16_6) := fun i => val10 m c (i 0) (i 1)

theorem block10 (c : Dev nD) (t : Fin cfg0.N) (R : Fin 512) (d : Fin 1024) :
    out0_10 (F := Ideal) (iblk m c 0 t) (iblk m c 1 t) (iblk m c 2 t) (iblk m c 3 t) (ix2 R d) = val10 m c (at512 t R) d :=
  (Block.out10 _ _ _ _ R d).trans (entry_block m c t R _ _ fun k => (col2 m c t k _).trans (((congrArg (fun n => rowsMat _ (ix2 k n)) (Fin.ext (by show 3584 + d.val = 2560 + (1024 + d.val); omega))).trans
      (rowsMat_gate _ k ⟨1024 + d.val, by omega⟩)).trans (congrArg (fun n => m ((c : Thread nD τ).loc main_arg2) (ix3 0 k n)) (Fin.ext (by show 3592 + (1024 + d.val) = 4616 + d.val; omega)))))

theorem idx10 : ∀ t : Fin cfg0.N, win0_10.index t 0 = t.val ∧ win0_10.index t 1 = 0
    ∧ win0_10.index t 0 * win0_10.size 0 = t.val * 512 ∧ win0_10.xsize (grid0.coords t) 0 = 512
    ∧ win0_10.index t 1 * win0_10.size 1 = 0 ∧ win0_10.xsize (grid0.coords t) 1 = 1024 :=
  (by decide +kernel : ∀ t : Fin grid0.N, _)

theorem flushed_eq10 (c : Dev nD) (t : Fin cfg0.N) :
    (dats m 0 c).flushed 10 t = ((cfg0.win 10).blk t).view.read (Elt Ideal) (result10 m c) := by
  obtain ⟨h0, h1, -⟩ := idx10 t
  rw [Value.flushed10]
  funext j
  rw [View.read_apply]
  have e0 : ((cfg0.win 10).blk t).view.emb j 0 = at512 t (j 0) := by
    apply Fin.ext
    show win0_10.index t 0 * 512 + 1 * (j 0).val = 512 * t.val + (j 0).val; omega
  have e1 : ((cfg0.win 10).blk t).view.emb j 1 = (j 1 : Fin 1024) := by
    apply Fin.ext
    show win0_10.index t 1 * 1024 + 1 * (j 1).val = (j 1).val; omega
  show (out0_10 (F := Ideal) _ _ _ _ _ : EReal) = val10 m c (((cfg0.win 10).blk t).view.emb j 0) (((cfg0.win 10).blk t).view.emb j 1)
  rw [e0, e1]
  exact (congrArg _ (eq_ix2 _)).trans (block10 m c t (j 0) (j 1))

/-- The array ends holding `result10`: its blocks tile it. -/
theorem final10 (c : Dev nD) : (dats m 0 c).arrAt 10 cfg0.N = result10 m c :=
  (dats m 0 c).arrAt_eq_of_cover 10 (result10 m c) (fun t _ => flushed_eq10 m c t) fun i => by
    have h0 : (i 0 : Nat) < 32768 := (i 0).isLt
    have h1 : (i 1 : Nat) < 1024 := (i 1).isLt
    have hN : cfg0.N = 64 := N_0
    let t : Fin cfg0.N := ⟨(i 0 : Nat) / 512, by omega⟩
    obtain ⟨-, -, e⟩ := idx10 t
    have ht : t.val = (i 0 : Nat) / 512 := rfl
    refine ⟨t, flush0_10 _, ?_⟩
    show i ∈ ((View.whole main_v16_6).slice (win0_10.rect t)).set
    rw [View.set_slice_whole, Rect.mem_set_unit]
    intro a
    match a with
    | ⟨0, _⟩ => show win0_10.index t 0 * win0_10.size 0 ≤ (i 0 : Nat) ∧ (i 0 : Nat) < win0_10.index t 0 * win0_10.size 0 + win0_10.xsize (grid0.coords t) 0
                rw [e.1, e.2.1]; omega
    | ⟨1, _⟩ => show win0_10.index t 1 * win0_10.size 1 ≤ (i 1 : Nat) ∧ (i 1 : Nat) < win0_10.index t 1 * win0_10.size 1 + win0_10.xsize (grid0.coords t) 1
                rw [e.2.2.1, e.2.2.2]; omega

/-! ### Result 8 -/

/-- Entry `(R, d)` of result 8. -/
def val11 (c : Dev nD) (R : Fin 32768) (d : Fin 128) : EReal := if h : d.val < 8 then proj m c R ⟨3584 + d.val, by omega⟩ else 0

/-- The whole array. -/
def result11 (c : Dev nD) : Buf (Elt Ideal) ((c : Thread nD τ).loc main_v16_7) := fun i => val11 m c (i 0) (i 1)

theorem block11 (c : Dev nD) (t : Fin cfg0.N) (R : Fin 512) (d : Fin 128) :
    out0_11 (F := Ideal) (iblk m c 0 t) (iblk m c 1 t) (iblk m c 2 t) (iblk m c 3 t) (ix2 R d) = val11 m c (at512 t R) d := by
  refine (Block.out11 _ _ _ _ R d).trans ?_
  unfold val11
  split
  · rename_i h
    exact entry_block m c t R _ _ fun k => (col2 m c t k _).trans (rowsMat_decay _ k d h)
  · rename_i h
    refine Finset.sum_eq_zero fun k _ => ?_
    exact (congrArg (_ * ·) ((col2 m c t k _).trans (rowsMat_zero _ k d (by omega)))).trans (mul_zero _)

theorem idx11 : ∀ t : Fin cfg0.N, win0_11.index t 0 = t.val ∧ win0_11.index t 1 = 0
    ∧ win0_11.index t 0 * win0_11.size 0 = t.val * 512 ∧ win0_11.xsize (grid0.coords t) 0 = 512
    ∧ win0_11.index t 1 * win0_11.size 1 = 0 ∧ win0_11.xsize (grid0.coords t) 1 = 128 :=
  (by decide +kernel : ∀ t : Fin grid0.N, _)

theorem flushed_eq11 (c : Dev nD) (t : Fin cfg0.N) :
    (dats m 0 c).flushed 11 t = ((cfg0.win 11).blk t).view.read (Elt Ideal) (result11 m c) := by
  obtain ⟨h0, h1, -⟩ := idx11 t
  rw [Value.flushed11]
  funext j
  rw [View.read_apply]
  have e0 : ((cfg0.win 11).blk t).view.emb j 0 = at512 t (j 0) := by
    apply Fin.ext
    show win0_11.index t 0 * 512 + 1 * (j 0).val = 512 * t.val + (j 0).val; omega
  have e1 : ((cfg0.win 11).blk t).view.emb j 1 = (j 1 : Fin 128) := by
    apply Fin.ext
    show win0_11.index t 1 * 128 + 1 * (j 1).val = (j 1).val; omega
  show (out0_11 (F := Ideal) _ _ _ _ _ : EReal) = val11 m c (((cfg0.win 11).blk t).view.emb j 0) (((cfg0.win 11).blk t).view.emb j 1)
  rw [e0, e1]
  exact (congrArg _ (eq_ix2 _)).trans (block11 m c t (j 0) (j 1))

/-- The array ends holding `result11`: its blocks tile it. -/
theorem final11 (c : Dev nD) : (dats m 0 c).arrAt 11 cfg0.N = result11 m c :=
  (dats m 0 c).arrAt_eq_of_cover 11 (result11 m c) (fun t _ => flushed_eq11 m c t) fun i => by
    have h0 : (i 0 : Nat) < 32768 := (i 0).isLt
    have h1 : (i 1 : Nat) < 128 := (i 1).isLt
    have hN : cfg0.N = 64 := N_0
    let t : Fin cfg0.N := ⟨(i 0 : Nat) / 512, by omega⟩
    obtain ⟨-, -, e⟩ := idx11 t
    have ht : t.val = (i 0 : Nat) / 512 := rfl
    refine ⟨t, flush0_11 _, ?_⟩
    show i ∈ ((View.whole main_v16_7).slice (win0_11.rect t)).set
    rw [View.set_slice_whole, Rect.mem_set_unit]
    intro a
    match a with
    | ⟨0, _⟩ => show win0_11.index t 0 * win0_11.size 0 ≤ (i 0 : Nat) ∧ (i 0 : Nat) < win0_11.index t 0 * win0_11.size 0 + win0_11.xsize (grid0.coords t) 0
                rw [e.1, e.2.1]; omega
    | ⟨1, _⟩ => show win0_11.index t 1 * win0_11.size 1 ≤ (i 1 : Nat) ∧ (i 1 : Nat) < win0_11.index t 1 * win0_11.size 1 + win0_11.xsize (grid0.coords t) 1
                rw [e.2.2.1, e.2.2.2]; omega

/-! ### Result 9, a row for each column -/

/-- Entry `(b, d, s)` of result 9. -/
def val12 (c : Dev nD) (b : Fin 8) (d : Fin 512) (s : Fin 4096) : EReal := proj m c ⟨b.val * 4096 + s.val, by omega⟩ ⟨2048 + d.val, by omega⟩

/-- The whole array. -/
def result12 (c : Dev nD) : Buf (Elt Ideal) ((c : Thread nD τ).loc main_v16_8) := fun i => val12 m c (i 0) (i 1) (i 2)

theorem block12 (c : Dev nD) (t : Fin cfg0.N) (d R : Fin 512) (b : Fin 8) (s : Fin 4096) (h : b.val * 4096 + s.val = 512 * t.val + R.val) :
    out0_12 (F := Ideal) (iblk m c 0 t) (iblk m c 1 t) (iblk m c 2 t) (iblk m c 3 t) (ix3 0 d R) = val12 m c b d s := by
  refine (Block.out12 _ _ _ _ d R).trans ((entry_block m c t R _ _ fun k => (col3 m c t _ k).trans (colsMat_q _ d k)).trans ?_)
  exact congrArg (fun r => proj m c r _) (Fin.ext h.symm)

theorem idx12 : ∀ t : Fin cfg0.N, win0_12.index t 0 = t.val / 8 ∧ win0_12.index t 1 = 0 ∧ win0_12.index t 2 = t.val % 8
    ∧ win0_12.index t 0 * win0_12.size 0 = t.val / 8 ∧ win0_12.xsize (grid0.coords t) 0 = 1
    ∧ win0_12.index t 1 * win0_12.size 1 = 0 ∧ win0_12.xsize (grid0.coords t) 1 = 512
    ∧ win0_12.index t 2 * win0_12.size 2 = t.val % 8 * 512 ∧ win0_12.xsize (grid0.coords t) 2 = 512 :=
  (by decide +kernel : ∀ t : Fin grid0.N, _)

theorem flushed_eq12 (c : Dev nD) (t : Fin cfg0.N) :
    (dats m 0 c).flushed 12 t = ((cfg0.win 12).blk t).view.read (Elt Ideal) (result12 m c) := by
  obtain ⟨h0, h1, h2, -⟩ := idx12 t
  rw [Value.flushed12]
  funext j
  rw [View.read_apply]
  have hj : (j 0).val < 1 := (j 0).isLt
  have e0 : (((cfg0.win 12).blk t).view.emb j 0).val = t.val / 8 := by
    show win0_12.index t 0 * 1 + 1 * (j 0).val = t.val / 8; omega
  have e1 : ((cfg0.win 12).blk t).view.emb j 1 = (j 1 : Fin 512) := by
    apply Fin.ext
    show win0_12.index t 1 * 512 + 1 * (j 1).val = (j 1).val; omega
  have e2 : (((cfg0.win 12).blk t).view.emb j 2).val = t.val % 8 * 512 + (j 2).val := by
    show win0_12.index t 2 * 512 + 1 * (j 2).val = t.val % 8 * 512 + (j 2).val; omega
  show (out0_12 (F := Ideal) _ _ _ _ _ : EReal) = val12 m c (((cfg0.win 12).blk t).view.emb j 0) (((cfg0.win 12).blk t).view.emb j 1) (((cfg0.win 12).blk t).view.emb j 2)
  rw [e1]
  have ej : (j : S1x512x512.Idx) = ix3 0 (j 1) (j 2) := by
    refine (eq_ix3 j).trans ?_
    exact congrArg (fun z => ix3 z (j 1) (j 2)) (Fin.ext (by show (j 0).val = 0; omega))
  exact (congrArg _ ej).trans (block12 m c t (j 1) (j 2) _ _ (by rw [e0, e2]; omega))

/-- The array ends holding `result12`: its blocks tile it. -/
theorem final12 (c : Dev nD) : (dats m 0 c).arrAt 12 cfg0.N = result12 m c :=
  (dats m 0 c).arrAt_eq_of_cover 12 (result12 m c) (fun t _ => flushed_eq12 m c t) fun i => by
    have h0 : (i 0 : Nat) < 8 := (i 0).isLt
    have h1 : (i 1 : Nat) < 512 := (i 1).isLt
    have h2 : (i 2 : Nat) < 4096 := (i 2).isLt
    have hN : cfg0.N = 64 := N_0
    let t : Fin cfg0.N := ⟨8 * (i 0 : Nat) + (i 2 : Nat) / 512, by omega⟩
    obtain ⟨-, -, -, e⟩ := idx12 t
    have ht : t.val = 8 * (i 0 : Nat) + (i 2 : Nat) / 512 := rfl
    refine ⟨t, flush0_12 _, ?_⟩
    show i ∈ ((View.whole main_v16_8).slice (win0_12.rect t)).set
    rw [View.set_slice_whole, Rect.mem_set_unit]
    intro a
    match a with
    | ⟨0, _⟩ => show win0_12.index t 0 * win0_12.size 0 ≤ (i 0 : Nat) ∧ (i 0 : Nat) < win0_12.index t 0 * win0_12.size 0 + win0_12.xsize (grid0.coords t) 0
                rw [e.1, e.2.1]; omega
    | ⟨1, _⟩ => show win0_12.index t 1 * win0_12.size 1 ≤ (i 1 : Nat) ∧ (i 1 : Nat) < win0_12.index t 1 * win0_12.size 1 + win0_12.xsize (grid0.coords t) 1
                rw [e.2.2.1, e.2.2.2.1]; omega
    | ⟨2, _⟩ => show win0_12.index t 2 * win0_12.size 2 ≤ (i 2 : Nat) ∧ (i 2 : Nat) < win0_12.index t 2 * win0_12.size 2 + win0_12.xsize (grid0.coords t) 2
                rw [e.2.2.2.2.1, e.2.2.2.2.2]; omega

/-! ### Result 10, a row for each column -/

/-- Entry `(b, d, s)` of result 10. -/
def val13 (c : Dev nD) (b : Fin 8) (d : Fin 512) (s : Fin 4096) : EReal := proj m c ⟨b.val * 4096 + s.val, by omega⟩ ⟨3072 + d.val, by omega⟩

/-- The whole array. -/
def result13 (c : Dev nD) : Buf (Elt Ideal) ((c : Thread nD τ).loc main_v16_9) := fun i => val13 m c (i 0) (i 1) (i 2)

theorem block13 (c : Dev nD) (t : Fin cfg0.N) (d R : Fin 512) (b : Fin 8) (s : Fin 4096) (h : b.val * 4096 + s.val = 512 * t.val + R.val) :
    out0_13 (F := Ideal) (iblk m c 0 t) (iblk m c 1 t) (iblk m c 2 t) (iblk m c 3 t) (ix3 0 d R) = val13 m c b d s := by
  refine (Block.out13 _ _ _ _ d R).trans ((entry_block m c t R _ _ fun k => (col3 m c t _ k).trans (colsMat_v _ d k)).trans ?_)
  exact congrArg (fun r => proj m c r _) (Fin.ext h.symm)

theorem idx13 : ∀ t : Fin cfg0.N, win0_13.index t 0 = t.val / 8 ∧ win0_13.index t 1 = 0 ∧ win0_13.index t 2 = t.val % 8
    ∧ win0_13.index t 0 * win0_13.size 0 = t.val / 8 ∧ win0_13.xsize (grid0.coords t) 0 = 1
    ∧ win0_13.index t 1 * win0_13.size 1 = 0 ∧ win0_13.xsize (grid0.coords t) 1 = 512
    ∧ win0_13.index t 2 * win0_13.size 2 = t.val % 8 * 512 ∧ win0_13.xsize (grid0.coords t) 2 = 512 :=
  (by decide +kernel : ∀ t : Fin grid0.N, _)

theorem flushed_eq13 (c : Dev nD) (t : Fin cfg0.N) :
    (dats m 0 c).flushed 13 t = ((cfg0.win 13).blk t).view.read (Elt Ideal) (result13 m c) := by
  obtain ⟨h0, h1, h2, -⟩ := idx13 t
  rw [Value.flushed13]
  funext j
  rw [View.read_apply]
  have hj : (j 0).val < 1 := (j 0).isLt
  have e0 : (((cfg0.win 13).blk t).view.emb j 0).val = t.val / 8 := by
    show win0_13.index t 0 * 1 + 1 * (j 0).val = t.val / 8; omega
  have e1 : ((cfg0.win 13).blk t).view.emb j 1 = (j 1 : Fin 512) := by
    apply Fin.ext
    show win0_13.index t 1 * 512 + 1 * (j 1).val = (j 1).val; omega
  have e2 : (((cfg0.win 13).blk t).view.emb j 2).val = t.val % 8 * 512 + (j 2).val := by
    show win0_13.index t 2 * 512 + 1 * (j 2).val = t.val % 8 * 512 + (j 2).val; omega
  show (out0_13 (F := Ideal) _ _ _ _ _ : EReal) = val13 m c (((cfg0.win 13).blk t).view.emb j 0) (((cfg0.win 13).blk t).view.emb j 1) (((cfg0.win 13).blk t).view.emb j 2)
  rw [e1]
  have ej : (j : S1x512x512.Idx) = ix3 0 (j 1) (j 2) := by
    refine (eq_ix3 j).trans ?_
    exact congrArg (fun z => ix3 z (j 1) (j 2)) (Fin.ext (by show (j 0).val = 0; omega))
  exact (congrArg _ ej).trans (block13 m c t (j 1) (j 2) _ _ (by rw [e0, e2]; omega))

/-- The array ends holding `result13`: its blocks tile it. -/
theorem final13 (c : Dev nD) : (dats m 0 c).arrAt 13 cfg0.N = result13 m c :=
  (dats m 0 c).arrAt_eq_of_cover 13 (result13 m c) (fun t _ => flushed_eq13 m c t) fun i => by
    have h0 : (i 0 : Nat) < 8 := (i 0).isLt
    have h1 : (i 1 : Nat) < 512 := (i 1).isLt
    have h2 : (i 2 : Nat) < 4096 := (i 2).isLt
    have hN : cfg0.N = 64 := N_0
    let t : Fin cfg0.N := ⟨8 * (i 0 : Nat) + (i 2 : Nat) / 512, by omega⟩
    obtain ⟨-, -, -, e⟩ := idx13 t
    have ht : t.val = 8 * (i 0 : Nat) + (i 2 : Nat) / 512 := rfl
    refine ⟨t, flush0_13 _, ?_⟩
    show i ∈ ((View.whole main_v16_9).slice (win0_13.rect t)).set
    rw [View.set_slice_whole, Rect.mem_set_unit]
    intro a
    match a with
    | ⟨0, _⟩ => show win0_13.index t 0 * win0_13.size 0 ≤ (i 0 : Nat) ∧ (i 0 : Nat) < win0_13.index t 0 * win0_13.size 0 + win0_13.xsize (grid0.coords t) 0
                rw [e.1, e.2.1]; omega
    | ⟨1, _⟩ => show win0_13.index t 1 * win0_13.size 1 ≤ (i 1 : Nat) ∧ (i 1 : Nat) < win0_13.index t 1 * win0_13.size 1 + win0_13.xsize (grid0.coords t) 1
                rw [e.2.2.1, e.2.2.2.1]; omega
    | ⟨2, _⟩ => show win0_13.index t 2 * win0_13.size 2 ≤ (i 2 : Nat) ∧ (i 2 : Nat) < win0_13.index t 2 * win0_13.size 2 + win0_13.xsize (grid0.coords t) 2
                rw [e.2.2.2.2.1, e.2.2.2.2.2]; omega

end Cert.ProjIdeal.Windows

end
-- ==== Proof.Proj.RefRows.lean ====
/- The reference at an entry: each of its ten results takes entries of one product, a normed row times a column of the
   weights. -/
module

public import proofs.«01_k».proof.Proof.Gen.ProjRefIdeal.Read
public import proofs.«01_k».proof.Proof.Tail.Spec
public import Idealize.ShloMosaic.Lib.Pointwise

@[expose] public section

set_option maxRecDepth 16384

noncomputable section

namespace Cert.ProjRefIdeal.Rows

open Cert.ProjRefIdeal Cert.ProjRefIdeal.Read Cert.TailSpec Idealize.ShloMosaic Idealize.ShloMosaic.Pointwise

variable (x0 : (⟨S8x4096x1024, .f32⟩ : BufTy).Contents (Elt Ideal)) (x1 : (⟨S1x1024, .f32⟩ : BufTy).Contents (Elt Ideal))
  (x2 : (⟨S1x1024x5640, .f32⟩ : BufTy).Contents (Elt Ideal))

/-- The normed rows. -/
theorem v14 (R : Fin 32768) (k : Fin 1024) :
    val_main_v14 (F := Ideal) x0 x1 (ix2 R k)
      = rms (fun k => val_main_v0 (F := Ideal) x0 (ix2 R k)) (fun k => x1 (ix2 0 k)) k := by
  pointwise [val_main_v14, val_main_v13, val_main_v12, val_main_v11, val_main_v10, val_main_v9, val_main_v8, val_main_v7,
    val_main_cst_1, val_main_v6, val_main_v5, val_main_cst_0, val_main_v4, val_main_v3, val_main_cst, val_main_v2, val_main_v1]
  rfl

/-- The product. -/
theorem v16 (R : Fin 32768) (j : Fin 5640) :
    val_main_v16 (F := Ideal) x0 x1 x2 (ix2 R j)
      = ∑ k, rms (fun k => val_main_v0 (F := Ideal) x0 (ix2 R k)) (fun k => x1 (ix2 0 k)) k * x2 (ix3 0 k j) := by
  pointwise [val_main_v16, val_main_v15]
  simp only [v14]

theorem v27 (R : Fin 32768) (d : Fin 512) :
    val_main_v27 (F := Ideal) x0 x1 x2 (ix2 R d) = val_main_v16 (F := Ideal) x0 x1 x2 (ix2 R ⟨d.val, by omega⟩) := by
  pointwise [val_main_v27, val_main_v17]

theorem v18 (R : Fin 32768) (d : Fin 512) :
    val_main_v18 (F := Ideal) x0 x1 x2 (ix2 R d) = val_main_v16 (F := Ideal) x0 x1 x2 (ix2 R ⟨512 + d.val, by omega⟩) := by
  pointwise [val_main_v18]

theorem v28 (R : Fin 32768) (d : Fin 512) :
    val_main_v28 (F := Ideal) x0 x1 x2 (ix2 R d) = val_main_v16 (F := Ideal) x0 x1 x2 (ix2 R ⟨1024 + d.val, by omega⟩) := by
  pointwise [val_main_v28, val_main_v19]

theorem v29 (R : Fin 32768) (d : Fin 512) :
    val_main_v29 (F := Ideal) x0 x1 x2 (ix2 R d) = val_main_v16 (F := Ideal) x0 x1 x2 (ix2 R ⟨1536 + d.val, by omega⟩) := by
  pointwise [val_main_v29, val_main_v20]

theorem v30 (R : Fin 32768) (d : Fin 512) :
    val_main_v30 (F := Ideal) x0 x1 x2 (ix2 R d) = val_main_v16 (F := Ideal) x0 x1 x2 (ix2 R ⟨2560 + d.val, by omega⟩) := by
  pointwise [val_main_v30, val_main_v22]

theorem v31 (R : Fin 32768) (d : Fin 1024) :
    val_main_v31 (F := Ideal) x0 x1 x2 (ix2 R d) = val_main_v16 (F := Ideal) x0 x1 x2 (ix2 R ⟨3592 + d.val, by omega⟩) := by
  pointwise [val_main_v31, val_main_v25]

theorem v32 (R : Fin 32768) (d : Fin 1024) :
    val_main_v32 (F := Ideal) x0 x1 x2 (ix2 R d) = val_main_v16 (F := Ideal) x0 x1 x2 (ix2 R ⟨4616 + d.val, by omega⟩) := by
  pointwise [val_main_v32, val_main_v26]

/-- The decay logits, with zeros beside them. -/
theorem v33 (R : Fin 32768) (d : Fin 128) :
    val_main_v33 (F := Ideal) x0 x1 x2 (ix2 R d)
      = if h : d.val < 8 then val_main_v16 (F := Ideal) x0 x1 x2 (ix2 R ⟨3584 + d.val, by omega⟩) else 0 := by
  pointwise [val_main_v33, val_main_v24, val_main_call0_v0, val_main_c]
  have h : (FloatOps.sitofp (F := Ideal) FTy.f32 0#32 : EReal) = 0 := by
    show (((0#32 : BitVec 32).toInt : ℝ) : EReal) = 0
    simp
  rw [h]

theorem v36 (b : Fin 8) (d : Fin 512) (s : Fin 4096) :
    val_main_v36 (F := Ideal) x0 x1 x2 (ix3 b d s)
      = val_main_v16 (F := Ideal) x0 x1 x2 (ix2 ⟨b.val * 4096 + s.val, by omega⟩ ⟨2048 + d.val, by omega⟩) := by
  pointwise [val_main_v36, val_main_v35, val_main_v34, val_main_v21]

theorem v39 (b : Fin 8) (d : Fin 512) (s : Fin 4096) :
    val_main_v39 (F := Ideal) x0 x1 x2 (ix3 b d s)
      = val_main_v16 (F := Ideal) x0 x1 x2 (ix2 ⟨b.val * 4096 + s.val, by omega⟩ ⟨3072 + d.val, by omega⟩) := by
  pointwise [val_main_v39, val_main_v38, val_main_v37, val_main_v23]

end Cert.ProjRefIdeal.Rows

end
-- ==== Proof.Proj.Equation.lean ====
/- The ten arrays the projection ends with are the reference's ten results of the same arguments. -/
module

public import proofs.«01_k».proof.Proof.Proj.Windows
public import proofs.«01_k».proof.Proof.Proj.RefRows

@[expose] public section

set_option maxRecDepth 16384

noncomputable section

namespace Cert.ProjIdeal.Equation

open Cert.ProjIdeal Cert.ProjIdeal.Gen Cert.ProjIdeal.Windows Idealize.ShloMosaic Idealize.ShloMosaic.Pointwise Idealize.ShloMosaic.TcCoe Idealize.SL.Sem
open Cert.ProjRefIdeal.Read

variable (m : (ℓ : Loc nD τ sig) → Buf (Elt Ideal) ℓ)

/-- An entry of the reference's product is the kernel's. -/
theorem proj_eq (c : Dev nD) (R : Fin 32768) (j : Fin 5640) :
    proj m c R j = val_main_v16 (F := Ideal) (m ((c : Thread nD τ).loc main_arg0)) (m ((c : Thread nD τ).loc main_arg1))
      (m ((c : Thread nD τ).loc main_arg2)) (ix2 R j) :=
  (Cert.ProjRefIdeal.Rows.v16 _ _ _ R j).symm

theorem entry4 (c : Dev nD) (R : Fin 32768) (d : Fin 512) :
    val4 m c R d = val_main_v27 (F := Ideal) (m ((c : Thread nD τ).loc main_arg0)) (m ((c : Thread nD τ).loc main_arg1))
      (m ((c : Thread nD τ).loc main_arg2)) (ix2 R d) :=
  (proj_eq m c R _).trans (Cert.ProjRefIdeal.Rows.v27 _ _ _ R d).symm

theorem result4_eq (c : Dev nD) : result4 m c = val_main_v27 (F := Ideal) (m ((c : Thread nD τ).loc main_arg0)) (m ((c : Thread nD τ).loc main_arg1))
      (m ((c : Thread nD τ).loc main_arg2)) := by
  funext i
  exact (entry4 m c (i 0) (i 1)).trans (congrArg _ (eq_ix2 i).symm)

theorem entry5 (c : Dev nD) (R : Fin 32768) (d : Fin 512) :
    val5 m c R d = val_main_v18 (F := Ideal) (m ((c : Thread nD τ).loc main_arg0)) (m ((c : Thread nD τ).loc main_arg1))
      (m ((c : Thread nD τ).loc main_arg2)) (ix2 R d) :=
  (proj_eq m c R _).trans (Cert.ProjRefIdeal.Rows.v18 _ _ _ R d).symm

theorem result5_eq (c : Dev nD) : result5 m c = val_main_v18 (F := Ideal) (m ((c : Thread nD τ).loc main_arg0)) (m ((c : Thread nD τ).loc main_arg1))
      (m ((c : Thread nD τ).loc main_arg2)) := by
  funext i
  exact (entry5 m c (i 0) (i 1)).trans (congrArg _ (eq_ix2 i).symm)

theorem entry6 (c : Dev nD) (R : Fin 32768) (d : Fin 512) :
    val6 m c R d = val_main_v28 (F := Ideal) (m ((c : Thread nD τ).loc main_arg0)) (m ((c : Thread nD τ).loc main_arg1))
      (m ((c : Thread nD τ).loc main_arg2)) (ix2 R d) :=
  (proj_eq m c R _).trans (Cert.ProjRefIdeal.Rows.v28 _ _ _ R d).symm

theorem result6_eq (c : Dev nD) : result6 m c = val_main_v28 (F := Ideal) (m ((c : Thread nD τ).loc main_arg0)) (m ((c : Thread nD τ).loc main_arg1))
      (m ((c : Thread nD τ).loc main_arg2)) := by
  funext i
  exact (entry6 m c (i 0) (i 1)).trans (congrArg _ (eq_ix2 i).symm)

theorem entry7 (c : Dev nD) (R : Fin 32768) (d : Fin 512) :
    val7 m c R d = val_main_v29 (F := Ideal) (m ((c : Thread nD τ).loc main_arg0)) (m ((c : Thread nD τ).loc main_arg1))
      (m ((c : Thread nD τ).loc main_arg2)) (ix2 R d) :=
  (proj_eq m c R _).trans (Cert.ProjRefIdeal.Rows.v29 _ _ _ R d).symm

theorem result7_eq (c : Dev nD) : result7 m c = val_main_v29 (F := Ideal) (m ((c : Thread nD τ).loc main_arg0)) (m ((c : Thread nD τ).loc main_arg1))
      (m ((c : Thread nD τ).loc main_arg2)) := by
  funext i
  exact (entry7 m c (i 0) (i 1)).trans (congrArg _ (eq_ix2 i).symm)

theorem entry8 (c : Dev nD) (R : Fin 32768) (d : Fin 512) :
    val8 m c R d = val_main_v30 (F := Ideal) (m ((c : Thread nD τ).loc main_arg0)) (m ((c : Thread nD τ).loc main_arg1))
      (m ((c : Thread nD τ).loc main_arg2)) (ix2 R d) :=
  (proj_eq m c R _).trans (Cert.ProjRefIdeal.Rows.v30 _ _ _ R d).symm

theorem result8_eq (c : Dev nD) : result8 m c = val_main_v30 (F := Ideal) (m ((c : Thread nD τ).loc main_arg0)) (m ((c : Thread nD τ).loc main_arg1))
      (m ((c : Thread nD τ).loc main_arg2)) := by
  funext i
  exact (entry8 m c (i 0) (i 1)).trans (congrArg _ (eq_ix2 i).symm)

theorem entry9 (c : Dev nD) (R : Fin 32768) (d : Fin 1024) :
    val9 m c R d = val_main_v31 (F := Ideal) (m ((c : Thread nD τ).loc main_arg0)) (m ((c : Thread nD τ).loc main_arg1))
      (m ((c : Thread nD τ).loc main_arg2)) (ix2 R d) :=
  (proj_eq m c R _).trans (Cert.ProjRefIdeal.Rows.v31 _ _ _ R d).symm

theorem result9_eq (c : Dev nD) : result9 m c = val_main_v31 (F := Ideal) (m ((c : Thread nD τ).loc main_arg0)) (m ((c : Thread nD τ).loc main_arg1))
      (m ((c : Thread nD τ).loc main_arg2)) := by
  funext i
  exact (entry9 m c (i 0) (i 1)).trans (congrArg _ (eq_ix2 i).symm)

theorem entry10 (c : Dev nD) (R : Fin 32768) (d : Fin 1024) :
    val10 m c R d = val_main_v32 (F := Ideal) (m ((c : Thread nD τ).loc main_arg0)) (m ((c : Thread nD τ).loc main_arg1))
      (m ((c : Thread nD τ).loc main_arg2)) (ix2 R d) :=
  (proj_eq m c R _).trans (Cert.ProjRefIdeal.Rows.v32 _ _ _ R d).symm

theorem result10_eq (c : Dev nD) : result10 m c = val_main_v32 (F := Ideal) (m ((c : Thread nD τ).loc main_arg0)) (m ((c : Thread nD τ).loc main_arg1))
      (m ((c : Thread nD τ).loc main_arg2)) := by
  funext i
  exact (entry10 m c (i 0) (i 1)).trans (congrArg _ (eq_ix2 i).symm)

theorem entry11 (c : Dev nD) (R : Fin 32768) (d : Fin 128) :
    val11 m c R d = val_main_v33 (F := Ideal) (m ((c : Thread nD τ).loc main_arg0)) (m ((c : Thread nD τ).loc main_arg1))
      (m ((c : Thread nD τ).loc main_arg2)) (ix2 R d) := by
  unfold val11
  simp only [proj_eq]
  exact (Cert.ProjRefIdeal.Rows.v33 _ _ _ R d).symm

theorem result11_eq (c : Dev nD) : result11 m c = val_main_v33 (F := Ideal) (m ((c : Thread nD τ).loc main_arg0)) (m ((c : Thread nD τ).loc main_arg1))
      (m ((c : Thread nD τ).loc main_arg2)) := by
  funext i
  exact (entry11 m c (i 0) (i 1)).trans (congrArg _ (eq_ix2 i).symm)

theorem entry12 (c : Dev nD) (b : Fin 8) (d : Fin 512) (s : Fin 4096) :
    val12 m c b d s = val_main_v36 (F := Ideal) (m ((c : Thread nD τ).loc main_arg0)) (m ((c : Thread nD τ).loc main_arg1))
      (m ((c : Thread nD τ).loc main_arg2)) (ix3 b d s) :=
  (proj_eq m c _ _).trans (Cert.ProjRefIdeal.Rows.v36 _ _ _ b d s).symm

theorem result12_eq (c : Dev nD) : result12 m c = val_main_v36 (F := Ideal) (m ((c : Thread nD τ).loc main_arg0)) (m ((c : Thread nD τ).loc main_arg1))
      (m ((c : Thread nD τ).loc main_arg2)) := by
  funext i
  exact (entry12 m c (i 0) (i 1) (i 2)).trans (congrArg _ (eq_ix3 i).symm)

theorem entry13 (c : Dev nD) (b : Fin 8) (d : Fin 512) (s : Fin 4096) :
    val13 m c b d s = val_main_v39 (F := Ideal) (m ((c : Thread nD τ).loc main_arg0)) (m ((c : Thread nD τ).loc main_arg1))
      (m ((c : Thread nD τ).loc main_arg2)) (ix3 b d s) :=
  (proj_eq m c _ _).trans (Cert.ProjRefIdeal.Rows.v39 _ _ _ b d s).symm

theorem result13_eq (c : Dev nD) : result13 m c = val_main_v39 (F := Ideal) (m ((c : Thread nD τ).loc main_arg0)) (m ((c : Thread nD τ).loc main_arg1))
      (m ((c : Thread nD τ).loc main_arg2)) := by
  funext i
  exact (entry13 m c (i 0) (i 1) (i 2)).trans (congrArg _ (eq_ix3 i).symm)

end Cert.ProjIdeal.Equation

end
-- ==== Proof.Proj.Claims.lean ====
/- What is claimed of the projection: the three runs stop with their arguments kept, and kernel and reference compute the
   same ten arrays. -/
module

public import proofs.«01_k».proof.Defs
public import proofs.«01_k».proof.Proof.Gen.Proj.Frame
public import proofs.«01_k».proof.Proof.Proj.Equation

@[expose] public section

set_option maxRecDepth 16384

noncomputable section

namespace Cert.ProjClaims

open Idealize.ShloMosaic Idealize.ShloMosaic.TcCoe Idealize.SL.Sem Cert.ProjIdeal.Windows Cert.ProjIdeal.Equation Cert.ProjRefIdeal.Read

/-- The kernel's run ends, keeps its arguments and leaves every counter at zero. -/
theorem frame_kernel : Cert.quiescent_Proj := fun m ρ _ => Cert.Proj.Gen.frame m ρ

/-- So does the idealized kernel's. -/
theorem frame_ideal : Cert.quiescent_ProjIdeal := fun m ρ _ => Cert.ProjIdeal.Gen.frame m ρ

/-- So does the reference's. -/
theorem frame_ref : Cert.quiescent_ProjRefIdeal := fun m ρ _ =>
  (θ_run Cert.ProjRefIdeal.defs _ _).mono
    (fun r h => ⟨fun c => by have := h c; tauto, sem_eq_zero_of_no_sems (by decide) r.2⟩)
    (Cert.ProjRefIdeal.Value.run (F := Ideal) m ρ)

/-- No constant of the projection is named. -/
theorem preserves : Cert.preserves_Proj_ProjIdeal := trivial

/-- Equal arguments give equal results. -/
theorem same {α β γ δ : Type} (f : α → β → γ → δ) {a a' : α} {b b' : β} {e e' : γ} (ha : a = a') (hb : b = b') (he : e = e') :
    f a b e = f a' b' e' := by
  rw [ha, hb, he]

/-- On the same arguments the idealized kernel and the reference leave the same ten arrays. -/
theorem algebraic : Cert.algebraic_ProjIdeal_ProjRefIdeal := by
  intro m ρ m' ρ' _ hagree
  refine ⟨result4 m, result5 m, result6 m, result7 m, result8 m, result9 m, result10 m, result11 m, result12 m, result13 m, ?_, ?_⟩
  · refine (θ_run Cert.ProjIdeal.defs _ _).mono (fun _ h c => ?_) (Cert.ProjIdeal.Value.run_blocks (F := Ideal) m ρ)
    obtain ⟨h4, h5, h6, h7, h8, h9, h10, h11, h12, h13, hk⟩ := h c
    exact ⟨h4.trans (final4 m c), h5.trans (final5 m c), h6.trans (final6 m c), h7.trans (final7 m c), h8.trans (final8 m c),
      h9.trans (final9 m c), h10.trans (final10 m c), h11.trans (final11 m c), h12.trans (final12 m c), h13.trans (final13 m c), hk⟩
  · refine (θ_run Cert.ProjRefIdeal.defs _ _).mono (fun _ h c => ?_) (Cert.ProjRefIdeal.Value.run (F := Ideal) m' ρ')
    obtain ⟨h4, h5, h6, h7, h8, h9, h10, h11, h12, h13, hk⟩ := h c
    obtain ⟨e0, e1, e2⟩ := hagree c
    exact ⟨((h4.trans (val_main_v27_eq _ _ _)).trans (same _ e0 e1 e2)).trans (result4_eq m c).symm,
      ((h5.trans (val_main_v18_eq _ _ _)).trans (same _ e0 e1 e2)).trans (result5_eq m c).symm,
      ((h6.trans (val_main_v28_eq _ _ _)).trans (same _ e0 e1 e2)).trans (result6_eq m c).symm,
      ((h7.trans (val_main_v29_eq _ _ _)).trans (same _ e0 e1 e2)).trans (result7_eq m c).symm,
      ((h8.trans (val_main_v30_eq _ _ _)).trans (same _ e0 e1 e2)).trans (result8_eq m c).symm,
      ((h9.trans (val_main_v31_eq _ _ _)).trans (same _ e0 e1 e2)).trans (result9_eq m c).symm,
      ((h10.trans (val_main_v32_eq _ _ _)).trans (same _ e0 e1 e2)).trans (result10_eq m c).symm,
      ((h11.trans (val_main_v33_eq _ _ _)).trans (same _ e0 e1 e2)).trans (result11_eq m c).symm,
      ((h12.trans (val_main_v36_eq _ _ _)).trans (same _ e0 e1 e2)).trans (result12_eq m c).symm,
      ((h13.trans (val_main_v39_eq _ _ _)).trans (same _ e0 e1 e2)).trans (result13_eq m c).symm, hk⟩

end Cert.ProjClaims

end
-- ==== Proof.Hgrn.RefRun.lean ====
/- The reference's run, told as states: its loop carries a state, one trip takes it to the next, and the result is read off
   the state that the last trip leaves. -/
module

public import proofs.«01_k».proof.Proof.Gen.HgrnRefIdeal.Run
public import proofs.«01_k».proof.Proof.Gen.HgrnRefIdeal.Step

@[expose] public section

set_option maxRecDepth 16384

noncomputable section

namespace Cert.HgrnRefIdeal.Rows

open Idealize.ShloMosaic Idealize.ShloMosaic.TcCoe Idealize.SL.Sem Idealize.ShloMosaic.StableHlo
open Cert.HgrnRefIdeal Cert.HgrnRefIdeal.Gen Cert.HgrnRefIdeal.Value
open Cert.HgrnRefIdeal.Step (State step init b58 b65 K_main_v45 R_main_v71)

variable {F : FTy → Type} [FloatOps F]

/-- The state that lies in the carried buffers. -/
def carried (W : Valuation τ sig (Elt F)) : State F where
  main_v48_6 := W (Proc.devRef .tc main_v48_6)
  main_v48_7 := W (Proc.devRef .tc main_v48_7)
  main_v48_0 := W (Proc.devRef .tc main_v48_0)
  main_v48_1 := W (Proc.devRef .tc main_v48_1)
  main_v48_2 := W (Proc.devRef .tc main_v48_2)
  main_v48_3 := W (Proc.devRef .tc main_v48_3)

/-- Before trip `n` the counter stands at `n` and the triangle of allowed pairs is as it was built. -/
structure Before (W : Valuation τ sig (Elt F)) (n : ℕ) : Prop where
  counter : W (Proc.devRef .tc main_v48_5) = constantI S_ 32 (BitVec.ofNat 32 n)
  triangle : W (Proc.devRef .tc main_v48_4) = K_main_v45 (F := F)

variable {W : Valuation τ sig (Elt F)} {n : ℕ}

/-- The recurrence's memory after a trip. -/
theorem memory_next (h : Before W n) : step_main_v48_6 W = b58 n (carried W) := by
  unfold step_main_v48_6 res_main_while0b_v94 res_main_while0b_v73 res_main_while0b_v75 res_main_while0b_v74
  rw [h.counter]
  rfl

/-- The outputs collected after a trip. -/
theorem output_next (h : Before W n) : step_main_v48_7 W = b65 n (carried W) := by
  unfold step_main_v48_7 res_main_while0b_v72 res_main_while0b_v73 res_main_while0b_v75 res_main_while0b_v74
  rw [h.counter, h.triangle]
  rfl

/-- A trip is one step of the state. -/
theorem carried_next (h : Before W n) : carried (STEP W) = step n (carried W) := by
  unfold carried
  rw [STEP_main_v48_6, STEP_main_v48_7, STEP_main_v48_0, STEP_main_v48_1, STEP_main_v48_2, STEP_main_v48_3,
    memory_next h, output_next h]
  rfl

/-- A trip counts one further. -/
theorem before_next (h : Before W n) : Before (STEP W) (n + 1) where
  counter := by
    rw [STEP_main_v48_5]
    unfold step_main_v48_5
    rw [h.counter]
    funext i
    show BitVec.ofNat 32 n + 1#32 = BitVec.ofNat 32 (n + 1)
    simp only [BitVec.ofNat_add]
  triangle := (STEP_main_v48_4 W).trans h.triangle

variable (m : (ℓ : Loc nD τ sig) → Buf (Elt F) ℓ) (c : Dev nD)

/-- The state that the arguments make before the first trip. -/
abbrev atStart : State F :=
  init (m ((c.tc : Thread nD τ).loc main_arg0)) (m ((c.tc : Thread nD τ).loc main_arg1)) (m ((c.tc : Thread nD τ).loc main_arg2))
    (m ((c.tc : Thread nD τ).loc main_arg4))

set_option maxRecDepth 65536 in
set_option maxHeartbeats 1000000 in
theorem before_first : Before (entryContents preI m c) 0 := by
  constructor <;> (simp only [entryContents, afterL_cons, afterL_nil]; after_reads_simp) <;> rfl

set_option maxRecDepth 65536 in
set_option maxHeartbeats 1000000 in
theorem carried_first : carried (entryContents preI m c) = atStart m c := by
  unfold carried
  simp only [entryContents, afterL_cons, afterL_nil]
  after_reads_simp
  rfl

theorem before_iter : ∀ n, Before (STEP^[n] (entryContents preI m c)) n
  | 0 => before_first m c
  | n + 1 => by
    rw [Function.iterate_succ_apply']
    exact before_next (before_iter n)

/-- Before trip `n` the buffers carry the `n`-th state. -/
theorem carried_iter (it : ℕ → State F) (h0 : it 0 = atStart m c) (hs : ∀ n, it (n + 1) = step n (it n)) :
    ∀ n, carried (STEP^[n] (entryContents preI m c)) = it n
  | 0 => (carried_first m c).trans h0.symm
  | n + 1 => by
    rw [Function.iterate_succ_apply', carried_next (before_iter m c n), carried_iter it h0 hs n, hs]

/-- The result is read off the carried state and the two arguments the last operations take. -/
theorem result_eq (W : Valuation τ sig (Elt F)) : out_main_v71 W
    = R_main_v71 (carried W) (W (Proc.devRef .tc main_arg3)) (W (Proc.devRef .tc main_arg5)) := by
  unfold out_main_v71 R_main_v71
  rfl

/-- The reference's run ends, with its result read off the last state of any sequence of steps from the start. -/
theorem run_steps (ρ : Dev nD → PrngReg) (it : Dev nD → ℕ → State F)
    (h0 : ∀ c, it c 0 = atStart m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v71)
        = R_main_v71 (it c 64) (m ((c.tc : Thread nD τ).loc main_arg3)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans ((result_eq _).trans (by
    rw [carried_iter m c (it c) (h0 c) (hs c) 64, iter_main_arg3 m c 64, iter_main_arg5 m c 64])), (h c).2⟩) (Value.run m ρ)

end Cert.HgrnRefIdeal.Rows

end
-- ==== Proof.Hgrn.Chunk.lean ====
/- One chunk of 64 tokens of the recurrence, as functions of the chunk's rows and of the state before it. -/
module

public import proofs.«01_k».proof.Proof.Gen.HgrnIdeal.Frame

@[expose] public section

set_option maxRecDepth 16384

noncomputable section

namespace Cert.HgrnIdeal.Chunk

open Cert.HgrnIdeal Cert.HgrnIdeal.Gen Idealize.ShloMosaic Idealize.SL.Sem

/-- A head's 128 columns lie among the 512. -/
theorem cols_le (R h : ℕ) : ∀ a, (![0, 128 * (h % 4)] : Fin 2 → ℕ) a + (![R, 128] : Fin 2 → ℕ) a ≤ (![R, 512] : Fin 2 → ℕ) a := by
  have := Nat.mod_lt h (by decide : 0 < 4)
  intro a
  fin_cases a
  · show 0 + R ≤ R
    omega
  · show 128 * (h % 4) + 128 ≤ 512
    omega

/-- A chunk's 64 rows lie among the 512. -/
theorem rows_le (k : ℕ) : ∀ a, (![64 * (k % 8), 0] : Fin 2 → ℕ) a + S64x512.size a ≤ S512x512.size a := by
  have := Nat.mod_lt k (by decide : 0 < 8)
  intro a
  fin_cases a
  · show 64 * (k % 8) + 64 ≤ 512
    omega
  · show 0 + 512 ≤ 512
    omega

/-- A chunk's rows at a head's columns. -/
theorem tile_le (k h : ℕ) : ∀ a, (![64 * (k % 8), 128 * (h % 4)] : Fin 2 → ℕ) a + S64x128.size a ≤ S512x512.size a := by
  have := Nat.mod_lt k (by decide : 0 < 8)
  have := Nat.mod_lt h (by decide : 0 < 4)
  intro a
  fin_cases a
  · show 64 * (k % 8) + 64 ≤ 512
    omega
  · show 128 * (h % 4) + 128 ≤ 512
    omega

/-- A head's state among the four. -/
theorem head_le (h : ℕ) : ∀ a, (![h % 4, 0, 0] : Fin 3 → ℕ) a + S1x128x128.size a ≤ S4x128x128.size a := by
  have := Nat.mod_lt h (by decide : 0 < 4)
  intro a
  fin_cases a
  · show h % 4 + 1 ≤ 4
    omega
  · show 0 + 128 ≤ 128
    omega
  · show 0 + 128 ≤ 128
    omega

variable {F : FTy → Type} [FloatOps F] [Named F]

/-- A head's columns of a chunk. -/
def colsOf {t : FTy} (h : ℕ) (v : FVec F S64x512 t) : FVec F S64x128 t :=
  extractStridedSlice S64x128 ![0, 128 * (h % 4)] v ⟨rfl, cols_le 64 h⟩

/-- A logistic weight times its argument. -/
def siluOf (x : Vec F S64x512 .bf16) : FVec F S64x512 .f32 :=
  mulf (extf .f32 x bitsLt_bf16_f32) (divf (broadcast S64x512 (Scalar.ofBits .f32 0x3F800000#32))
    (addf (broadcast S64x512 (Scalar.ofBits .f32 0x3F800000#32))
      (exp2 (mulf (extf .f32 x bitsLt_bf16_f32) (broadcast S64x512 (Named.named κ "neg_log2e" 0xBFB8AA3B#32))))))

section Decay

variable (lb : FVec F S1x512 .f32) (em : Vec F S512x192 .bf16) (f : Vec F S64x512 .f32)

/-- The forget gates. -/
def gateOf : FVec F S64x512 .f32 :=
  addf (broadcastTo S64x512 lb broadcasts_S1x512_S64x512)
    (mulf (broadcastTo S64x512 (subf (broadcast S1x512 (Scalar.ofBits .f32 0x3F800000#32)) lb) broadcasts_S1x512_S64x512)
      (divf (broadcast S64x512 (Scalar.ofBits .f32 0x3F800000#32))
        (addf (broadcast S64x512 (Scalar.ofBits .f32 0x3F800000#32))
          (exp2 (mulf f (broadcast S64x512 (Named.named κ "neg_log2e" 0xBFB8AA3B#32)))))))

/-- The keys. -/
def keyOf : FVec F S64x512 .f32 := subf (broadcast S64x512 (Scalar.ofBits .f32 0x3F800000#32)) (gateOf lb f)

/-- The gates' logarithms to base two. -/
def logOf : FVec F S64x512 .f32 := mulf (log (gateOf lb f)) (broadcast S64x512 (Named.named κ "inv_ln2" 0x3FB8AA3B#32))

/-- What the leading 16-bit term leaves of an array. -/
def restOf (x : FVec F S64x512 .f32) : FVec F S64x512 .f32 := subf x (extf .f32 (truncf .bf16 x bitsLt_bf16_f32) bitsLt_bf16_f32)

/-- The eight arrays of decays, one above the other. -/
def decayOf : FVec F S512x512 .f32 :=
  exp2 (matmul dot_S512x192_S192x512_S512x512_1_0_0_1_n_n none em
    (concatenate S192x512 0 [⟨S64x512, truncf .bf16 (logOf lb f) bitsLt_bf16_f32⟩,
      ⟨S64x512, truncf .bf16 (restOf (logOf lb f)) bitsLt_bf16_f32⟩,
      ⟨S64x512, truncf .bf16 (restOf (restOf (logOf lb f))) bitsLt_bf16_f32⟩] concatenates_S64x512_S64x512_S64x512_S192x512_d0)
    (constant S512x512 .f32 0x00000000#32))

/-- The keys, decayed to the chunk's end. -/
def lateKey : FVec F S64x512 .bf16 :=
  truncf .bf16 (mulf (keyOf lb f) (extractStridedSlice S64x512 ![64, 0] (decayOf lb em f) slices_S512x512_o64_0_S64x512)) bitsLt_bf16_f32

/-- The whole chunk's decay. -/
def lastOf : FVec F S1x512 .f32 := extractStridedSlice S1x512 ![63, 0] (decayOf lb em f) slices_S512x512_o63_0_S1x512

/-- A head's columns of the whole chunk's decay. -/
def lastCols (h : ℕ) : FVec F S1x128 .f32 := extractStridedSlice S1x128 ![0, 128 * (h % 4)] (lastOf lb em f) ⟨rfl, cols_le 1 h⟩

/-- A head's state after the chunk. -/
def nextState (v : Vec F S64x512 .bf16) (h : ℕ) (st : Vec F S1x128x128 .f32) : FVec F S1x128x128 .f32 :=
  shapeCast S1x128x128
    (addf (mulf (shapeCast S128x128 st shapeCasts_S1x128x128_S128x128) (broadcastTo S128x128 (lastCols lb em f h) broadcasts_S1x128_S128x128))
      (matmul dot_S64x128_S64x128_S128x128_0_0_1_1_n_n none (colsOf h v) (colsOf h (lateKey lb em f)) (constant S128x128 .f32 0x00000000#32)))
    shapeCasts_S128x128_S1x128x128

variable (q : Vec F S64x512 .bf16)

/-- The queries, decayed from the chunk's start. -/
def earlyQuery : FVec F S64x512 .bf16 :=
  truncf .bf16 (mulf (siluOf q) (extractStridedSlice S64x512 ![0, 0] (decayOf lb em f) slices_S512x512_o0_0_S64x512)) bitsLt_bf16_f32

/-- The mixed rows of stretches of 32, 16 and 8: keys in the first half of each pair of stretches, queries in the second. -/
def mix32 : FVec F S64x512 .f32 :=
  concatenate S64x512 0 [⟨S32x512, extractStridedSlice S32x512 ![0, 0] (keyOf lb f) slices_S64x512_o0_0_S32x512⟩,
    ⟨S32x512, extractStridedSlice S32x512 ![32, 0] (siluOf q) slices_S64x512_o32_0_S32x512⟩] concatenates_S32x512_S32x512_S64x512_d0

def mix16 : FVec F S64x512 .f32 :=
  concatenate S64x512 0 [⟨S16x512, extractStridedSlice S16x512 ![0, 0] (keyOf lb f) slices_S64x512_o0_0_S16x512⟩,
    ⟨S16x512, extractStridedSlice S16x512 ![16, 0] (siluOf q) slices_S64x512_o16_0_S16x512⟩,
    ⟨S16x512, extractStridedSlice S16x512 ![32, 0] (keyOf lb f) slices_S64x512_o32_0_S16x512⟩,
    ⟨S16x512, extractStridedSlice S16x512 ![48, 0] (siluOf q) slices_S64x512_o48_0_S16x512⟩]
    concatenates_S16x512_S16x512_S16x512_S16x512_S64x512_d0

def mix8 : FVec F S64x512 .f32 :=
  concatenate S64x512 0 [⟨S8x512, extractStridedSlice S8x512 ![0, 0] (keyOf lb f) slices_S64x512_o0_0_S8x512⟩,
    ⟨S8x512, extractStridedSlice S8x512 ![8, 0] (siluOf q) slices_S64x512_o8_0_S8x512⟩,
    ⟨S8x512, extractStridedSlice S8x512 ![16, 0] (keyOf lb f) slices_S64x512_o16_0_S8x512⟩,
    ⟨S8x512, extractStridedSlice S8x512 ![24, 0] (siluOf q) slices_S64x512_o24_0_S8x512⟩,
    ⟨S8x512, extractStridedSlice S8x512 ![32, 0] (keyOf lb f) slices_S64x512_o32_0_S8x512⟩,
    ⟨S8x512, extractStridedSlice S8x512 ![40, 0] (siluOf q) slices_S64x512_o40_0_S8x512⟩,
    ⟨S8x512, extractStridedSlice S8x512 ![48, 0] (keyOf lb f) slices_S64x512_o48_0_S8x512⟩,
    ⟨S8x512, extractStridedSlice S8x512 ![56, 0] (siluOf q) slices_S64x512_o56_0_S8x512⟩]
    concatenates_S8x512_S8x512_S8x512_S8x512_S8x512_S8x512_S8x512_S8x512_S64x512_d0

/-- The mixed rows of shorter stretches, chosen by a bit of the row. -/
def mixBit (n : BitVec 32) : FVec F S64x512 .f32 :=
  select (cmpi .ne (andi (iota .tc S64x512 32 [0] iota_S64x512_d0_w32) (broadcast S64x512 n)) (broadcast S64x512 0#32)) (siluOf q) (keyOf lb f)

/-- The mixed rows under their decays. -/
def lev32 : FVec F S64x512 .bf16 :=
  truncf .bf16 (mulf (mix32 lb f q) (extractStridedSlice S64x512 ![128, 0] (decayOf lb em f) slices_S512x512_o128_0_S64x512)) bitsLt_bf16_f32
def lev16 : FVec F S64x512 .bf16 :=
  truncf .bf16 (mulf (mix16 lb f q) (extractStridedSlice S64x512 ![192, 0] (decayOf lb em f) slices_S512x512_o192_0_S64x512)) bitsLt_bf16_f32
def lev8 : FVec F S64x512 .bf16 :=
  truncf .bf16 (mulf (mix8 lb f q) (extractStridedSlice S64x512 ![256, 0] (decayOf lb em f) slices_S512x512_o256_0_S64x512)) bitsLt_bf16_f32
def lev4 : FVec F S64x512 .bf16 :=
  truncf .bf16 (mulf (mixBit lb f q 4#32) (extractStridedSlice S64x512 ![320, 0] (decayOf lb em f) slices_S512x512_o320_0_S64x512)) bitsLt_bf16_f32
def lev2 : FVec F S64x512 .bf16 :=
  truncf .bf16 (mulf (mixBit lb f q 2#32) (extractStridedSlice S64x512 ![384, 0] (decayOf lb em f) slices_S512x512_o384_0_S64x512)) bitsLt_bf16_f32
def lev1 : FVec F S64x512 .bf16 :=
  truncf .bf16 (mulf (mixBit lb f q 1#32) (extractStridedSlice S64x512 ![448, 0] (decayOf lb em f) slices_S512x512_o448_0_S64x512)) bitsLt_bf16_f32

/-- Where the row and the column of a score differ in a bit of at least `n`. -/
def differ (n : BitVec 32) : IVec S64x64 1 :=
  cmpi .sge (xori (iota .tc S64x64 32 [0] iota_S64x64_d0_w32) (iota .tc S64x64 32 [1] iota_S64x64_d1_w32)) (broadcast S64x64 n)

/-- The products of a head's rows with a head's rows. -/
def gram (a b : FVec F S64x128 .bf16) : FVec F S64x64 .f32 :=
  matmul dot_S64x128_S64x128_S64x64_1_1_0_0_n_n none a b (constant S64x64 .f32 0x00000000#32)

/-- A head's scores. -/
def scoreOf (h : ℕ) : FVec F S64x64 .bf16 :=
  truncf .bf16 (select (cmpi .sge (iota .tc S64x64 32 [0] iota_S64x64_d0_w32) (iota .tc S64x64 32 [1] iota_S64x64_d1_w32))
    (select (differ 32#32) (gram (colsOf h (lev32 lb em f q)) (colsOf h (lev32 lb em f q)))
    (select (differ 16#32) (gram (colsOf h (lev16 lb em f q)) (colsOf h (lev16 lb em f q)))
    (select (differ 8#32) (gram (colsOf h (lev8 lb em f q)) (colsOf h (lev8 lb em f q)))
    (select (differ 4#32) (gram (colsOf h (lev4 lb em f q)) (colsOf h (lev4 lb em f q)))
    (select (differ 2#32) (gram (colsOf h (lev2 lb em f q)) (colsOf h (lev2 lb em f q)))
    (select (differ 1#32) (gram (colsOf h (lev1 lb em f q)) (colsOf h (lev1 lb em f q)))
      (gram (colsOf h (truncf .bf16 (siluOf q) bitsLt_bf16_f32)) (colsOf h (truncf .bf16 (keyOf lb f) bitsLt_bf16_f32)))))))))
    (broadcast S64x64 (Scalar.ofBits .f32 0x00000000#32))) bitsLt_bf16_f32

variable (v g : Vec F S64x512 .bf16) (og : FVec F S1x128 .f32)

/-- A head's mixed values. -/
def mixedOf (h : ℕ) (st : Vec F S1x128x128 .f32) : FVec F S64x128 .f32 :=
  addf (matmul dot_S64x128_S128x128_S64x128_1_1_0_0_n_n none (colsOf h (earlyQuery lb em f q))
      (truncf .bf16 (shapeCast S128x128 st shapeCasts_S1x128x128_S128x128) bitsLt_bf16_f32) (constant S64x128 .f32 0x00000000#32))
    (matmul dot_S64x64_S64x128_S64x128_1_0_0_1_n_n none (scoreOf lb em f q h) (colsOf h v) (constant S64x128 .f32 0x00000000#32))

/-- An array of rows over the root of its mean square. -/
def normed (x : FVec F S64x128 .f32) : FVec F S64x128 .f32 :=
  mulf x (broadcastTo S64x128 (rsqrt (addf (divf (shapeCast S64x1 (multiReduction .add [1] S64 (mulf x x) 0x00000000#32 reduces_S64x128_S64 (.inl rfl) rfl) shapeCasts_S64_S64x1)
    (broadcast S64x1 (Scalar.ofBits .f32 0x43000000#32))) (broadcast S64x1 (Scalar.ofBits .f32 0x358637BD#32)))) broadcasts_S64x1_S64x128)

/-- A head's result of the chunk. -/
def outOf (h : ℕ) (st : Vec F S1x128x128 .f32) : FVec F S64x128 .bf16 :=
  truncf .bf16 (mulf (mulf (normed (mixedOf lb em f q v h st)) (broadcastTo S64x128 og broadcasts_S1x128_S64x128)) (colsOf h (siluOf g))) bitsLt_bf16_f32

end Decay

section Lists

variable (lb : FVec F S1x512 .f32) (em : Vec F S512x192 .bf16) (og : FVec F S1x128 .f32)
  (q v g : ℕ → Vec F S64x512 .bf16) (f : ℕ → Vec F S64x512 .f32)
  (ld : ℕ → List (View.Piece (Elt F) S4x128x128 .f32) → Vec F S1x128x128 .f32)
  (base : List (View.Piece (Elt F) S4x128x128 .f32))

/-- The states written so far, last first: step `n` is head `n % 4` of chunk `n / 4`. -/
def states (n : ℕ) : List (View.Piece (Elt F) S4x128x128 .f32) :=
  Nat.rec base (fun n L => ⟨Rect.unit ![n % 4, 0, 0] S1x128x128.size (head_le n),
    nextState lb em (f (n / 4)) (v (n / 4)) n (ld n L)⟩ :: L) n

/-- The results written so far, last first. -/
def results (n : ℕ) : List (View.Piece (Elt F) S512x512 .bf16) :=
  Nat.rec [] (fun n L => ⟨Rect.unit ![64 * (n / 4 % 8), 128 * (n % 4)] S64x128.size (tile_le (n / 4) n),
    outOf lb em (f (n / 4)) (q (n / 4)) (v (n / 4)) (g (n / 4)) og n (ld n (states lb em v f ld base n))⟩ :: L) n

end Lists

end Cert.HgrnIdeal.Chunk

end
-- ==== Proof.Hgrn.Pieces.lean ====
module

public import proofs.«01_k».proof.Proof.Hgrn.Chunk

/-!
The pieces the body stores at one point are the lists of `Chunk`: 8 chunks of 64 rows, 4 heads in each.
-/

@[expose] public section

set_option maxRecDepth 16384

noncomputable section

namespace Cert.HgrnIdeal.Chunk

open Cert.HgrnIdeal Cert.HgrnIdeal.Gen Idealize.ShloMosaic Idealize.SL.Sem

variable {F : FTy → Type} [FloatOps F] [Named F]

/-- A chunk's rows of a block. -/
def chunkOf {e : EltTy} (m : Memref sig .tc .vmem S512x512 e) (h : m.IsWhole) (x : S512x512.Idx → Elt F e) (k : ℕ) : S64x512.Idx → Elt F e :=
  View.readAt (Elt F) m.view (Rect.unit (s := S512x512) ![64 * (k % 8), 0] S64x512.size (rows_le k)).toLoadRect (h.unread x)

/-- A head's part of the states. -/
abbrev headRect (h : ℕ) : Rect S4x128x128 := Rect.unit ![h % 4, 0, 0] S1x128x128.size (head_le h)

section Points

variable (c : Dev nD) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2x512 .f32) (harg6 : arg6.IsWhole) (arg7 : Memref sig .tc .vmem S1x128 .f32) (harg7 : arg7.IsWhole) (arg8 : Memref sig .tc .vmem S512x192 .bf16) (harg8 : arg8.IsWhole) (arg9 : Memref sig .tc .vmem S512x512 .bf16) (harg9 : arg9.IsWhole) (arg10 : Memref sig .tc .vmem S4x128x128 .f32) (harg10 : arg10.IsWhole)
  (x0 : Vec F S512x512 .bf16) (x1 : Vec F S512x512 .f32) (x2 : Vec F S512x512 .bf16) (x3 : Vec F S512x512 .bf16) (x4 : Vec F S2x512 .f32) (x5 : Vec F S1x128 .f32) (x6 : Vec F S512x192 .bf16) (xs0 : Vec F S4x128x128 .f32)

/-- The lower bounds, the interval rows and the gain as the body reads them. -/
def boundIn : FVec F S1x512 .f32 := k0_pay5 (View.readAt (Elt F) arg6.view (Rect.unit ![0, 0] S2x512.size inb_S2x512_S2x512_0_0).toLoadRect (harg6.unread x4))
def rowsIn : Vec F S512x192 .bf16 := View.readAt (Elt F) arg8.view (Rect.unit ![0, 0] S512x192.size inb_S512x192_S512x192_0_0).toLoadRect (harg8.unread x6)
def gainIn : FVec F S1x128 .f32 := k0_pay6 (View.readAt (Elt F) arg7.view (Rect.unit ![0, 0] S1x128.size inb_S1x128_S1x128_0_0).toLoadRect (harg7.unread x5))

/-- A head's state as the body reads it at a point that carries the states on: the first chunk's from the point before. -/
def readB (n : ℕ) (L : List (View.Piece (Elt F) S4x128x128 .f32)) : Vec F S1x128x128 .f32 :=
  bif Nat.blt n 4 then View.readAt (Elt F) arg10.view (headRect n).toLoadRect (harg10.unread xs0) else arg10.view.readCov L (headRect n).toLoadRect

/-- The same at a point that starts the states anew. -/
def readA (n : ℕ) (L : List (View.Piece (Elt F) S4x128x128 .f32)) : Vec F S1x128x128 .f32 := arg10.view.readCov L (headRect n).toLoadRect

/-- The states a point starts anew from. -/
def startA : List (View.Piece (Elt F) S4x128x128 .f32) :=
  [⟨Rect.unit ![0, 0, 0] S4x128x128.size inb_S4x128x128_S4x128x128_0_0_0, k0_pay4⟩]

set_option maxHeartbeats 4000000 in
theorem states_B (hc0 : ¬cond0_0 i) :
    (kernelRun0_B c i arg2 harg2 arg3 harg3 arg4 harg4 arg5 harg5 arg6 harg6 arg7 harg7 arg8 harg8 arg9 harg9 arg10 harg10 hc0 x0 x1 x2 x3 x4 x5 x6 xs0).2.1
      = states (boundIn arg6 harg6 x4) (rowsIn arg8 harg8 x6) (chunkOf arg4 harg4 x2) (chunkOf arg3 harg3 x1) (readB arg10 harg10 xs0) [] 32 := rfl

set_option maxHeartbeats 4000000 in
theorem results_B (hc0 : ¬cond0_0 i) :
    (kernelRun0_B c i arg2 harg2 arg3 harg3 arg4 harg4 arg5 harg5 arg6 harg6 arg7 harg7 arg8 harg8 arg9 harg9 arg10 harg10 hc0 x0 x1 x2 x3 x4 x5 x6 xs0).1
      = results (boundIn arg6 harg6 x4) (rowsIn arg8 harg8 x6) (gainIn arg7 harg7 x5) (chunkOf arg2 harg2 x0) (chunkOf arg4 harg4 x2) (chunkOf arg5 harg5 x3) (chunkOf arg3 harg3 x1) (readB arg10 harg10 xs0) [] 32 := rfl

set_option maxHeartbeats 4000000 in
theorem states_A (hc0 : cond0_0 i) :
    (kernelRun0_A c i arg2 harg2 arg3 harg3 arg4 harg4 arg5 harg5 arg6 harg6 arg7 harg7 arg8 harg8 arg9 harg9 arg10 harg10 hc0 x0 x1 x2 x3 x4 x5 x6).2.1
      = states (boundIn arg6 harg6 x4) (rowsIn arg8 harg8 x6) (chunkOf arg4 harg4 x2) (chunkOf arg3 harg3 x1) (readA arg10) startA 32 := rfl

set_option maxHeartbeats 4000000 in
theorem results_A (hc0 : cond0_0 i) :
    (kernelRun0_A c i arg2 harg2 arg3 harg3 arg4 harg4 arg5 harg5 arg6 harg6 arg7 harg7 arg8 harg8 arg9 harg9 arg10 harg10 hc0 x0 x1 x2 x3 x4 x5 x6).1
      = results (boundIn arg6 harg6 x4) (rowsIn arg8 harg8 x6) (gainIn arg7 harg7 x5) (chunkOf arg2 harg2 x0) (chunkOf arg4 harg4 x2) (chunkOf arg5 harg5 x3) (chunkOf arg3 harg3 x1)  (readA arg10) startA 32 := rfl

end Points

end Cert.HgrnIdeal.Chunk

end
-- ==== Proof.Hgrn.Reads.lean ====
module

public import proofs.«01_k».proof.Proof.Hgrn.Pieces

/-!
The lists of pieces read back: a head's state passes from chunk to chunk, and a tile of the results holds its chunk's.
-/

@[expose] public section

set_option maxRecDepth 16384

noncomputable section

namespace Cert.HgrnIdeal.Chunk

open Cert.HgrnIdeal Cert.HgrnIdeal.Gen Idealize.ShloMosaic Idealize.SL.Sem

variable {F : FTy → Type} [FloatOps F] [Named F]

/-- A step's tile of the results. -/
abbrev tileRect (m : ℕ) : Rect S512x512 := Rect.unit ![64 * (m / 4 % 8), 128 * (m % 4)] S64x128.size (tile_le (m / 4) m)

/-- A head's part of all states. -/
def atHead (X : S4x128x128.Idx → Elt F .f32) (h : ℕ) : Vec F S1x128x128 .f32 := fun j => X ((headRect h).toLoadRect.idx j)

section Lists

variable (lb : FVec F S1x512 .f32) (em : Vec F S512x192 .bf16) (og : FVec F S1x128 .f32)
  (q v g : ℕ → Vec F S64x512 .bf16) (f : ℕ → Vec F S64x512 .f32)
  (ld : ℕ → List (View.Piece (Elt F) S4x128x128 .f32) → Vec F S1x128x128 .f32)
  (base : List (View.Piece (Elt F) S4x128x128 .f32))

/-- A head's state before a chunk, from what it is before the first. -/
def heads (init : ℕ → Vec F S1x128x128 .f32) (k h : ℕ) : Vec F S1x128x128 .f32 :=
  Nat.rec (init h) (fun k st => nextState lb em (f k) (v k) h st) k

theorem states_succ (n : ℕ) : states lb em v f ld base (n + 1) = ⟨headRect n,
    nextState lb em (f (n / 4)) (v (n / 4)) n (ld n (states lb em v f ld base n))⟩ :: states lb em v f ld base n := rfl

theorem atHead_congr (X : S4x128x128.Idx → Elt F .f32) (a b : ℕ) (e : a % 4 = b % 4) : atHead X a = atHead X b := by
  funext j
  refine congrArg X (funext fun k => Fin.ext ?_)
  show (![a % 4, 0, 0] : Fin 3 → ℕ) k + 1 * (j k).val = (![b % 4, 0, 0] : Fin 3 → ℕ) k + 1 * (j k).val
  rw [e]

theorem atHead_self (m : ℕ) (w : Vec F S1x128x128 .f32) (L : List (View.Piece (Elt F) S4x128x128 .f32)) :
    atHead (View.canon (⟨headRect m, w⟩ :: L)) m = w := by
  funext j
  have h := View.canon_cons_emb (headRect m) w L j
  have e : (headRect m).toLoadRect.idx j = (headRect m).emb j := rfl
  unfold atHead
  rw [e]
  exact h

theorem atHead_other (m n : ℕ) (e : m % 4 ≠ n % 4) (w : Vec F S1x128x128 .f32) (L : List (View.Piece (Elt F) S4x128x128 .f32)) :
    atHead (View.canon (⟨headRect n, w⟩ :: L)) m = atHead (View.canon L) m := by
  funext j
  refine View.canon_cons_of_not_mem _ _ fun h => ?_
  have a := (Rect.mem_set_unit (inb := head_le n)).mp h (0 : Fin 3)
  have j0 : (j (0 : Fin 3)).val < 1 := (j (0 : Fin 3)).isLt
  have b : n % 4 ≤ m % 4 + 1 * (j (0 : Fin 3)).val ∧ m % 4 + 1 * (j (0 : Fin 3)).val < n % 4 + 1 := a
  omega

/-- No later step overwrites a head before its own next one. -/
theorem canon_states (m d : ℕ) (hd : d < 4) :
    atHead (View.canon (states lb em v f ld base (m + 1 + d))) m
      = nextState lb em (f (m / 4)) (v (m / 4)) m (ld m (states lb em v f ld base m)) := by
  induction d with
  | zero =>
    rw [Nat.add_zero, states_succ]
    exact atHead_self m _ _
  | succ d ih =>
    rw [← ih (by omega), ← Nat.add_assoc, states_succ]
    exact atHead_other m (m + 1 + d) (by omega) _ _

theorem colsOf_congr {t : FTy} (x : FVec F S64x512 t) (a b : ℕ) (e : a % 4 = b % 4) : colsOf a x = colsOf b x := by
  have : ∀ a b : ℕ, a = b → ∀ ha hb, extractStridedSlice S64x128 ![0, 128 * a] x ha = extractStridedSlice S64x128 ![0, 128 * b] x hb := by
    rintro a _ rfl _ _
    rfl
  exact this _ _ e _ _

theorem lastCols_congr (f' : Vec F S64x512 .f32) (a b : ℕ) (e : a % 4 = b % 4) : lastCols lb em f' a = lastCols lb em f' b := by
  have : ∀ a b : ℕ, a = b → ∀ ha hb, extractStridedSlice S1x128 ![0, 128 * a] (lastOf lb em f') ha = extractStridedSlice S1x128 ![0, 128 * b] (lastOf lb em f') hb := by
    rintro a _ rfl _ _
    rfl
  exact this _ _ e _ _

theorem nextState_mod (f' : Vec F S64x512 .f32) (v' : Vec F S64x512 .bf16) (n : ℕ) (st : Vec F S1x128x128 .f32) :
    nextState lb em f' v' (n % 4) st = nextState lb em f' v' n st := by
  have h : n % 4 % 4 = n % 4 := by omega
  unfold nextState
  rw [colsOf_congr v' _ _ h, colsOf_congr _ _ _ h, lastCols_congr lb em f' _ _ h]

variable (init : ℕ → Vec F S1x128x128 .f32)
  (h0 : ∀ n < 4, ld n (states lb em v f ld base n) = init n)
  (h1 : ∀ n, 4 ≤ n → ∀ L, ld n L = atHead (View.canon L) n)

include h0 h1

/-- What a step reads is its head's state before its chunk. -/
theorem read_eq (k h : ℕ) (hh : h < 4) : ld (4 * k + h) (states lb em v f ld base (4 * k + h)) = heads lb em v f init k h := by
  induction k with
  | zero => exact (congrArg (fun n => ld n (states lb em v f ld base n)) (by omega : 4 * 0 + h = h)).trans (h0 h hh)
  | succ k ih =>
    have e : 4 * (k + 1) + h = (4 * k + h) + 4 := by omega
    have e1 : (4 * k + h) / 4 = k := by omega
    have e2 : (4 * k + h) % 4 = h := by omega
    rw [e, h1 _ (by omega)]
    have := canon_states lb em v f ld base (4 * k + h) 3 (by omega)
    rw [ih, e1, ← nextState_mod, e2] at this
    exact (atHead_congr _ _ _ (by omega)).trans this

/-- The states after the point. -/
theorem states_final (h : ℕ) (hh : h < 4) : atHead (View.canon (states lb em v f ld base 32)) h = heads lb em v f init 8 h := by
  have e : 32 = (4 * 7 + h) + 1 + (3 - h) := by omega
  have e1 : (4 * 7 + h) / 4 = 7 := by omega
  have e2 : (4 * 7 + h) % 4 = h := by omega
  have := canon_states lb em v f ld base (4 * 7 + h) (3 - h) (by omega)
  rw [read_eq lb em v f ld base init h0 h1 7 h hh, e1, ← nextState_mod, e2, ← e] at this
  exact (atHead_congr _ _ _ (by omega)).trans this

omit h0 h1 in
theorem outOf_mod (f' : Vec F S64x512 .f32) (q' v' g' : Vec F S64x512 .bf16) (n : ℕ) (st : Vec F S1x128x128 .f32) :
    outOf lb em f' q' v' g' og (n % 4) st = outOf lb em f' q' v' g' og n st := by
  have h : n % 4 % 4 = n % 4 := by omega
  have e : ∀ {t : FTy} (x : FVec F S64x512 t), colsOf (n % 4) x = colsOf n x := fun x => colsOf_congr x _ _ h
  simp only [outOf, mixedOf, scoreOf, e]

omit h0 h1 in
theorem canon_results_succ (n : ℕ) : results lb em og q v g f ld base (n + 1)
    = ⟨tileRect n, outOf lb em (f (n / 4)) (q (n / 4)) (v (n / 4)) (g (n / 4)) og n (ld n (states lb em v f ld base n))⟩
      :: results lb em og q v g f ld base n := rfl

/-- A tile of the results is the chunk's own. -/
theorem canon_results (N m : ℕ) (hN : N ≤ 32) (hm : m < N) (j : S64x128.Idx) :
    View.canon (results lb em og q v g f ld base N) ((tileRect m).toLoadRect.idx j)
      = outOf lb em (f (m / 4)) (q (m / 4)) (v (m / 4)) (g (m / 4)) og m (heads lb em v f init (m / 4) (m % 4)) j := by
  induction N with
  | zero => omega
  | succ N ih =>
    rw [canon_results_succ]
    by_cases e : m = N
    · subst e
      have e : (tileRect m).toLoadRect.idx j = (tileRect m).emb j := rfl
      rw [e]
      refine (View.canon_cons_emb (tileRect m) _ _ j).trans ?_
      have := read_eq lb em v f ld base init h0 h1 (m / 4) (m % 4) (by omega)
      rw [Nat.div_add_mod] at this
      rw [this]
    · refine (View.canon_cons_of_not_mem _ _ fun h => ?_).trans (ih (by omega) (by omega))
      have a0 := (Rect.mem_set_unit (inb := tile_le (N / 4) N)).mp h (0 : Fin 2)
      have a1 := (Rect.mem_set_unit (inb := tile_le (N / 4) N)).mp h (1 : Fin 2)
      have j0 : (j (0 : Fin 2)).val < 64 := (j (0 : Fin 2)).isLt
      have j1 : (j (1 : Fin 2)).val < 128 := (j (1 : Fin 2)).isLt
      have b0 : 64 * (N / 4 % 8) ≤ 64 * (m / 4 % 8) + 1 * (j (0 : Fin 2)).val ∧ 64 * (m / 4 % 8) + 1 * (j (0 : Fin 2)).val < 64 * (N / 4 % 8) + 64 := a0
      have b1 : 128 * (N % 4) ≤ 128 * (m % 4) + 1 * (j (1 : Fin 2)).val ∧ 128 * (m % 4) + 1 * (j (1 : Fin 2)).val < 128 * (N % 4) + 128 := a1
      omega

end Lists

end Cert.HgrnIdeal.Chunk

end
-- ==== Proof.Hgrn.Point.lean ====
module

public import Idealize.ShloMosaic.Lib.WholeRead
public import proofs.«01_k».proof.Proof.Hgrn.Reads

/-!
What one point leaves in its block of the results and in the states, in terms of its blocks alone.
-/

@[expose] public section

set_option maxRecDepth 16384

noncomputable section

namespace Cert.HgrnIdeal.Chunk

open Cert.HgrnIdeal Cert.HgrnIdeal.Gen Idealize.ShloMosaic Idealize.SL.Sem

variable {F : FTy → Type} [FloatOps F] [Named F]

/-- A chunk's rows of a block. -/
def rowsOf {e : EltTy} (x : S512x512.Idx → Elt F e) (k : ℕ) : S64x512.Idx → Elt F e :=
  fun j => x ((Rect.unit (s := S512x512) ![64 * (k % 8), 0] S64x512.size (rows_le k)).toLoadRect.idx j)

theorem chunkOf_eq {e : EltTy} (m : Memref sig .tc .vmem S512x512 e) (h : m.IsWhole) (x : S512x512.Idx → Elt F e) : chunkOf m h x = rowsOf x :=
  funext fun k => funext fun j => Memref.IsWhole.readAt_unread h x (Rect.unit (s := S512x512) ![64 * (k % 8), 0] S64x512.size (rows_le k)).toLoadRect j

/-- Reading a whole block reads the block. -/
theorem whole2 {r k : ℕ} (hb : ∀ a, (![0, 0] : Fin 2 → ℕ) a + (![r, k] : Fin 2 → ℕ) a ≤ (⟨2, ![r, k]⟩ : Shape).size a)
    (j : (⟨2, ![r, k]⟩ : Shape).Idx) : (Rect.unit (s := ⟨2, ![r, k]⟩) ![0, 0] ![r, k] hb).toLoadRect.idx j = j := by
  funext a
  apply Fin.ext
  show (![0, 0] : Fin 2 → ℕ) a + 1 * (j a).val = (j a).val
  fin_cases a
  · show 0 + 1 * (j 0).val = (j 0).val
    omega
  · show 0 + 1 * (j 1).val = (j 1).val
    omega

theorem whole3 (j : S4x128x128.Idx) : (Rect.unit (s := S4x128x128) ![0, 0, 0] S4x128x128.size inb_S4x128x128_S4x128x128_0_0_0).toLoadRect.idx j = j := by
  funext a
  apply Fin.ext
  show (![0, 0, 0] : Fin 3 → ℕ) a + 1 * (j a).val = (j a).val
  fin_cases a
  · show 0 + 1 * (j 0).val = (j 0).val
    omega
  · show 0 + 1 * (j 1).val = (j 1).val
    omega
  · show 0 + 1 * (j 2).val = (j 2).val
    omega

section Points

variable (c : Dev nD) (i : grid0.Coords) (arg2 : Memref sig .tc .vmem S512x512 .bf16) (harg2 : arg2.IsWhole) (arg3 : Memref sig .tc .vmem S512x512 .f32) (harg3 : arg3.IsWhole) (arg4 : Memref sig .tc .vmem S512x512 .bf16) (harg4 : arg4.IsWhole) (arg5 : Memref sig .tc .vmem S512x512 .bf16) (harg5 : arg5.IsWhole) (arg6 : Memref sig .tc .vmem S2x512 .f32) (harg6 : arg6.IsWhole) (arg7 : Memref sig .tc .vmem S1x128 .f32) (harg7 : arg7.IsWhole) (arg8 : Memref sig .tc .vmem S512x192 .bf16) (harg8 : arg8.IsWhole) (arg9 : Memref sig .tc .vmem S512x512 .bf16) (harg9 : arg9.IsWhole) (arg10 : Memref sig .tc .vmem S4x128x128 .f32) (harg10 : arg10.IsWhole)
  (x0 : Vec F S512x512 .bf16) (x1 : Vec F S512x512 .f32) (x2 : Vec F S512x512 .bf16) (x3 : Vec F S512x512 .bf16) (x4 : Vec F S2x512 .f32) (x5 : Vec F S1x128 .f32) (x6 : Vec F S512x192 .bf16) (xs0 : Vec F S4x128x128 .f32)

theorem boundIn_eq : boundIn arg6 harg6 x4 = k0_pay5 x4 :=
  congrArg k0_pay5 (funext fun j => (Memref.IsWhole.readAt_unread harg6 x4 _ j).trans (congrArg x4 (whole2 _ j)))

theorem rowsIn_eq : rowsIn arg8 harg8 x6 = x6 := by
  unfold rowsIn
  exact funext fun j => (Memref.IsWhole.readAt_unread harg8 x6 (Rect.unit (s := S512x192) ![0, 0] S512x192.size inb_S512x192_S512x192_0_0).toLoadRect j).trans
    (congrArg x6 (whole2 inb_S512x192_S512x192_0_0 j))

theorem gainIn_eq : gainIn arg7 harg7 x5 = k0_pay6 x5 :=
  congrArg k0_pay6 (funext fun j => (Memref.IsWhole.readAt_unread harg7 x5 _ j).trans (congrArg x5 (whole2 _ j)))

theorem readA_eq (n : ℕ) (L : List (View.Piece (Elt F) S4x128x128 .f32)) : readA arg10 n L = atHead (View.canon L) n :=
  View.readCov_eq_canon' _ _ _

theorem readB_late (n : ℕ) (h : 4 ≤ n) (L : List (View.Piece (Elt F) S4x128x128 .f32)) : readB arg10 harg10 xs0 n L = atHead (View.canon L) n := by
  have e : Nat.blt n 4 = false := by
    rw [← Bool.not_eq_true, Nat.blt_eq]
    omega
  unfold readB
  rw [e]
  exact View.readCov_eq_canon' _ _ _

theorem readB_early (n : ℕ) (h : n < 4) (L : List (View.Piece (Elt F) S4x128x128 .f32)) : readB arg10 harg10 xs0 n L = atHead xs0 n := by
  have e : Nat.blt n 4 = true := Nat.blt_eq.mpr h
  unfold readB
  rw [e]
  exact funext fun j => Memref.IsWhole.readAt_unread harg10 xs0 (headRect n).toLoadRect j

/-- Before any step, the states are the fresh ones. -/
theorem canon_start : View.canon (startA (F := F)) = k0_pay4 := by
  funext j
  have h := View.canon_cons_emb (Rect.unit (s := S4x128x128) ![0, 0, 0] S4x128x128.size inb_S4x128x128_S4x128x128_0_0_0) (show (Rect.unit (s := S4x128x128) ![0, 0, 0] S4x128x128.size inb_S4x128x128_S4x128x128_0_0_0).shape.Idx → Elt F .f32 from k0_pay4 (F := F)) [] j
  have e : (Rect.unit (s := S4x128x128) ![0, 0, 0] S4x128x128.size inb_S4x128x128_S4x128x128_0_0_0).emb j = j := whole3 j
  rw [e] at h
  exact h

theorem readA_early (lb : FVec F S1x512 .f32) (em : Vec F S512x192 .bf16) (v : ℕ → Vec F S64x512 .bf16) (f : ℕ → Vec F S64x512 .f32)
    (ld : ℕ → List (View.Piece (Elt F) S4x128x128 .f32) → Vec F S1x128x128 .f32) (n : ℕ) (h : n < 4) (N : ℕ) (hN : N ≤ n) :
    atHead (View.canon (states lb em v f ld startA N)) n = atHead k0_pay4 n := by
  induction N with
  | zero => exact congrArg (atHead · n) canon_start
  | succ N ih =>
    rw [← ih (by omega), states_succ]
    exact atHead_other n N (by omega) _ _

theorem out_B (hc0 : ¬cond0_0 i) (m : ℕ) (hm : m < 32) (j : S64x128.Idx) :
    out0_B_7 c i arg2 harg2 arg3 harg3 arg4 harg4 arg5 harg5 arg6 harg6 arg7 harg7 arg8 harg8 arg9 harg9 arg10 harg10 hc0 x0 x1 x2 x3 x4 x5 x6 xs0 ((tileRect m).toLoadRect.idx j)
      = outOf (k0_pay5 x4) x6 (rowsOf x1 (m / 4)) (rowsOf x0 (m / 4)) (rowsOf x2 (m / 4)) (rowsOf x3 (m / 4)) (k0_pay6 x5) m
          (heads (k0_pay5 x4) x6 (rowsOf x2) (rowsOf x1) (atHead xs0) (m / 4) (m % 4)) j := by
  unfold out0_B_7
  rw [View.read_writes_junk_eq_canon, results_B, boundIn_eq, rowsIn_eq, gainIn_eq, chunkOf_eq, chunkOf_eq, chunkOf_eq, chunkOf_eq]
  exact canon_results _ _ _ _ _ _ _ _ _ _ (fun n h => readB_early arg10 harg10 xs0 n h _) (fun n h L => readB_late arg10 harg10 xs0 n h L) 32 m le_rfl hm j

theorem state_B (hc0 : ¬cond0_0 i) (h : ℕ) (hh : h < 4) :
    atHead (sout0_B_0 c i arg2 harg2 arg3 harg3 arg4 harg4 arg5 harg5 arg6 harg6 arg7 harg7 arg8 harg8 arg9 harg9 arg10 harg10 hc0 x0 x1 x2 x3 x4 x5 x6 xs0) h = heads (k0_pay5 x4) x6 (rowsOf x2) (rowsOf x1) (atHead xs0) 8 h := by
  unfold sout0_B_0
  rw [View.read_writes_junk_eq_canon, states_B, boundIn_eq, rowsIn_eq, chunkOf_eq, chunkOf_eq]
  exact states_final _ _ _ _ _ _ _ (fun n h => readB_early arg10 harg10 xs0 n h _) (fun n h L => readB_late arg10 harg10 xs0 n h L) h hh

theorem out_A (hc0 : cond0_0 i) (m : ℕ) (hm : m < 32) (j : S64x128.Idx) :
    out0_A_7 c i arg2 harg2 arg3 harg3 arg4 harg4 arg5 harg5 arg6 harg6 arg7 harg7 arg8 harg8 arg9 harg9 arg10 harg10 hc0 x0 x1 x2 x3 x4 x5 x6 ((tileRect m).toLoadRect.idx j)
      = outOf (k0_pay5 x4) x6 (rowsOf x1 (m / 4)) (rowsOf x0 (m / 4)) (rowsOf x2 (m / 4)) (rowsOf x3 (m / 4)) (k0_pay6 x5) m
          (heads (k0_pay5 x4) x6 (rowsOf x2) (rowsOf x1) (atHead k0_pay4) (m / 4) (m % 4)) j := by
  unfold out0_A_7
  rw [View.read_writes_junk_eq_canon, results_A, boundIn_eq, rowsIn_eq, gainIn_eq, chunkOf_eq, chunkOf_eq, chunkOf_eq, chunkOf_eq]
  exact canon_results _ _ _ _ _ _ _ _ _ _ (fun n h => (readA_eq arg10 n _).trans (readA_early _ _ _ _ _ n h n le_rfl)) (fun n _ L => readA_eq arg10 n L) 32 m le_rfl hm j

theorem state_A (hc0 : cond0_0 i) (h : ℕ) (hh : h < 4) :
    atHead (sout0_A_0 c i arg2 harg2 arg3 harg3 arg4 harg4 arg5 harg5 arg6 harg6 arg7 harg7 arg8 harg8 arg9 harg9 arg10 harg10 hc0 x0 x1 x2 x3 x4 x5 x6) h = heads (k0_pay5 x4) x6 (rowsOf x2) (rowsOf x1) (atHead k0_pay4) 8 h := by
  unfold sout0_A_0
  rw [View.read_writes_junk_eq_canon, states_A, boundIn_eq, rowsIn_eq, chunkOf_eq, chunkOf_eq]
  exact states_final _ _ _ _ _ _ _ (fun n h => (readA_eq arg10 n _).trans (readA_early _ _ _ _ _ n h n le_rfl)) (fun n _ L => readA_eq arg10 n L) h hh

end Points

end Cert.HgrnIdeal.Chunk

end
-- ==== Proof.Hgrn.Takes.lean ====
/- Which of a chunk's 64 tokens each of the decay matrix's 512 rows sums over: eight groups of 64 rows. -/
module

public import Mathlib.Data.Fin.Basic

@[expose] public section

namespace Cert.HgrnIdeal.Table

/-- The last token of the first half of the pair of stretches of `n` tokens that `t` lies in. -/
abbrev turn (n t : ℕ) : ℕ := t / (2 * n) * (2 * n) + n - 1

/-- The tokens between token `t` and its turning point. -/
abbrev reach (n t j : ℕ) : Bool :=
  if t / n % 2 = 1 then decide (turn n t < j ∧ j ≤ t) else decide (t < j ∧ j ≤ turn n t)

/-- The tokens row `t` of group `G` of the matrix sums over. -/
abbrev takes (G t j : ℕ) : Bool :=
  match G with
  | 0 => decide (j ≤ t)
  | 1 => decide (t < j)
  | 2 => reach 32 t j
  | 3 => reach 16 t j
  | 4 => reach 8 t j
  | 5 => reach 4 t j
  | 6 => reach 2 t j
  | _ => reach 1 t j

end Cert.HgrnIdeal.Table

end
-- ==== Proof.Hgrn.Sums.lean ====
/- The recurrence over one chunk of 64 tokens of one head, on the extended reals, with the decays exponentials of real
   sums; and what those sums are between two tokens. -/
module

public import proofs.«01_k».proof.Proof.Common
public import proofs.«01_k».proof.Proof.Hgrn.Takes

@[expose] public section

noncomputable section

namespace Cert.HgrnSpec

open Idealize.ShloMosaic Cert.HgrnIdeal.Table

/-- The exponential of a real number. -/
def E (x : ℝ) : EReal := ((Real.exp x : ℝ) : EReal)

theorem E_mul (a b : ℝ) : E a * E b = E (a + b) := by
  unfold E
  rw [← EReal.coe_mul, Real.exp_add]

theorem E_zero : E 0 = 1 := by
  unfold E
  simp

/-- A sum of real numbers is real. -/
theorem coe_sum {ι : Type} (s : Finset ι) (f : ι → ℝ) : ((∑ j ∈ s, f j : ℝ) : EReal) = ∑ j ∈ s, (f j : EReal) := by
  classical
  induction s using Finset.induction_on with
  | empty => simp
  | insert a s ha ih => rw [Finset.sum_insert ha, Finset.sum_insert ha, EReal.coe_add, ih]

/-- The sum up to a token. -/
def cum (l : Fin 64 → ℝ) (n : ℕ) : ℝ := ∑ j : Fin 64, if j.val ≤ n then l j else 0

/-- The sum after one token up to another. -/
theorem between (l : Fin 64 → ℝ) {a b : ℕ} (h : a ≤ b) :
    (∑ j : Fin 64, if a < j.val ∧ j.val ≤ b then l j else 0) = cum l b - cum l a := by
  unfold cum
  rw [← Finset.sum_sub_distrib]
  refine Finset.sum_congr rfl fun j _ => ?_
  by_cases h1 : j.val ≤ a
  · rw [if_neg (by omega), if_pos (by omega), if_pos h1, sub_self]
  · by_cases h2 : j.val ≤ b
    · rw [if_pos (by omega), if_pos h2, if_neg h1, sub_zero]
    · rw [if_neg (by omega), if_neg h2, if_neg h1, sub_zero]

/-- What row `t` of group `G` of the decay matrix sums. -/
def rowSum (l : Fin 64 → ℝ) (G t : ℕ) : ℝ := ∑ j : Fin 64, if takes G t j.val = true then l j else 0

theorem rowSum_zero (l : Fin 64 → ℝ) (t : ℕ) : rowSum l 0 t = cum l t := by
  unfold rowSum cum
  simp [takes]

theorem rowSum_one (l : Fin 64 → ℝ) {t : ℕ} (ht : t < 64) : rowSum l 1 t = cum l 63 - cum l t := by
  rw [← between l (by omega : t ≤ 63)]
  refine Finset.sum_congr rfl fun j _ => ?_
  have := j.isLt
  by_cases h : t < j.val
  · rw [if_pos (by simpa [takes] using h), if_pos (by omega)]
  · rw [if_neg (by simpa [takes] using h), if_neg (by omega)]

/-- What a token's stretch to its turning point sums. -/
def reachSum (l : Fin 64 → ℝ) (n t : ℕ) : ℝ := ∑ j : Fin 64, if reach n t j.val = true then l j else 0

theorem reachSum_second (l : Fin 64 → ℝ) {n t : ℕ} (h : t / n % 2 = 1) (hr : turn n t ≤ t) : reachSum l n t = cum l t - cum l (turn n t) := by
  rw [← between l hr]
  unfold reachSum reach
  simp only [if_pos h, decide_eq_true_eq]

theorem reachSum_first (l : Fin 64 → ℝ) {n t : ℕ} (h : ¬ t / n % 2 = 1) (hr : t ≤ turn n t) : reachSum l n t = cum l (turn n t) - cum l t := by
  rw [← between l hr]
  unfold reachSum reach
  simp only [if_neg h, decide_eq_true_eq]

/-- Two tokens on either side of a common turning point. -/
theorem reachSum_pair (l : Fin 64 → ℝ) {n t s : ℕ} (ht : t / n % 2 = 1) (hs : s / n % 2 = 0) (e : turn n t = turn n s)
    (hrt : turn n t ≤ t) (hrs : s ≤ turn n s) : reachSum l n t + reachSum l n s = cum l t - cum l s := by
  rw [reachSum_second l ht hrt, reachSum_first l (by omega) hrs, e]
  ring

/-- Token `s`'s weight at token `t`. -/
def score (q k : Fin 64 → Fin 128 → EReal) (l : Fin 64 → Fin 128 → ℝ) (t s : Fin 64) : EReal :=
  if s.val ≤ t.val then ∑ d, q t d * k s d * E (cum (fun j => l j d) t.val - cum (fun j => l j d) s.val) else 0

/-- What the chunk's tokens read: of the state before the chunk, and of the chunk's own tokens. -/
def mix (q k : Fin 64 → Fin 128 → EReal) (l : Fin 64 → Fin 128 → ℝ) (v : Fin 64 → Fin 128 → EReal)
    (S : Fin 128 → Fin 128 → EReal) (t : Fin 64) (w : Fin 128) : EReal :=
  (∑ d, q t d * E (cum (fun j => l j d) t.val) * S d w) + ∑ s, score q k l t s * v s w

/-- The state after the chunk. -/
def next (k : Fin 64 → Fin 128 → EReal) (l : Fin 64 → Fin 128 → ℝ) (v : Fin 64 → Fin 128 → EReal)
    (S : Fin 128 → Fin 128 → EReal) (d w : Fin 128) : EReal :=
  E (cum (fun j => l j d) 63) * S d w
    + ∑ s : Fin 64, k s d * E (cum (fun j => l j d) 63 - cum (fun j => l j d) s.val) * v s w

end Cert.HgrnSpec

end
-- ==== Proof.Hgrn.Gates.lean ====
/- The chunk's gates, keys and queries at an entry. -/
module

public import proofs.«01_k».proof.Proof.Hgrn.Chunk
public import proofs.«01_k».proof.Proof.Hgrn.Sums
public import Idealize.ShloMosaic.Lib.Pointwise

@[expose] public section

set_option maxRecDepth 16384

noncomputable section

namespace Cert.HgrnIdeal.Chunk

open Cert.HgrnIdeal Cert.HgrnIdeal.Gen Idealize.ShloMosaic Idealize.ShloMosaic.Pointwise Cert.Common Cert.HgrnSpec Cert.HgrnIdeal.Table

theorem neg_log2e : (Named.named κ "neg_log2e" (φ := .f32) 0xBFB8AA3B#32 : Ideal .f32) = ((-((Real.log 2)⁻¹) : ℝ) : EReal) :=
  IdealRules.named_const.ideal_named_scalar _ _ _ _ rfl

theorem inv_ln2 : (Named.named κ "inv_ln2" (φ := .f32) 0x3FB8AA3B#32 : Ideal .f32) = (((Real.log 2)⁻¹ : ℝ) : EReal) :=
  IdealRules.named_const.ideal_named_scalar _ _ _ _ rfl

/-- The kernel's sigmoid is the logistic function. -/
theorem sig (x : EReal) :
    Ideal.div 1 (1 + FloatOps.exp2 (F := Ideal) (φ := .f32) (x * Named.named (F := Ideal) κ "neg_log2e" (φ := .f32) 0xBFB8AA3B#32))
      = Ideal.logistic x := by
  rw [neg_log2e]; exact sigmoid_eq x

theorem siluOf_apply (x : Vec Ideal S64x512 .bf16) (t : Fin 64) (c : Fin 512) :
    siluOf x (ix2 t c) = x (ix2 t c) * Ideal.logistic (x (ix2 t c)) := by
  pointwise [siluOf]
  exact congrArg (_ * ·) (sig _)

theorem gateOf_apply (lb : FVec Ideal S1x512 .f32) (f : Vec Ideal S64x512 .f32) (t : Fin 64) (c : Fin 512) :
    gateOf lb f (ix2 t c) = lb (ix2 0 c) + (1 - lb (ix2 0 c)) * Ideal.logistic (f (ix2 t c)) := by
  pointwise [gateOf]
  exact congrArg (fun y => _ + _ * y) (sig _)

theorem keyOf_apply (lb : FVec Ideal S1x512 .f32) (f : Vec Ideal S64x512 .f32) (t : Fin 64) (c : Fin 512) :
    keyOf lb f (ix2 t c) = 1 - gateOf lb f (ix2 t c) := by
  pointwise [keyOf]

theorem log_E (x : ℝ) : Ideal.log (E x) = (x : EReal) := by
  unfold E
  rw [Ideal.log_coe, if_neg (not_le.mpr (Real.exp_pos x)), Real.log_exp]

theorem exp2_scaled (x : ℝ) : Ideal.exp2 ((x * (Real.log 2)⁻¹ : ℝ) : EReal) = E x := by
  have hl : 0 < Real.log 2 := Real.log_pos (by norm_num)
  unfold E
  rw [Ideal.exp2_coe]
  congr 1
  show (2 : ℝ) ^ (x * (Real.log 2)⁻¹) = _
  rw [Real.rpow_def_of_pos (by norm_num)]
  congr 1
  field_simp

/-- A row of decays, at a column whose gates are exponentials: the exponential of the sum the row takes. -/
theorem decayOf_apply (lb : FVec Ideal S1x512 .f32) (em : Vec Ideal S512x192 .bf16) (f : Vec Ideal S64x512 .f32) (r c : Fin 512)
    (p : Fin 64 → Bool) (l : Fin 64 → ℝ) (hem : ∀ j : Fin 64, em (ix2 r ⟨j.val, by omega⟩) = if p j = true then (1 : EReal) else 0)
    (hg : ∀ s : Fin 64, gateOf lb f (ix2 s c) = E (l s)) :
    decayOf lb em f (ix2 r c) = E (∑ j : Fin 64, if p j = true then l j else 0) := by
  pointwise [decayOf, restOf, logOf]
  show Ideal.exp2 _ = _
  rw [← exp2_scaled]
  refine congrArg Ideal.exp2 ?_
  simp only [hg, log_E, inv_ln2]
  rw [Fin.sum_univ_add (a := 64) (b := 128)]
  rw [show (∑ i : Fin 128, _ : EReal) = 0 from Finset.sum_eq_zero fun i _ => ?_, add_zero]
  · rw [Finset.sum_mul, coe_sum]
    refine Finset.sum_congr rfl fun j _ => ?_
    rw [dif_pos (show (Fin.castAdd 128 j).val < 64 from j.isLt)]
    have e : em (ix2 r (Fin.castAdd 128 j)) = if p j = true then (1 : EReal) else 0 := hem j
    rw [e]
    by_cases h : p j = true
    · rw [if_pos h, if_pos h, one_mul, EReal.coe_mul]; rfl
    · rw [if_neg h, if_neg h, zero_mul, zero_mul]; rfl
  · rw [dif_neg (show ¬ (Fin.natAdd 64 i).val < 64 from by simp)]
    have z : ∀ x : ℝ, (x : EReal) * (((Real.log 2)⁻¹ : ℝ) : EReal) - (x : EReal) * (((Real.log 2)⁻¹ : ℝ) : EReal) = 0 := fun x => by
      rw [← EReal.coe_mul, ← EReal.coe_sub, sub_self, EReal.coe_zero]
    split
    · exact (congrArg (_ * ·) (z _)).trans (mul_zero _)
    · refine (congrArg (_ * ·) ((congrArg₂ (· - ·) (z _) (z _)).trans ?_)).trans (mul_zero _)
      simp

end Cert.HgrnIdeal.Chunk

end
-- ==== Proof.Hgrn.Levels.lean ====
/- The chunk's mixed rows and scores at an entry. -/
module

public import proofs.«01_k».proof.Proof.Hgrn.Gates

@[expose] public section

set_option maxRecDepth 16384

noncomputable section

namespace Cert.HgrnIdeal.Chunk

open Cert.HgrnIdeal Cert.HgrnIdeal.Gen Idealize.ShloMosaic Idealize.ShloMosaic.Pointwise Cert.Common Cert.HgrnSpec Cert.HgrnIdeal.Table

/-- A head's column among the 512. -/
abbrev headCol (h : ℕ) (d : Fin 128) : Fin 512 := ⟨128 * (h % 4) + d.val, by have := Nat.mod_lt h (by decide : 0 < 4); omega⟩

theorem colsOf_apply {t : FTy} (h : ℕ) (v : FVec Ideal S64x512 t) (r : Fin 64) (d : Fin 128) :
    colsOf h v (ix2 r d) = v (ix2 r (headCol h d)) := by
  pointwise [colsOf]

theorem gram_apply (a b : FVec Ideal S64x128 .bf16) (t s : Fin 64) : gram a b (ix2 t s) = ∑ d : Fin 128, a (ix2 t d) * b (ix2 s d) := by
  pointwise [gram]

theorem row_congr {t : FTy} (v : FVec Ideal S64x512 t) (c : Fin 512) (r r' : Fin 64) (h : r.val = r'.val) : v (ix2 r c) = v (ix2 r' c) := by
  rw [Fin.ext h]

section Rows

variable (lb : FVec Ideal S1x512 .f32) (em : Vec Ideal S512x192 .bf16) (f : Vec Ideal S64x512 .f32) (q : Vec Ideal S64x512 .bf16)

/-- A token's query in the second half of its pair of stretches of `n`, its key in the first. -/
def side (n : ℕ) (t : Fin 64) (c : Fin 512) : EReal := if t.val / n % 2 = 1 then siluOf q (ix2 t c) else keyOf lb f (ix2 t c)

theorem mix32_apply (t : Fin 64) (c : Fin 512) : mix32 lb f q (ix2 t c) = side lb f q 32 t c := by
  pointwise [mix32]
  unfold side
  by_cases hs : t.val / 32 % 2 = 1
  all_goals first | rw [if_pos hs] | rw [if_neg hs]
  all_goals split_ifs <;> first
    | rfl
    | (exfalso; omega)
    | (refine row_congr (siluOf q) c _ t ?_; dsimp only; omega)
    | (refine row_congr (keyOf lb f) c _ t ?_; dsimp only; omega)

theorem mix16_apply (t : Fin 64) (c : Fin 512) : mix16 lb f q (ix2 t c) = side lb f q 16 t c := by
  pointwise [mix16]
  unfold side
  by_cases hs : t.val / 16 % 2 = 1
  all_goals first | rw [if_pos hs] | rw [if_neg hs]
  all_goals split_ifs <;> first
    | rfl
    | (exfalso; omega)
    | (refine row_congr (siluOf q) c _ t ?_; dsimp only; omega)
    | (refine row_congr (keyOf lb f) c _ t ?_; dsimp only; omega)

theorem mix8_apply (t : Fin 64) (c : Fin 512) : mix8 lb f q (ix2 t c) = side lb f q 8 t c := by
  pointwise [mix8]
  unfold side
  by_cases hs : t.val / 8 % 2 = 1
  all_goals first | rw [if_pos hs] | rw [if_neg hs]
  all_goals split_ifs <;> first
    | rfl
    | (exfalso; omega)
    | (refine row_congr (siluOf q) c _ t ?_; dsimp only; omega)
    | (refine row_congr (keyOf lb f) c _ t ?_; dsimp only; omega)

theorem mixBit_apply (n : ℕ) (b : BitVec 32)
    (hb : ∀ t : Fin 64, IntOp.cmpi CmpIPredicate.ne (IntOp.andi (BitVec.ofNat 32 t.val) b) 0#32 = if t.val / n % 2 = 1 then 1#1 else 0#1)
    (t : Fin 64) (c : Fin 512) : mixBit lb f q b (ix2 t c) = side lb f q n t c := by
  pointwise [mixBit]
  rw [hb t]
  unfold side
  split_ifs <;> rfl

theorem lev32_apply (t : Fin 64) (c : Fin 512) :
    lev32 lb em f q (ix2 t c) = side lb f q 32 t c * decayOf lb em f (ix2 ⟨64 * 2 + t.val, by omega⟩ c) := by
  rw [← mix32_apply]
  pointwise [lev32]

theorem lev16_apply (t : Fin 64) (c : Fin 512) :
    lev16 lb em f q (ix2 t c) = side lb f q 16 t c * decayOf lb em f (ix2 ⟨64 * 3 + t.val, by omega⟩ c) := by
  rw [← mix16_apply]
  pointwise [lev16]

theorem lev8_apply (t : Fin 64) (c : Fin 512) :
    lev8 lb em f q (ix2 t c) = side lb f q 8 t c * decayOf lb em f (ix2 ⟨64 * 4 + t.val, by omega⟩ c) := by
  rw [← mix8_apply]
  pointwise [lev8]

theorem lev4_apply (t : Fin 64) (c : Fin 512) :
    lev4 lb em f q (ix2 t c) = side lb f q 4 t c * decayOf lb em f (ix2 ⟨64 * 5 + t.val, by omega⟩ c) := by
  rw [← mixBit_apply lb f q 4 4#32 (by decide +kernel)]
  pointwise [lev4]

theorem lev2_apply (t : Fin 64) (c : Fin 512) :
    lev2 lb em f q (ix2 t c) = side lb f q 2 t c * decayOf lb em f (ix2 ⟨64 * 6 + t.val, by omega⟩ c) := by
  rw [← mixBit_apply lb f q 2 2#32 (by decide +kernel)]
  pointwise [lev2]

theorem lev1_apply (t : Fin 64) (c : Fin 512) :
    lev1 lb em f q (ix2 t c) = side lb f q 1 t c * decayOf lb em f (ix2 ⟨64 * 7 + t.val, by omega⟩ c) := by
  rw [← mixBit_apply lb f q 1 1#32 (by decide +kernel)]
  pointwise [lev1]

end Rows

/-! Which level a pair of tokens is at. -/

/-- Two tokens whose numbers differ in a bit of at least `b`. -/
abbrev apart (b : BitVec 32) (t s : Fin 64) : BitVec 1 := IntOp.cmpi CmpIPredicate.sge (IntOp.xori (BitVec.ofNat 32 t.val) (BitVec.ofNat 32 s.val)) b

theorem differ_apply (b : BitVec 32) (t s : Fin 64) : differ b (ix2 t s) = apart b t s := by
  pointwise [differ]

/-- Two tokens on either side of the turning point of one pair of stretches of `n`. -/
abbrev Across (n : ℕ) (t s : Fin 64) : Prop :=
  t.val / n % 2 = 1 ∧ s.val / n % 2 = 0 ∧ turn n t.val = turn n s.val ∧ turn n t.val ≤ t.val ∧ s.val ≤ turn n s.val

theorem causal_iff : ∀ t s : Fin 64, IntOp.cmpi CmpIPredicate.sge (BitVec.ofNat 32 t.val) (BitVec.ofNat 32 s.val) = if s.val ≤ t.val then 1#1 else 0#1 := by
  decide +kernel

theorem across32 : ∀ t s : Fin 64, s.val ≤ t.val → apart 32#32 t s = 1#1 → Across 32 t s := by decide +kernel
theorem across16 : ∀ t s : Fin 64, s.val ≤ t.val → ¬ apart 32#32 t s = 1#1 → apart 16#32 t s = 1#1 → Across 16 t s := by decide +kernel
theorem across8 : ∀ t s : Fin 64, s.val ≤ t.val → ¬ apart 16#32 t s = 1#1 → apart 8#32 t s = 1#1 → Across 8 t s := by decide +kernel
theorem across4 : ∀ t s : Fin 64, s.val ≤ t.val → ¬ apart 8#32 t s = 1#1 → apart 4#32 t s = 1#1 → Across 4 t s := by decide +kernel
theorem across2 : ∀ t s : Fin 64, s.val ≤ t.val → ¬ apart 4#32 t s = 1#1 → apart 2#32 t s = 1#1 → Across 2 t s := by decide +kernel
theorem across1 : ∀ t s : Fin 64, s.val ≤ t.val → ¬ apart 2#32 t s = 1#1 → apart 1#32 t s = 1#1 → Across 1 t s := by decide +kernel
theorem same_token : ∀ t s : Fin 64, ¬ apart 1#32 t s = 1#1 → t = s := by decide +kernel

theorem select_one {α : Type} {c : BitVec 1} (h : c = 1#1) (a b : α) : Scalar.select c a b = a := by subst h; rfl
theorem select_zero {α : Type} {c : BitVec 1} (h : ¬ c = 1#1) (a b : α) : Scalar.select c a b = b := if_neg h

end Cert.HgrnIdeal.Chunk

end
-- ==== Proof.Hgrn.Scores.lean ====
/- The kernel's chunk is the recurrence's: its scores, its mixed values, its state and its result at an entry. -/
module

public import proofs.«01_k».proof.Proof.Hgrn.Levels

@[expose] public section

set_option maxRecDepth 16384

noncomputable section

namespace Cert.HgrnIdeal.Chunk

open Cert.HgrnIdeal Cert.HgrnIdeal.Gen Idealize.ShloMosaic Idealize.ShloMosaic.Pointwise Cert.Common Cert.HgrnSpec Cert.HgrnIdeal.Table

variable (lb : FVec Ideal S1x512 .f32) (em : Vec Ideal S512x192 .bf16) (f : Vec Ideal S64x512 .f32) (q : Vec Ideal S64x512 .bf16)

/-- The decay matrix is the one of `takes`. -/
abbrev IsTakes : Prop :=
  ∀ (G : Fin 8) (t j : Fin 64), em (ix2 ⟨64 * G.val + t.val, by omega⟩ ⟨j.val, by omega⟩) = if takes G.val t.val j.val = true then (1 : EReal) else 0

/-- The chunk's gates are the exponentials of `l`. -/
abbrev IsGate (l : Fin 64 → Fin 512 → ℝ) : Prop := ∀ (s : Fin 64) (c : Fin 512), gateOf lb f (ix2 s c) = E (l s c)

/-- A head's queries, keys, logarithms and values. -/
abbrev headOf {α : Type} (h : ℕ) (x : Fin 64 → Fin 512 → α) (t : Fin 64) (d : Fin 128) : α := x t (headCol h d)

variable {lb em f} {l : Fin 64 → Fin 512 → ℝ} (hem : IsTakes em) (hg : IsGate lb f l)
include hem hg

theorem decay_apply (G : Fin 8) (t : Fin 64) (c : Fin 512) :
    decayOf lb em f (ix2 ⟨64 * G.val + t.val, by omega⟩ c) = E (rowSum (fun j => l j c) G.val t.val) :=
  decayOf_apply lb em f ⟨64 * G.val + t.val, by omega⟩ c (fun j => takes G.val t.val j.val) (fun j => l j c) (hem G t) (fun s => hg s c)

/-- One level's products. -/
theorem level (h n : ℕ) (G : Fin 8) (u : FVec Ideal S64x512 .bf16)
    (hu : ∀ (t : Fin 64) (c : Fin 512), u (ix2 t c) = side lb f q n t c * decayOf lb em f (ix2 ⟨64 * G.val + t.val, by omega⟩ c))
    (hG : ∀ (l : Fin 64 → ℝ) (t : ℕ), rowSum l G.val t = reachSum l n t) (t s : Fin 64) (ha : Across n t s) :
    gram (colsOf h u) (colsOf h u) (ix2 t s)
      = ∑ d : Fin 128, siluOf q (ix2 t (headCol h d)) * keyOf lb f (ix2 s (headCol h d))
          * E (cum (fun j => l j (headCol h d)) t.val - cum (fun j => l j (headCol h d)) s.val) := by
  obtain ⟨h1, h2, h3, h4, h5⟩ := ha
  rw [gram_apply]
  refine Finset.sum_congr rfl fun d _ => ?_
  rw [colsOf_apply, colsOf_apply, hu, hu, decay_apply hem hg, decay_apply hem hg, hG, hG, mul_mul_mul_comm, E_mul,
    reachSum_pair _ h1 h2 h3 h4 h5]
  unfold side
  rw [if_pos h1, if_neg (by omega)]

theorem scoreOf_apply (h : ℕ) (t s : Fin 64) :
    scoreOf lb em f q h (ix2 t s)
      = score (headOf h fun t c => siluOf q (ix2 t c)) (headOf h fun t c => keyOf lb f (ix2 t c)) (headOf h l) t s := by
  pointwise [scoreOf]
  simp only [differ_apply]
  rw [causal_iff]
  unfold score
  by_cases hc : s.val ≤ t.val
  swap
  · rw [if_neg hc, if_neg hc]; rfl
  rw [if_pos hc, if_pos hc, select_one rfl]
  by_cases h32 : apart 32#32 t s = 1#1
  · rw [select_one h32]
    exact level q hem hg h 32 2 _ (lev32_apply lb em f q) (fun _ _ => rfl) t s (across32 t s hc h32)
  rw [select_zero h32]
  by_cases h16 : apart 16#32 t s = 1#1
  · rw [select_one h16]
    exact level q hem hg h 16 3 _ (lev16_apply lb em f q) (fun _ _ => rfl) t s (across16 t s hc h32 h16)
  rw [select_zero h16]
  by_cases h8 : apart 8#32 t s = 1#1
  · rw [select_one h8]
    exact level q hem hg h 8 4 _ (lev8_apply lb em f q) (fun _ _ => rfl) t s (across8 t s hc h16 h8)
  rw [select_zero h8]
  by_cases h4 : apart 4#32 t s = 1#1
  · rw [select_one h4]
    exact level q hem hg h 4 5 _ (lev4_apply lb em f q) (fun _ _ => rfl) t s (across4 t s hc h8 h4)
  rw [select_zero h4]
  by_cases h2 : apart 2#32 t s = 1#1
  · rw [select_one h2]
    exact level q hem hg h 2 6 _ (lev2_apply lb em f q) (fun _ _ => rfl) t s (across2 t s hc h4 h2)
  rw [select_zero h2]
  by_cases h1 : apart 1#32 t s = 1#1
  · rw [select_one h1]
    exact level q hem hg h 1 7 _ (lev1_apply lb em f q) (fun _ _ => rfl) t s (across1 t s hc h2 h1)
  rw [select_zero h1]
  obtain rfl := same_token t s h1
  rw [gram_apply]
  refine Finset.sum_congr rfl fun d _ => ?_
  rw [colsOf_apply, colsOf_apply, sub_self, E_zero, mul_one]
  rfl

theorem mixedOf_apply (v : Vec Ideal S64x512 .bf16) (h : ℕ) (st : Vec Ideal S1x128x128 .f32) (t : Fin 64) (w : Fin 128) :
    mixedOf lb em f q v h st (ix2 t w)
      = mix (headOf h fun t c => siluOf q (ix2 t c)) (headOf h fun t c => keyOf lb f (ix2 t c)) (headOf h l)
          (headOf h fun t c => v (ix2 t c)) (fun d w => st (ix3 0 w d)) t w := by
  have hq : ∀ d : Fin 128, colsOf h (earlyQuery lb em f q) (ix2 t d)
      = siluOf q (ix2 t (headCol h d)) * E (cum (fun j => l j (headCol h d)) t.val) := fun d => by
    have e : earlyQuery lb em f q (ix2 t (headCol h d))
        = siluOf q (ix2 t (headCol h d)) * decayOf lb em f (ix2 ⟨t.val, by omega⟩ (headCol h d)) := by
      pointwise [earlyQuery]
    have e2 : decayOf lb em f (ix2 ⟨t.val, by omega⟩ (headCol h d)) = decayOf lb em f (ix2 ⟨64 * (0 : Fin 8).val + t.val, by omega⟩ (headCol h d)) :=
      congrArg (fun r => decayOf lb em f (ix2 r (headCol h d))) (Fin.ext (show t.val = 64 * 0 + t.val by omega))
    rw [colsOf_apply, e, e2, decay_apply hem hg 0 t]
    exact congrArg (fun x => _ * E x) (rowSum_zero _ _)
  pointwise [mixedOf]
  unfold mix
  refine congrArg₂ (· + ·) (Finset.sum_congr rfl fun d _ => ?_) (Finset.sum_congr rfl fun s _ => ?_)
  · rw [hq]
  · rw [scoreOf_apply q hem hg, colsOf_apply]

theorem nextState_apply (v : Vec Ideal S64x512 .bf16) (h : ℕ) (st : Vec Ideal S1x128x128 .f32) (w d : Fin 128) :
    nextState lb em f v h st (ix3 0 w d)
      = next (headOf h fun t c => keyOf lb f (ix2 t c)) (headOf h l) (headOf h fun t c => v (ix2 t c)) (fun d w => st (ix3 0 w d)) d w := by
  have hk : ∀ s : Fin 64, colsOf h (lateKey lb em f) (ix2 s d)
      = keyOf lb f (ix2 s (headCol h d)) * E (cum (fun j => l j (headCol h d)) 63 - cum (fun j => l j (headCol h d)) s.val) := fun s => by
    have e : lateKey lb em f (ix2 s (headCol h d))
        = keyOf lb f (ix2 s (headCol h d)) * decayOf lb em f (ix2 ⟨64 * (1 : Fin 8).val + s.val, by omega⟩ (headCol h d)) := by
      pointwise [lateKey]
    rw [colsOf_apply, e, decay_apply hem hg 1 s]
    exact congrArg (fun x => _ * E x) (rowSum_one _ s.isLt)
  have hd : decayOf lb em f (ix2 63 (headCol h d)) = E (cum (fun j => l j (headCol h d)) 63) := by
    rw [← rowSum_zero]
    exact decay_apply hem hg 0 63 (headCol h d)
  pointwise [nextState, lastCols, lastOf]
  unfold next
  refine congrArg₂ (· + ·) ?_ (Finset.sum_congr rfl fun s _ => ?_)
  · rw [mul_comm]
    exact congrArg (· * _) hd
  · rw [hk, colsOf_apply, mul_comm]

omit hem hg in
theorem outOf_apply (v g : Vec Ideal S64x512 .bf16) (og : FVec Ideal S1x128 .f32) (h : ℕ) (st : Vec Ideal S1x128x128 .f32) (t : Fin 64) (w : Fin 128) :
    outOf lb em f q v g og h st (ix2 t w)
      = mixedOf lb em f q v h st (ix2 t w)
          * Ideal.rsqrt (Ideal.div (∑ x, mixedOf lb em f q v h st (ix2 t x) * mixedOf lb em f q v h st (ix2 t x)) (Ideal.ofBits .f32 0x43000000#32)
              + Ideal.ofBits .f32 0x358637BD#32)
          * og (ix2 0 w) * siluOf g (ix2 t (headCol h w)) := by
  pointwise [outOf, normed]
  rw [colsOf_apply]

end Cert.HgrnIdeal.Chunk

end
-- ==== Proof.Hgrn.Layer.lean ====
/- The recurrence over the whole layer: its gates, its states chunk after chunk of every sequence, and its result at an
   entry, as functions of the layer's arguments. -/
module

public import proofs.«01_k».proof.Proof.Hgrn.Sums

@[expose] public section

noncomputable section

namespace Cert.HgrnSpec

open Idealize.ShloMosaic

/-- The row of a token of a chunk of a sequence. -/
abbrev rowAt (b n : ℕ) (t : Fin 64) : Fin 32768 :=
  ⟨4096 * (b % 8) + 64 * (n % 64) + t.val, by
    have := Nat.mod_lt b (by decide : 0 < 8); have := Nat.mod_lt n (by decide : 0 < 64); omega⟩

/-- A head's column. -/
abbrev colAt (h : ℕ) (d : Fin 128) : Fin 512 := ⟨128 * (h % 4) + d.val, by have := Nat.mod_lt h (by decide : 0 < 4); omega⟩

/-- A chunk of a head of a sequence. -/
abbrev part {α : Type} (x : Fin 32768 → Fin 512 → α) (b n h : ℕ) (t : Fin 64) (d : Fin 128) : α := x (rowAt b n t) (colAt h d)

/-- A value times its logistic weight. -/
def sil (x : EReal) : EReal := x * Ideal.logistic x

section Layer

variable (lb : Fin 512 → EReal) (q f v g : Fin 32768 → Fin 512 → EReal) (og : Fin 128 → EReal)

/-- The forget gates. -/
def gate (R : Fin 32768) (c : Fin 512) : EReal := lb c + (1 - lb c) * Ideal.logistic (f R c)

/-- Their logarithms. -/
def logs (R : Fin 32768) (c : Fin 512) : ℝ := Real.log (gate lb f R c).toReal

/-- The keys. -/
def keys (R : Fin 32768) (c : Fin 512) : EReal := 1 - gate lb f R c

/-- The queries. -/
def queries (R : Fin 32768) (c : Fin 512) : EReal := sil (q R c)

/-- A head's state before chunk `n` of sequence `b`. -/
def stateAt (b h : ℕ) (n : ℕ) : Fin 128 → Fin 128 → EReal :=
  Nat.rec (fun _ _ => 0) (fun n S => next (part (keys lb f) b n h) (part (logs lb f) b n h) (part v b n h) S) n

theorem stateAt_succ (b h n : ℕ) : stateAt lb f v b h (n + 1)
    = next (part (keys lb f) b n h) (part (logs lb f) b n h) (part v b n h) (stateAt lb f v b h n) := rfl

/-- What the tokens of chunk `n` read. -/
def mixAt (b h n : ℕ) : Fin 64 → Fin 128 → EReal :=
  mix (part (queries q) b n h) (part (keys lb f) b n h) (part (logs lb f) b n h) (part v b n h) (stateAt lb f v b h n)

/-- The result at token `t` of chunk `n` of sequence `b`, at column `w` of head `h`. -/
def resultAt (b h n : ℕ) (t : Fin 64) (w : Fin 128) : EReal :=
  mixAt lb q f v b h n t w
    * Ideal.rsqrt (Ideal.div (∑ x, mixAt lb q f v b h n t x * mixAt lb q f v b h n t x) (Ideal.ofBits .f32 0x43000000#32)
        + Ideal.ofBits .f32 0x358637BD#32)
    * og w * sil (part g b n h t w)

/-- Where the lower bounds are real numbers in the unit interval, the gates are the exponentials of their logarithms. -/
theorem gate_eq (R : Fin 32768) (c : Fin 512) (r : ℝ) (h0 : 0 < r) (h1 : r < 1) (hr : lb c = (r : EReal)) :
    gate lb f R c = E (logs lb f R c) := by
  obtain ⟨s, hs0, hs⟩ : ∃ s : ℝ, 0 ≤ s ∧ Ideal.logistic (f R c) = (s : EReal) := by
    induction f R c using EReal.rec with
    | bot => exact ⟨0, le_refl _, by simp⟩
    | top => exact ⟨1, by norm_num, by simp⟩
    | coe x => exact ⟨_, le_of_lt (inv_pos.mpr (by positivity : (0 : ℝ) < 1 + Real.exp (-x))), by simp⟩
  have e : gate lb f R c = ((r + (1 - r) * s : ℝ) : EReal) := by
    unfold gate
    rw [hr, hs]
    norm_cast
  have hp : 0 < r + (1 - r) * s := by
    have : 0 ≤ (1 - r) * s := mul_nonneg (by linarith) hs0
    linarith
  unfold logs E
  rw [e, EReal.toReal_coe, Real.exp_log hp]

end Layer

end Cert.HgrnSpec

end
-- ==== Proof.Hgrn.LowerBound.lean ====
/- The lower bound of a column's gates, from the column's two logits: the first weight of their softmax. -/
module

public import Idealize.ShloMosaic.PureOps.Ideal
public import Idealize.ShloMosaic.PureOps.Ideal.Laws

@[expose] public section

noncomputable section

namespace Cert.HgrnSpec

open Idealize.ShloMosaic

/-- The larger logit. -/
def peak (x : Fin 2 → EReal) : EReal := Finset.univ.fold max (Ideal.ofBits .f32 0xFF800000#32) x

/-- The first softmax weight. -/
def lowerBound (x : Fin 2 → EReal) : EReal := Ideal.div (Ideal.exp (x 0 - peak x)) (∑ i, Ideal.exp (x i - peak x))

theorem neg_inf : Ideal.ofBits .f32 0xFF800000#32 = (⊥ : EReal) := by
  simp [Ideal.ofBits, Ideal.ieee]

theorem peak_eq (x : Fin 2 → EReal) : peak x = max (x 0) (x 1) := by
  unfold peak
  rw [show (Finset.univ : Finset (Fin 2)) = {0, 1} from rfl, Finset.fold_insert (by decide), Finset.fold_singleton, neg_inf,
    max_eq_left bot_le]

/-- Of real logits it is a real number in the unit interval. -/
theorem lowerBound_real (x : Fin 2 → EReal) (r : Fin 2 → ℝ) (hr : ∀ i, x i = (r i : EReal)) :
    ∃ y : ℝ, 0 < y ∧ y < 1 ∧ lowerBound x = (y : EReal) := by
  obtain ⟨m, hm⟩ : ∃ m : ℝ, peak x = (m : EReal) := by
    rw [peak_eq, hr, hr]
    rcases le_total (r 0) (r 1) with h | h
    · exact ⟨r 1, max_eq_right (EReal.coe_le_coe_iff.mpr h)⟩
    · exact ⟨r 0, max_eq_left (EReal.coe_le_coe_iff.mpr h)⟩
  have e : ∀ i, Ideal.exp (x i - peak x) = ((Real.exp (r i - m) : ℝ) : EReal) := fun i => by
    rw [hr, hm, ← EReal.coe_sub, Ideal.exp_coe]
  have h0 := Real.exp_pos (r 0 - m)
  have h1 := Real.exp_pos (r 1 - m)
  have hs : 0 < Real.exp (r 0 - m) + Real.exp (r 1 - m) := by linarith
  refine ⟨Real.exp (r 0 - m) * (Real.exp (r 0 - m) + Real.exp (r 1 - m))⁻¹, mul_pos h0 (inv_pos.mpr hs), ?_, ?_⟩
  · rw [← div_eq_mul_inv, div_lt_one hs]
    linarith
  · unfold lowerBound
    rw [Fin.sum_univ_two, e, e, ← EReal.coe_add]
    have hne : ((Real.exp (r 0 - m) + Real.exp (r 1 - m) : ℝ) : EReal) ≠ 0 := by
      intro h
      exact hs.ne' (EReal.coe_eq_zero.mp h)
    rw [Ideal.div, if_neg hne, ← EReal.coe_inv, ← EReal.coe_mul]

end Cert.HgrnSpec

end
-- ==== Proof.Hgrn.Sweep.lean ====
/- The eight chunks of a block: the states they pass on and the results they leave, where the block's entries are those of
   the layer's arrays. -/
module

public import proofs.«01_k».proof.Proof.Hgrn.Point
public import proofs.«01_k».proof.Proof.Hgrn.Scores
public import proofs.«01_k».proof.Proof.Hgrn.Layer
public import proofs.«01_k».proof.Proof.Hgrn.LowerBound

@[expose] public section

set_option maxRecDepth 16384

noncomputable section

namespace Cert.HgrnIdeal.Chunk

open Cert.HgrnIdeal Cert.HgrnIdeal.Gen Idealize.ShloMosaic Idealize.ShloMosaic.Pointwise Cert.HgrnSpec

/-- The lower bounds, as the kernel computes them. -/
theorem bound_apply (x : Vec Ideal S2x512 .f32) (c : Fin 512) : k0_pay5 x (ix2 0 c) = lowerBound fun i => x (ix2 i c) := by
  pointwise [k0_pay5]
  rw [Fin.sum_univ_one]
  rfl

theorem gain_apply (x : Vec Ideal S1x128 .f32) (w : Fin 128) : k0_pay6 x (ix2 0 w) = x (ix2 0 w) := by
  pointwise [k0_pay6]

theorem rowsOf_apply {e : EltTy} (x : S512x512.Idx → Elt Ideal e) (k : ℕ) (s : Fin 64) (c : Fin 512) :
    rowsOf x k (ix2 s c) = x (ix2 ⟨64 * (k % 8) + s.val, by have := Nat.mod_lt k (by decide : 0 < 8); omega⟩ c) := by
  unfold rowsOf
  refine congrArg x (funext fun a => Fin.ext ?_)
  match a with
  | ⟨0, _⟩ => show 64 * (k % 8) + 1 * s.val = 64 * (k % 8) + s.val; omega
  | ⟨1, _⟩ => show 0 + 1 * c.val = c.val; omega

section Block

variable (lb : FVec Ideal S1x512 .f32) (em : Vec Ideal S512x192 .bf16) (x0 x2 x3 : Vec Ideal S512x512 .bf16) (x1 : Vec Ideal S512x512 .f32)
  (L : Fin 512 → EReal) (q f v g : Fin 32768 → Fin 512 → EReal) (b T : ℕ)

/-- The row of a block's row in the layer's arrays. -/
abbrev rowIn (r : Fin 512) : Fin 32768 :=
  ⟨4096 * (b % 8) + 512 * (T % 8) + r.val, by
    have := Nat.mod_lt b (by decide : 0 < 8); have := Nat.mod_lt T (by decide : 0 < 8); omega⟩

/-- The block's entries are the layer's. -/
structure Fits : Prop where
  rows : IsTakes em
  bound : ∀ c, lb (ix2 0 c) = L c
  queries : ∀ r c, x0 (ix2 r c) = q (rowIn b T r) c
  gates : ∀ r c, x1 (ix2 r c) = f (rowIn b T r) c
  values : ∀ r c, x2 (ix2 r c) = v (rowIn b T r) c
  outs : ∀ r c, x3 (ix2 r c) = g (rowIn b T r) c
  real : ∀ R c, gate L f R c = E (logs L f R c)

variable {lb em x0 x2 x3 x1 L q f v g b T} (H : Fits lb em x0 x2 x3 x1 L q f v g b T)
include H

omit H in
theorem row_at (k : ℕ) (hk : k < 8) (s : Fin 64) (hr) : rowIn b T ⟨64 * (k % 8) + s.val, hr⟩ = rowAt b (8 * (T % 8) + k) s := by
  apply Fin.ext
  dsimp only
  have := Nat.mod_lt T (by decide : 0 < 8)
  omega

theorem gate_chunk (k : ℕ) (hk : k < 8) (s : Fin 64) (c : Fin 512) : gateOf lb (rowsOf x1 k) (ix2 s c) = gate L f (rowAt b (8 * (T % 8) + k) s) c := by
  rw [gateOf_apply, rowsOf_apply, H.bound, H.gates, row_at k hk]
  rfl

theorem isGate (k : ℕ) (hk : k < 8) : IsGate lb (rowsOf x1 k) (fun s c => logs L f (rowAt b (8 * (T % 8) + k) s) c) := fun s c => by
  rw [gate_chunk H k hk, H.real]

theorem keys_chunk (k : ℕ) (hk : k < 8) (h : ℕ) :
    (headOf h fun t c => keyOf lb (rowsOf x1 k) (ix2 t c)) = part (keys L f) b (8 * (T % 8) + k) h :=
  funext fun t => funext fun d => by
    show keyOf lb (rowsOf x1 k) (ix2 t (headCol h d)) = _
    rw [keyOf_apply, gate_chunk H k hk]
    rfl

theorem queries_chunk (k : ℕ) (hk : k < 8) (h : ℕ) :
    (headOf h fun t c => siluOf (rowsOf x0 k) (ix2 t c)) = part (queries q) b (8 * (T % 8) + k) h :=
  funext fun t => funext fun d => by
    show siluOf (rowsOf x0 k) (ix2 t (headCol h d)) = _
    rw [siluOf_apply, rowsOf_apply, H.queries, row_at k hk]
    rfl

theorem values_chunk (k : ℕ) (hk : k < 8) (h : ℕ) :
    (headOf h fun t c => rowsOf x2 k (ix2 t c)) = part v b (8 * (T % 8) + k) h :=
  funext fun t => funext fun d => by
    show rowsOf x2 k (ix2 t (headCol h d)) = _
    rw [rowsOf_apply, H.values, row_at k hk]

theorem outs_chunk (k : ℕ) (hk : k < 8) (h : ℕ) (t : Fin 64) (w : Fin 128) :
    siluOf (rowsOf x3 k) (ix2 t (headCol h w)) = sil (part g b (8 * (T % 8) + k) h t w) := by
  rw [siluOf_apply, rowsOf_apply, H.outs, row_at k hk]
  rfl

/-- The states between the chunks. -/
theorem heads_apply (init : ℕ → Vec Ideal S1x128x128 .f32) (h : ℕ)
    (hi : ∀ d w : Fin 128, init h (ix3 0 w d) = stateAt L f v b h (8 * (T % 8)) d w) :
    ∀ k : ℕ, k ≤ 8 → ∀ d w : Fin 128, heads lb em (rowsOf x2) (rowsOf x1) init k h (ix3 0 w d) = stateAt L f v b h (8 * (T % 8) + k) d w
  | 0, _, d, w => hi d w
  | k + 1, hk, d, w => by
    have hk' : k < 8 := by omega
    refine (nextState_apply H.rows (isGate H k hk') (rowsOf x2 k) h _ w d).trans ?_
    rw [keys_chunk H k hk', values_chunk H k hk']
    refine (congrArg (fun S => next _ _ _ S d w) (funext fun d => funext fun w => heads_apply init h hi k (by omega) d w)).trans ?_
    rfl

/-- The results. -/
theorem result_chunk (og : FVec Ideal S1x128 .f32) (init : ℕ → Vec Ideal S1x128x128 .f32) (m : ℕ) (hm : m < 32)
    (hi : ∀ d w : Fin 128, init (m % 4) (ix3 0 w d) = stateAt L f v b (m % 4) (8 * (T % 8)) d w) (t : Fin 64) (w : Fin 128) :
    outOf lb em (rowsOf x1 (m / 4)) (rowsOf x0 (m / 4)) (rowsOf x2 (m / 4)) (rowsOf x3 (m / 4)) og m
        (heads lb em (rowsOf x2) (rowsOf x1) init (m / 4) (m % 4)) (ix2 t w)
      = resultAt L q f v g (fun w => og (ix2 0 w)) b (m % 4) (8 * (T % 8) + m / 4) t w := by
  have hk : m / 4 < 8 := by omega
  have hmix : ∀ x : Fin 128, mixedOf lb em (rowsOf x1 (m / 4)) (rowsOf x0 (m / 4)) (rowsOf x2 (m / 4)) m
      (heads lb em (rowsOf x2) (rowsOf x1) init (m / 4) (m % 4)) (ix2 t x) = mixAt L q f v b (m % 4) (8 * (T % 8) + m / 4) t x := fun x => by
    refine (mixedOf_apply (rowsOf x0 (m / 4)) H.rows (isGate H (m / 4) hk) (rowsOf x2 (m / 4)) m _ t x).trans ?_
    have hc : ∀ d, headCol (m % 4) d = headCol m d := fun d => Fin.ext (by show 128 * (m % 4 % 4) + d.val = 128 * (m % 4) + d.val; omega)
    have hh : ∀ {α : Type} (y : Fin 64 → Fin 512 → α), headOf m y = headOf (m % 4) y := fun y =>
      funext fun t => funext fun d => congrArg (y t) (hc d).symm
    rw [hh, hh, hh, hh, keys_chunk H _ hk, queries_chunk H _ hk, values_chunk H _ hk]
    refine (congrArg (fun S => mix _ _ _ _ S t x) (funext fun d => funext fun w => heads_apply H init (m % 4) hi (m / 4) (by omega) d w)).trans ?_
    rfl
  rw [outOf_apply]
  have ho := outs_chunk H (m / 4) hk (m % 4) t w
  have hc : headCol (m % 4) w = headCol m w := Fin.ext (by show 128 * (m % 4 % 4) + w.val = 128 * (m % 4) + w.val; omega)
  rw [hc] at ho
  rw [ho]
  simp only [hmix]
  rfl

end Block

end Cert.HgrnIdeal.Chunk

end
-- ==== Proof.Hgrn.Good.lean ====
/- What the decay matrix holds. -/
module

public import proofs.«01_k».proof.HgrnIdeal
public import proofs.«01_k».proof.Proof.Hgrn.Takes

@[expose] public section

set_option maxRecDepth 65536

noncomputable section

namespace Cert.HgrnIdeal.Table

open Cert.HgrnIdeal Idealize.ShloMosaic

/-- Group `G` of the matrix has ones in its first 64 columns where `takes` says so, and zeros elsewhere. -/
abbrev Good (G : ℕ) : Prop :=
  ∀ t j : Fin 64, lit0t (192 * (64 * G + t.val) + j.val) = if takes G t.val j.val then 0x3F80#16 else 0#16

end Cert.HgrnIdeal.Table

end
-- ==== Proof.Hgrn.TableLow.lean ====
/- The first four groups of the decay matrix, entry by entry. -/
module

public import proofs.«01_k».proof.Proof.Hgrn.Good

@[expose] public section

set_option maxRecDepth 65536

noncomputable section

namespace Cert.HgrnIdeal.Table

open Cert.HgrnIdeal Idealize.ShloMosaic

theorem good0 : Good 0 := by decide +kernel
theorem good1 : Good 1 := by decide +kernel
theorem good2 : Good 2 := by decide +kernel
theorem good3 : Good 3 := by decide +kernel

end Cert.HgrnIdeal.Table

end
-- ==== Proof.Hgrn.TableHigh.lean ====
/- The last four groups of the decay matrix, entry by entry. -/
module

public import proofs.«01_k».proof.Proof.Hgrn.Good

@[expose] public section

set_option maxRecDepth 65536

noncomputable section

namespace Cert.HgrnIdeal.Table

open Cert.HgrnIdeal Idealize.ShloMosaic

theorem good4 : Good 4 := by decide +kernel
theorem good5 : Good 5 := by decide +kernel
theorem good6 : Good 6 := by decide +kernel
theorem good7 : Good 7 := by decide +kernel

end Cert.HgrnIdeal.Table

end
-- ==== Proof.Hgrn.Windows.lean ====
/- The kernel's windows: at grid point `t` the token inputs are rows `512 t … 512 t + 511` of their arrays, and the other
   inputs are whole. -/
module

public import proofs.«01_k».proof.Proof.Gen.HgrnIdeal.Value
public import proofs.«01_k».proof.Proof.Hgrn.Sweep
public import proofs.«01_k».proof.Proof.Hgrn.TableLow
public import proofs.«01_k».proof.Proof.Hgrn.TableHigh

@[expose] public section

set_option maxRecDepth 16384

noncomputable section

namespace Cert.HgrnIdeal.Windows

open Cert.HgrnIdeal Cert.HgrnIdeal.Gen Cert.HgrnIdeal.Chunk Cert.HgrnIdeal.Table Cert.HgrnSpec Idealize.ShloMosaic Idealize.ShloMosaic.Pointwise Idealize.ShloMosaic.TcCoe Idealize.SL.Sem

variable (m : (ℓ : Loc nD τ sig) → Buf (Elt Ideal) ℓ)

/-- The token windows' blocks follow the grid; the others do not move. -/
theorem idx_rows : ∀ t : Fin cfg0.N,
    win0_0.index t 0 = t.val ∧ win0_0.index t 1 = 0
    ∧ win0_1.index t 0 = t.val ∧ win0_1.index t 1 = 0
    ∧ win0_2.index t 0 = t.val ∧ win0_2.index t 1 = 0
    ∧ win0_3.index t 0 = t.val ∧ win0_3.index t 1 = 0
    ∧ win0_4.index t 0 = 0 ∧ win0_4.index t 1 = 0
    ∧ win0_5.index t 0 = 0 ∧ win0_5.index t 1 = 0
    ∧ win0_6.index t 0 = 0 ∧ win0_6.index t 1 = 0 :=
  (by decide +kernel : ∀ t : Fin grid0.N, _)

theorem rowIn_val (t : Fin cfg0.N) (r : Fin 512) : (rowIn (t.val / 8) t.val r).val = t.val * 512 + 1 * r.val := by
  have hN : cfg0.N = 64 := N_0
  have := t.isLt
  show 4096 * (t.val / 8 % 8) + 512 * (t.val % 8) + r.val = _
  omega

theorem iblk0 (c : Dev nD) (t : Fin cfg0.N) (r : Fin 512) (d : Fin 512) :
    (iblk m c 0 t : Vec Ideal S512x512 .bf16) (ix2 r d) = V m c main_arg0 (ix2 (rowIn (t.val / 8) t.val r) d) := by
  obtain ⟨h0, h1⟩ : win0_0.index t 0 = t.val ∧ win0_0.index t 1 = 0 := by have := idx_rows t; tauto
  unfold iblk
  rw [View.read_apply]
  show V m c main_arg0 _ = V m c main_arg0 _
  congr 1
  funext a
  apply Fin.ext
  match a with
  | ⟨0, _⟩ => show win0_0.index t 0 * 512 + 1 * r.val = (rowIn (t.val / 8) t.val r).val; rw [h0, rowIn_val]
  | ⟨1, _⟩ => show win0_0.index t 1 * 512 + 1 * d.val = d.val; rw [h1]; omega

theorem iblk1 (c : Dev nD) (t : Fin cfg0.N) (r : Fin 512) (d : Fin 512) :
    (iblk m c 1 t : Vec Ideal S512x512 .f32) (ix2 r d) = V m c main_arg1 (ix2 (rowIn (t.val / 8) t.val r) d) := by
  obtain ⟨h0, h1⟩ : win0_1.index t 0 = t.val ∧ win0_1.index t 1 = 0 := by have := idx_rows t; tauto
  unfold iblk
  rw [View.read_apply]
  show V m c main_arg1 _ = V m c main_arg1 _
  congr 1
  funext a
  apply Fin.ext
  match a with
  | ⟨0, _⟩ => show win0_1.index t 0 * 512 + 1 * r.val = (rowIn (t.val / 8) t.val r).val; rw [h0, rowIn_val]
  | ⟨1, _⟩ => show win0_1.index t 1 * 512 + 1 * d.val = d.val; rw [h1]; omega

theorem iblk2 (c : Dev nD) (t : Fin cfg0.N) (r : Fin 512) (d : Fin 512) :
    (iblk m c 2 t : Vec Ideal S512x512 .bf16) (ix2 r d) = V m c main_arg2 (ix2 (rowIn (t.val / 8) t.val r) d) := by
  obtain ⟨h0, h1⟩ : win0_2.index t 0 = t.val ∧ win0_2.index t 1 = 0 := by have := idx_rows t; tauto
  unfold iblk
  rw [View.read_apply]
  show V m c main_arg2 _ = V m c main_arg2 _
  congr 1
  funext a
  apply Fin.ext
  match a with
  | ⟨0, _⟩ => show win0_2.index t 0 * 512 + 1 * r.val = (rowIn (t.val / 8) t.val r).val; rw [h0, rowIn_val]
  | ⟨1, _⟩ => show win0_2.index t 1 * 512 + 1 * d.val = d.val; rw [h1]; omega

theorem iblk3 (c : Dev nD) (t : Fin cfg0.N) (r : Fin 512) (d : Fin 512) :
    (iblk m c 3 t : Vec Ideal S512x512 .bf16) (ix2 r d) = V m c main_arg3 (ix2 (rowIn (t.val / 8) t.val r) d) := by
  obtain ⟨h0, h1⟩ : win0_3.index t 0 = t.val ∧ win0_3.index t 1 = 0 := by have := idx_rows t; tauto
  unfold iblk
  rw [View.read_apply]
  show V m c main_arg3 _ = V m c main_arg3 _
  congr 1
  funext a
  apply Fin.ext
  match a with
  | ⟨0, _⟩ => show win0_3.index t 0 * 512 + 1 * r.val = (rowIn (t.val / 8) t.val r).val; rw [h0, rowIn_val]
  | ⟨1, _⟩ => show win0_3.index t 1 * 512 + 1 * d.val = d.val; rw [h1]; omega

theorem iblk4 (c : Dev nD) (t : Fin cfg0.N) (r : Fin 2) (d : Fin 512) :
    (iblk m c 4 t : Vec Ideal S2x512 .f32) (ix2 r d) = V m c main_arg4 (ix2 r d) := by
  obtain ⟨h0, h1⟩ : win0_4.index t 0 = 0 ∧ win0_4.index t 1 = 0 := by have := idx_rows t; tauto
  unfold iblk
  rw [View.read_apply]
  show V m c main_arg4 _ = V m c main_arg4 _
  congr 1
  funext a
  apply Fin.ext
  match a with
  | ⟨0, _⟩ => show win0_4.index t 0 * 2 + 1 * r.val = r.val; rw [h0]; omega
  | ⟨1, _⟩ => show win0_4.index t 1 * 512 + 1 * d.val = d.val; rw [h1]; omega

theorem iblk5 (c : Dev nD) (t : Fin cfg0.N) (d : Fin 128) :
    (iblk m c 5 t : Vec Ideal S1x128 .f32) (ix2 0 d) = V m c main_v1 (ix2 0 d) := by
  obtain ⟨h0, h1⟩ : win0_5.index t 0 = 0 ∧ win0_5.index t 1 = 0 := by have := idx_rows t; tauto
  unfold iblk
  rw [View.read_apply]
  show V m c main_v1 _ = V m c main_v1 _
  congr 1
  funext a
  apply Fin.ext
  match a with
  | ⟨0, _⟩ => show win0_5.index t 0 * 1 + 1 * 0 = 0; rw [h0]
  | ⟨1, _⟩ => show win0_5.index t 1 * 128 + 1 * d.val = d.val; rw [h1]; omega

theorem iblk6 (c : Dev nD) (t : Fin cfg0.N) (r : Fin 512) (d : Fin 192) :
    (iblk m c 6 t : Vec Ideal S512x192 .bf16) (ix2 r d) = V m c main_cst (ix2 r d) := by
  obtain ⟨h0, h1⟩ : win0_6.index t 0 = 0 ∧ win0_6.index t 1 = 0 := by have := idx_rows t; tauto
  unfold iblk
  rw [View.read_apply]
  show V m c main_cst _ = V m c main_cst _
  congr 1
  funext a
  apply Fin.ext
  match a with
  | ⟨0, _⟩ => show win0_6.index t 0 * 512 + 1 * r.val = r.val; rw [h0]; omega
  | ⟨1, _⟩ => show win0_6.index t 1 * 192 + 1 * d.val = d.val; rw [h1]; omega

/-- The gain the launch stages is the argument's. -/
theorem v1_eq (c : Dev nD) (d : Fin 128) : V m c main_v1 (ix2 0 d) = m ((c : Thread nD τ).loc main_arg5) (ix2 0 d) := by
  have h : V m c main_v1 = broadcastInDim (α := EReal) S1x128 ![1] bcast_S128_S1x128_1
      (shapeCast S128 (m ((c : Thread nD τ).loc main_arg5)) shapeCasts_S1x128_S128) := by
    show StableHlo.after hostOps0 _ _ = _
    simp only [hostOps0]
    after_results_simp <;> rfl
  rw [h]
  pointwise

theorem cst_eq (c : Dev nD) : V m c main_cst = fun i => Ideal.ofBits .bf16 (lit0 (S512x192.rowMajor i)) := by
  show StableHlo.after hostOps0 _ _ = _
  simp only [hostOps0]
  after_results_simp <;> rfl

theorem good (G : ℕ) (h : G < 8) : Good G := by
  interval_cases G
  · exact good0
  · exact good1
  · exact good2
  · exact good3
  · exact good4
  · exact good5
  · exact good6
  · exact good7

/-- The decay matrix the launch stages. -/
theorem isTakes (c : Dev nD) (t : Fin cfg0.N) : IsTakes (iblk m c 6 t : Vec Ideal S512x192 .bf16) := fun G s j => by
  rw [iblk6]
  refine (congrFun (cst_eq m c) _).trans ?_
  have e : lit0 (S512x192.rowMajor (ix2 ⟨64 * G.val + s.val, by omega⟩ ⟨j.val, by omega⟩)) = lit0t (192 * (64 * G.val + s.val) + j.val) := by
    refine congrArg lit0t ?_
    refine (Shape.rowMajor_val_two (d := ![512, 192]) (ix2 _ _)).trans ?_
    show (64 * G.val + s.val) * 192 + j.val = _
    omega
  show Ideal.ofBits .bf16 (lit0 _) = _
  rw [e, good G.val G.isLt s j]
  by_cases h : takes G.val s.val j.val = true
  · rw [if_pos h, if_pos h]
    simp [Ideal.ofBits, Ideal.ieee]
    rw [← EReal.coe_mul]
    norm_num
  · rw [if_neg h, if_neg h]
    simp [Ideal.ofBits, Ideal.ieee]

end Cert.HgrnIdeal.Windows

end
-- ==== Proof.Hgrn.Fold.lean ====
/- The grid: the states pass from point to point, and the array of results ends holding the layer's results. -/
module

public import proofs.«01_k».proof.Proof.Hgrn.Windows

@[expose] public section

set_option maxRecDepth 16384

noncomputable section

namespace Cert.HgrnIdeal.Windows

open Cert.HgrnIdeal Cert.HgrnIdeal.Gen Cert.HgrnIdeal.Chunk Cert.HgrnSpec Idealize.ShloMosaic Idealize.ShloMosaic.Pointwise Idealize.ShloMosaic.TcCoe Idealize.SL.Sem

variable (m : (ℓ : Loc nD τ sig) → Buf (Elt Ideal) ℓ) (c : Dev nD)

/-- The lower bounds, and the layer's token arrays. -/
abbrev lows (j : Fin 512) : EReal := lowerBound fun i => V m c main_arg4 (ix2 i j)
abbrev qA (R : Fin 32768) (j : Fin 512) : EReal := V m c main_arg0 (ix2 R j)
abbrev fA (R : Fin 32768) (j : Fin 512) : EReal := V m c main_arg1 (ix2 R j)
abbrev vA (R : Fin 32768) (j : Fin 512) : EReal := V m c main_arg2 (ix2 R j)
abbrev gA (R : Fin 32768) (j : Fin 512) : EReal := V m c main_arg3 (ix2 R j)
abbrev oA (w : Fin 128) : EReal := m ((c : Thread nD τ).loc main_arg5) (ix2 0 w)

variable (real : ∀ R j, gate (lows m c) (fA m c) R j = E (logs (lows m c) (fA m c) R j))
include real

theorem fits (t : Fin cfg0.N) : Fits (k0_pay5 (F := Ideal) (iblk m c 4 t)) (iblk m c 6 t) (iblk m c 0 t) (iblk m c 2 t) (iblk m c 3 t) (iblk m c 1 t)
    (lows m c) (qA m c) (fA m c) (vA m c) (gA m c) (t.val / 8) t.val where
  rows := isTakes m c t
  bound := fun j => by
    rw [bound_apply]
    exact congrArg lowerBound (funext fun i => iblk4 m c t i j)
  queries := iblk0 m c t
  gates := iblk1 m c t
  values := iblk2 m c t
  outs := iblk3 m c t
  real := real

omit real in
/-- At a sequence's first point the states are zero. -/
theorem start_A (t : Fin cfg0.N) (h0 : t.val % 8 = 0) (h : ℕ) (d w : Fin 128) :
    atHead (F := Ideal) (k0_pay4 (F := Ideal)) h (ix3 0 w d) = stateAt (lows m c) (fA m c) (vA m c) (t.val / 8) h (8 * (t.val % 8)) d w := by
  rw [h0]
  unfold atHead
  pointwise [k0_pay4]
  rfl

/-- The states after a point. -/
theorem state_after : ∀ (n : ℕ) (hn : n < cfg0.N) (h : ℕ), h < 4 → ∀ d w : Fin 128,
    atHead (outsAt0 m c n hn).2 h (ix3 0 w d) = stateAt (lows m c) (fA m c) (vA m c) (n / 8) h (8 * (n % 8) + 8) d w := by
  intro n
  induction n with
  | zero =>
    intro hn h hh d w
    rw [outsAt0_A m c ⟨0, hn⟩ rfl]
    dsimp only
    rw [state_A _ _ _ _ _ _ _ _ _ _ _ _ _ _ _ _ _ _ _ _ _ _ _ _ _ _ _ _ h hh]
    exact heads_apply (fits m c real ⟨0, hn⟩) _ h (start_A m c ⟨0, hn⟩ rfl h) 8 le_rfl d w
  | succ n ih =>
    intro hn h hh d w
    by_cases h0 : (n + 1) % 8 = 0
    · rw [outsAt0_A m c ⟨n + 1, hn⟩ h0]
      dsimp only
      rw [state_A _ _ _ _ _ _ _ _ _ _ _ _ _ _ _ _ _ _ _ _ _ _ _ _ _ _ _ _ h hh]
      exact heads_apply (fits m c real ⟨n + 1, hn⟩) _ h (start_A m c ⟨n + 1, hn⟩ h0 h) 8 le_rfl d w
    · rw [outsAt0_B m c ⟨n + 1, hn⟩ h0]
      dsimp only
      rw [state_B _ _ _ _ _ _ _ _ _ _ _ _ _ _ _ _ _ _ _ _ _ _ _ _ _ _ _ _ _ h hh]
      refine heads_apply (fits m c real ⟨n + 1, hn⟩) _ h (fun d w => ?_) 8 le_rfl d w
      refine (ih (Nat.lt_of_succ_lt hn) h hh d w).trans ?_
      have e1 : n / 8 = (n + 1) / 8 := by omega
      have e2 : 8 * (n % 8) + 8 = 8 * ((n + 1) % 8) := by omega
      rw [e1, e2]

/-- A tile of a point's results. -/
theorem result_after (t : Fin cfg0.N) (k : ℕ) (hk : k < 32) (s : Fin 64) (w : Fin 128) :
    (outsAt0 m c t.val t.isLt).1 ((tileRect k).toLoadRect.idx (ix2 s w))
      = resultAt (lows m c) (qA m c) (fA m c) (vA m c) (gA m c) (oA m c) (t.val / 8) (k % 4) (8 * (t.val % 8) + k / 4) s w := by
  have hg : (fun w => k0_pay6 (F := Ideal) (iblk m c 5 t) (ix2 0 w)) = oA m c := funext fun w => by
    rw [gain_apply]
    exact (iblk5 m c t w).trans (v1_eq m c w)
  by_cases h0 : t.val % 8 = 0
  · rw [outsAt0_A m c t h0]
    dsimp only
    rw [out_A _ _ _ _ _ _ _ _ _ _ _ _ _ _ _ _ _ _ _ _ _ _ _ _ _ _ _ _ k hk]
    refine (result_chunk (fits m c real t) _ _ k hk (start_A m c t h0 _) s w).trans ?_
    rw [hg]
  · rw [outsAt0_B m c t h0]
    dsimp only
    rw [out_B _ _ _ _ _ _ _ _ _ _ _ _ _ _ _ _ _ _ _ _ _ _ _ _ _ _ _ _ _ k hk]
    refine (result_chunk (fits m c real t) _ _ k hk (fun d w => ?_) s w).trans ?_
    · refine (state_after m c real (t.val - 1) _ (k % 4) (Nat.mod_lt _ (by decide)) d w).trans ?_
      have e1 : (t.val - 1) / 8 = t.val / 8 := by omega
      have e2 : 8 * ((t.val - 1) % 8) + 8 = 8 * (t.val % 8) := by omega
      rw [e1, e2]
    · rw [hg]

/-- The array of results at an entry. -/
theorem final_apply (R : Fin 32768) (j : Fin 512) :
    Value.G7 m c (ix2 R j)
      = resultAt (lows m c) (qA m c) (fA m c) (vA m c) (gA m c) (oA m c) (R.val / 4096) (j.val / 128) (R.val % 4096 / 64)
          ⟨R.val % 4096 % 64, Nat.mod_lt _ (by decide)⟩ ⟨j.val % 128, Nat.mod_lt _ (by decide)⟩ := by
  have hN : cfg0.N = 64 := N_0
  have hR := R.isLt
  have hj := j.isLt
  have ht : R.val / 512 < cfg0.N := by omega
  have hp : Value.pt7Of (ix2 R j) = R.val / 512 := by
    show 1 * (R.val / 512 - 0) + 1 * (j.val / 512 - 0) = _
    omega
  have hl : Value.loc7Of (ix2 R j) = (tileRect (4 * (R.val % 512 / 64) + j.val / 128)).toLoadRect.idx
      (ix2 ⟨R.val % 4096 % 64, Nat.mod_lt _ (by decide)⟩ ⟨j.val % 128, Nat.mod_lt _ (by decide)⟩) := by
    funext a
    apply Fin.ext
    match a with
    | ⟨0, _⟩ =>
      show R.val % 512 = 64 * ((4 * (R.val % 512 / 64) + j.val / 128) / 4 % 8) + 1 * (R.val % 4096 % 64)
      omega
    | ⟨1, _⟩ =>
      show j.val % 512 = 128 * ((4 * (R.val % 512 / 64) + j.val / 128) % 4) + 1 * (j.val % 128)
      omega
  unfold Value.G7
  rw [dif_pos (by omega), Value.fold0_congr m c _ _ (R.val / 512) (by omega) hp, ← Value.outsAt0_sweep m c (R.val / 512) ht, hl,
    result_after m c real ⟨R.val / 512, ht⟩ _ (by omega)]
  have e1 : R.val / 512 / 8 = R.val / 4096 := by omega
  have e2 : (4 * (R.val % 512 / 64) + j.val / 128) % 4 = j.val / 128 := by omega
  have e3 : 8 * (R.val / 512 % 8) + (4 * (R.val % 512 / 64) + j.val / 128) / 4 = R.val % 4096 / 64 := by omega
  dsimp only
  rw [e1, e2, e3]

end Cert.HgrnIdeal.Windows

end
-- ==== Proof.Hgrn.RefStep.lean ====
/- One trip of the reference's loop is the recurrence over one chunk of every head. -/
module

public import proofs.«01_k».proof.Proof.Gen.HgrnRefIdeal.Step
public import proofs.«01_k».proof.Proof.Hgrn.Sums
public import proofs.«01_k».proof.Proof.Hgrn.LowerBound
public import Idealize.ShloMosaic.Lib.Pointwise
public import Idealize.ShloMosaic.Lib.DynamicIndex

@[expose] public section

set_option maxRecDepth 16384

noncomputable section

namespace Cert.HgrnRefIdeal.Rows

open Cert.HgrnRefIdeal Cert.HgrnRefIdeal.Gen Cert.HgrnRefIdeal.Step Idealize.ShloMosaic Idealize.ShloMosaic.Pointwise Cert.HgrnSpec

/-- Where trip `j`'s slices start. -/
abbrev starts (j : ℕ) : Fin 5 → Int := fun k => (((![constantI S_ 32 (BitVec.ofNat 32 j), constantI S_ 32 0#32, constantI S_ 32 0#32,
  constantI S_ 32 0#32, constantI S_ 32 0#32] : Fin 5 → S_.Idx → BitVec 32)) k (Shape.Idx.first h_S_)).toInt

theorem starts_eq {j : ℕ} (hj : j < 64) : ∀ a : Fin 5, starts j a = ((![j, 0, 0, 0, 0] : Fin 5 → ℕ) a : Int) := by
  intro a
  fin_cases a
  · show (BitVec.ofNat 32 j).toInt = (j : Int)
    rw [BitVec.toInt_eq_toNat_cond, BitVec.toNat_ofNat, Nat.mod_eq_of_lt (by omega)]
    split <;> omega
  all_goals rfl

theorem fits {j : ℕ} (hj : j < 64) : S64x8x4x64x128.Slices ![j, 0, 0, 0, 0] S1x8x4x64x128 := by
  refine ⟨rfl, fun a => ?_⟩
  fin_cases a
  · show j + 1 ≤ 64
    omega
  all_goals (show (0 : ℕ) + _ ≤ _; decide)

theorem chunk_apply (x : FVec Ideal S64x8x4x64x128 .f32) {j : ℕ} (hj : j < 64) (b : Fin 8) (h : Fin 4) (t : Fin 64) (d : Fin 128) :
    shapeCast S8x4x64x128 (Host.dynamicSlice S1x8x4x64x128 x (starts j) sliceFits_S64x8x4x64x128_S1x8x4x64x128)
      shapeCasts_S1x8x4x64x128_S8x4x64x128 (ix4 b h t d) = x (ix5 ⟨j, hj⟩ b h t d) := by
  rw [Host.dynamicSlice_eq_extractStridedSlice S1x8x4x64x128 x (starts j) ![j, 0, 0, 0, 0] _ (fits hj) (starts_eq hj)]
  pointwise []

variable (s : State Ideal) {j : ℕ} (hj : j < 64)
include hj

theorem b5_apply (b : Fin 8) (h : Fin 4) (t : Fin 64) (d : Fin 128) : b5 j s (ix4 b h t d) = s.main_v48_0 (ix5 ⟨j, hj⟩ b h t d) :=
  chunk_apply s.main_v48_0 hj b h t d
theorem b11_apply (b : Fin 8) (h : Fin 4) (t : Fin 64) (d : Fin 128) : b11 j s (ix4 b h t d) = s.main_v48_1 (ix5 ⟨j, hj⟩ b h t d) :=
  chunk_apply s.main_v48_1 hj b h t d
theorem b17_apply (b : Fin 8) (h : Fin 4) (t : Fin 64) (d : Fin 128) : b17 j s (ix4 b h t d) = s.main_v48_2 (ix5 ⟨j, hj⟩ b h t d) :=
  chunk_apply s.main_v48_2 hj b h t d
theorem b23_apply (b : Fin 8) (h : Fin 4) (t : Fin 64) (d : Fin 128) : b23 j s (ix4 b h t d) = s.main_v48_3 (ix5 ⟨j, hj⟩ b h t d) :=
  chunk_apply s.main_v48_3 hj b h t d

omit hj in
/-- The causal mask. -/
theorem mask_apply (t u : Fin 64) : K_main_v45 (F := Ideal) (ix3 t u 0) = if u.val ≤ t.val then 1#1 else 0#1 := by
  pointwise [K_main_v45, K_main_v44, K_main_v43, K_main_c, K_main_call3_v5, K_main_call3_c_0, K_main_call3_v4, K_main_call3_v3,
    K_main_call3_v2, K_main_call3_v1, K_main_call3_c, K_main_call3_v0]
  revert t u
  decide +kernel

/-- A head's queries, keys and values of a chunk, and its state. -/
abbrev qs (b : Fin 8) (h : Fin 4) (t : Fin 64) (d : Fin 128) : EReal := s.main_v48_0 (ix5 ⟨j, hj⟩ b h t d)
abbrev ks (b : Fin 8) (h : Fin 4) (t : Fin 64) (d : Fin 128) : EReal := s.main_v48_1 (ix5 ⟨j, hj⟩ b h t d)
abbrev vs (b : Fin 8) (h : Fin 4) (t : Fin 64) (d : Fin 128) : EReal := s.main_v48_2 (ix5 ⟨j, hj⟩ b h t d)
omit hj in
abbrev st (b : Fin 8) (h : Fin 4) (d w : Fin 128) : EReal := s.main_v48_6 (ix4 b h d w)

variable (b : Fin 8) (h : Fin 4) (l : Fin 64 → Fin 128 → ℝ)
  (hl : ∀ (t : Fin 64) (d : Fin 128), s.main_v48_3 (ix5 ⟨j, hj⟩ b h t d) = ((cum (fun u => l u d) t.val : ℝ) : EReal))
include hl

theorem b45_apply (t u : Fin 64) : b45 j s (ix4 b h t u) = score (qs s hj b h) (ks s hj b h) l t u := by
  pointwise [b45, b44, b43, b42, b41, b40, b39, b38, b37, b36, b35, b34, b33, b32, b31, b30, b29, b28, b27]
  unfold score
  simp only [mask_apply, b5_apply s hj, b11_apply s hj, b23_apply s hj, hl]
  by_cases hc : u.val ≤ t.val
  · rw [if_pos hc, if_pos hc]
    refine Finset.sum_congr rfl fun d _ => ?_
    refine congrArg (fun y : EReal => s.main_v48_0 (ix5 ⟨j, hj⟩ b h t d) * s.main_v48_1 (ix5 ⟨j, hj⟩ b h u d) * y) ?_
    show Ideal.exp (((cum (fun u => l u d) t.val : ℝ) : EReal) - ((cum (fun v => l v d) u.val : ℝ) : EReal)) = _
    rw [← EReal.coe_sub, Ideal.exp_coe]
    rfl
  · rw [if_neg hc, if_neg hc]
    refine Finset.sum_eq_zero fun d _ => ?_
    refine (congrArg (fun y : EReal => s.main_v48_0 (ix5 ⟨j, hj⟩ b h t d) * s.main_v48_1 (ix5 ⟨j, hj⟩ b h u d) * y) ?_).trans
      (mul_zero (M₀ := EReal) _)
    show Ideal.exp (Ideal.ofBits .f32 0xFF800000#32) = 0
    rw [neg_inf, Ideal.exp_bot]

theorem b59_apply (t : Fin 64) (w : Fin 128) : b59 j s (ix4 b h t w) = mix (qs s hj b h) (ks s hj b h) l (vs s hj b h) (st s b h) t w := by
  pointwise [b59, b46, b26, b25, b24]
  unfold mix
  refine congrArg₂ (· + ·) (Finset.sum_congr rfl fun d _ => ?_) (Finset.sum_congr rfl fun u _ => ?_)
  · rw [b5_apply s hj, b23_apply s hj, hl, Ideal.exp_coe]
    rfl
  · rw [b45_apply s hj b h l hl, b17_apply s hj]

theorem b58_apply (d w : Fin 128) : b58 j s (ix4 b h d w) = next (ks s hj b h) l (vs s hj b h) (st s b h) d w := by
  pointwise [b58, b57, b56, b55, b54, b53, b52, b51, b50, b49, b48, b47]
  unfold next
  have h63 : s.main_v48_3 (ix5 ⟨j, hj⟩ b h 63 d) = ((cum (fun u => l u d) 63 : ℝ) : EReal) := hl 63 d
  rw [b23_apply s hj, h63, Ideal.exp_coe]
  refine congrArg₂ (· + ·) rfl (Finset.sum_congr rfl fun u _ => ?_)
  rw [b11_apply s hj, b23_apply s hj, hl, b17_apply s hj, ← EReal.coe_sub, Ideal.exp_coe]
  rfl

omit hl in
theorem b65_apply (n : Fin 64) (t : Fin 64) (w : Fin 128) :
    b65 j s (ix5 n b h t w) = if n.val = j then b59 j s (ix4 b h t w) else s.main_v48_7 (ix5 n b h t w) := by
  have e : b65 j s = updateSlice s.main_v48_7 (b60 j s) ![j, 0, 0, 0, 0] (fits hj) :=
    Host.dynamicUpdateSlice_eq_updateSlice s.main_v48_7 (b60 j s) (starts j) _ ![j, 0, 0, 0, 0]
      (fun a => Host.clampedStart_of_le (s := S64x8x4x64x128) (t := S1x8x4x64x128) rfl (starts j) a _ (starts_eq hj a) ((fits hj).2 a)) (fits hj)
  rw [e]
  pointwise [b60]
  by_cases hn : n.val = j
  · rw [dif_pos ⟨by omega, by omega⟩, if_pos hn]
  · rw [dif_neg (fun hc => hn (by omega)), if_neg hn]

end Cert.HgrnRefIdeal.Rows

end
-- ==== Proof.Hgrn.RefWindow.lean ====
/- The reference's two running sums at an entry. -/
module

public import proofs.«01_k».proof.Proof.Gen.HgrnRefIdeal.Step
public import proofs.«01_k».proof.Proof.Hgrn.Sums
public import Idealize.ShloMosaic.Lib.Pointwise

@[expose] public section

set_option maxRecDepth 16384

noncomputable section

namespace Cert.HgrnRefIdeal.Rows

open Cert.HgrnRefIdeal Cert.HgrnRefIdeal.Gen Cert.HgrnRefIdeal.Step Idealize.ShloMosaic Idealize.ShloMosaic.Pointwise Cert.HgrnSpec

/-- A left fold of additions is a sum. -/
theorem foldl_add {n : ℕ} (F : Fin n → EReal) (v : EReal) :
    (List.finRange n).foldl (fun r k => r + F k) v = v + ∑ k, F k := by
  rw [Fin.sum_univ_def]
  generalize List.finRange n = L
  induction L generalizing v with
  | nil => simp
  | cons a L ih => rw [List.foldl_cons, ih, List.map_cons, List.sum_cons, add_assoc]

abbrev W64 : Shape := ⟨5, ![1, 1, 1, 64, 1]⟩

theorem pos64 : ∀ n : Fin 64, (W64.rowMajor.symm n (3 : Fin 5)).val = n.val := by
  decide +kernel

/-- Shifting a window of 64 over a row of 64. -/
theorem shift (x : Fin 64 → EReal) (t : Fin 64) :
    (∑ n : Fin 64, if 63 ≤ t.val + n.val then x ⟨t.val + n.val - 63, by omega⟩ else 0) = ∑ u : Fin 64, if u.val ≤ t.val then x u else 0 := by
  rw [← Finset.sum_filter, ← Finset.sum_filter]
  refine Finset.sum_bij' (fun n _ => ⟨t.val + n.val - 63, by omega⟩)
    (fun u _ => ⟨u.val + 63 - max t.val u.val, by omega⟩) ?_ ?_ ?_ ?_ ?_
  · intro n hn
    have := (Finset.mem_filter.mp hn).2
    refine Finset.mem_filter.mpr ⟨Finset.mem_univ _, ?_⟩
    dsimp only; omega
  · intro u hu
    have := (Finset.mem_filter.mp hu).2
    refine Finset.mem_filter.mpr ⟨Finset.mem_univ _, ?_⟩
    dsimp only; omega
  · intro n hn
    have := (Finset.mem_filter.mp hn).2
    apply Fin.ext
    dsimp only; omega
  · intro u hu
    have := (Finset.mem_filter.mp hu).2
    apply Fin.ext
    dsimp only; omega
  · intro n _; rfl

theorem running (x : FVec Ideal S64x8x4x64x128 .f32) (z : FVec Ideal S_ .f32) (hz : z (Shape.Idx.first h_S_) = 0)
    (n : Fin 64) (b : Fin 8) (h : Fin 4) (t : Fin 64) (d : Fin 128) :
    Host.reduceWindowAdd ![1, 1, 1, 64, 1] ![1, 1, 1, 1, 1] ![0, 0, 0, 63, 0] ![0, 0, 0, 0, 0] x z
        reduceWindows_S64x8x4x64x128_S64x8x4x64x128_w1s1p0_0_w1s1p0_0_w1s1p0_0_w64s1p63_0_w1s1p0_0 h_S_ (ix5 n b h t d)
      = ∑ u : Fin 64, if u.val ≤ t.val then x (ix5 n b h u d) else 0 := by
  rw [← shift (fun u => x (ix5 n b h u d)) t]
  refine (foldl_add _ _).trans ?_
  rw [hz, zero_add]
  show ∑ k : Fin 64, _ = _
  refine Finset.sum_congr rfl fun k _ => ?_
  have p3 := pos64 k
  have hk := k.isLt
  have ht := t.isLt
  have z0 : (W64.rowMajor.symm k (0 : Fin 5)).val = 0 := Nat.lt_one_iff.mp (W64.rowMajor.symm k (0 : Fin 5)).isLt
  have z1 : (W64.rowMajor.symm k (1 : Fin 5)).val = 0 := Nat.lt_one_iff.mp (W64.rowMajor.symm k (1 : Fin 5)).isLt
  have z2 : (W64.rowMajor.symm k (2 : Fin 5)).val = 0 := Nat.lt_one_iff.mp (W64.rowMajor.symm k (2 : Fin 5)).isLt
  have z4 : (W64.rowMajor.symm k (4 : Fin 5)).val = 0 := Nat.lt_one_iff.mp (W64.rowMajor.symm k (4 : Fin 5)).isLt
  have out : ∀ (p q : Prop) (_ : Decidable p) (_ : Decidable q) (a : p → EReal) (b c : EReal), (p ↔ q) → (∀ h, a h = b) → c = 0 →
      (if h : p then a h else c) = if q then b else 0 := fun p q _ _ a b c h1 h2 h3 => by
    by_cases h : p
    · rw [dif_pos h, if_pos (h1.mp h), h2]
    · rw [dif_neg h, if_neg (fun k => h (h1.mpr k)), h3]
  refine out _ _ _ _ _ _ _ ?_ ?_ rfl
  · constructor
    · intro h
      have h3 := (h 3).1
      change 63 ≤ t.val * 1 + (W64.rowMajor.symm k (3 : Fin 5)).val at h3
      omega
    · intro hle a
      fin_cases a
      · change 0 ≤ n.val * 1 + (W64.rowMajor.symm k (0 : Fin 5)).val ∧ n.val * 1 + (W64.rowMajor.symm k (0 : Fin 5)).val - 0 < 64
        have := n.isLt; omega
      · change 0 ≤ b.val * 1 + (W64.rowMajor.symm k (1 : Fin 5)).val ∧ b.val * 1 + (W64.rowMajor.symm k (1 : Fin 5)).val - 0 < 8
        have := b.isLt; omega
      · change 0 ≤ h.val * 1 + (W64.rowMajor.symm k (2 : Fin 5)).val ∧ h.val * 1 + (W64.rowMajor.symm k (2 : Fin 5)).val - 0 < 4
        have := h.isLt; omega
      · change 63 ≤ t.val * 1 + (W64.rowMajor.symm k (3 : Fin 5)).val ∧ t.val * 1 + (W64.rowMajor.symm k (3 : Fin 5)).val - 63 < 64
        omega
      · change 0 ≤ d.val * 1 + (W64.rowMajor.symm k (4 : Fin 5)).val ∧ d.val * 1 + (W64.rowMajor.symm k (4 : Fin 5)).val - 0 < 128
        have := d.isLt; omega
  · intro hin
    refine congrArg x (funext fun a => Fin.ext ?_)
    fin_cases a
    · change n.val * 1 + (W64.rowMajor.symm k (0 : Fin 5)).val - 0 = n.val
      omega
    · change b.val * 1 + (W64.rowMajor.symm k (1 : Fin 5)).val - 0 = b.val
      omega
    · change h.val * 1 + (W64.rowMajor.symm k (2 : Fin 5)).val - 0 = h.val
      omega
    · change t.val * 1 + (W64.rowMajor.symm k (3 : Fin 5)).val - 63 = t.val + k.val - 63
      omega
    · change d.val * 1 + (W64.rowMajor.symm k (4 : Fin 5)).val - 0 = d.val
      omega

theorem first_running (x : FVec Ideal S2x512 .f32) (z : FVec Ideal S_ .f32) (hz : z (Shape.Idx.first h_S_) = 0) (c : Fin 512) :
    Host.reduceWindowAdd ![2, 1] ![1, 1] ![1, 0] ![0, 0] x z reduceWindows_S2x512_S2x512_w2s1p1_0_w1s1p0_0 h_S_ (ix2 0 c) = x (ix2 0 c) := by
  refine (foldl_add _ _).trans ?_
  rw [hz, zero_add]
  refine (Fin.sum_univ_two (M := EReal) _).trans ?_
  have q0 : ((⟨2, ![2, 1]⟩ : Shape).rowMajor.symm (0 : Fin 2) (0 : Fin 2)).val = 0 := by decide +kernel
  have q1 : ((⟨2, ![2, 1]⟩ : Shape).rowMajor.symm (1 : Fin 2) (0 : Fin 2)).val = 1 := by decide +kernel
  have q2 : ((⟨2, ![2, 1]⟩ : Shape).rowMajor.symm (1 : Fin 2) (1 : Fin 2)).val = 0 := by decide +kernel
  refine (congrArg₂ (· + ·) (dif_neg ?_) (dif_pos ?_)).trans ?_
  · intro h
    have h0 := (h 0).1
    change 1 ≤ 0 * 1 + ((⟨2, ![2, 1]⟩ : Shape).rowMajor.symm (0 : Fin 2) (0 : Fin 2)).val at h0
    omega
  · intro a
    fin_cases a
    · change 1 ≤ 0 * 1 + ((⟨2, ![2, 1]⟩ : Shape).rowMajor.symm (1 : Fin 2) (0 : Fin 2)).val
        ∧ 0 * 1 + ((⟨2, ![2, 1]⟩ : Shape).rowMajor.symm (1 : Fin 2) (0 : Fin 2)).val - 1 < 2
      omega
    · change 0 ≤ c.val * 1 + ((⟨2, ![2, 1]⟩ : Shape).rowMajor.symm (1 : Fin 2) (1 : Fin 2)).val
        ∧ c.val * 1 + ((⟨2, ![2, 1]⟩ : Shape).rowMajor.symm (1 : Fin 2) (1 : Fin 2)).val - 0 < 512
      have := c.isLt; omega
  · refine (zero_add _).trans ?_
    refine congrArg x (funext fun a => Fin.ext ?_)
    fin_cases a
    · change 0 * 1 + ((⟨2, ![2, 1]⟩ : Shape).rowMajor.symm (1 : Fin 2) (0 : Fin 2)).val - 1 = 0
      omega
    · change c.val * 1 + ((⟨2, ![2, 1]⟩ : Shape).rowMajor.symm (1 : Fin 2) (1 : Fin 2)).val - 0 = c.val
      omega

end Cert.HgrnRefIdeal.Rows

end
-- ==== Proof.Hgrn.RefRows.lean ====
/- What the reference's loop starts from, in the recurrence's terms. -/
module

public import proofs.«01_k».proof.Proof.Hgrn.RefStep
public import proofs.«01_k».proof.Proof.Hgrn.RefWindow
public import proofs.«01_k».proof.Proof.Hgrn.Layer

@[expose] public section

set_option maxRecDepth 16384

noncomputable section

namespace Cert.HgrnRefIdeal.Rows

open Cert.HgrnRefIdeal Cert.HgrnRefIdeal.Gen Cert.HgrnRefIdeal.Step Idealize.ShloMosaic Idealize.ShloMosaic.Pointwise Cert.HgrnSpec

/-- The entries of an array of tokens. -/
abbrev ents {α : Type} (x : S32768x512.Idx → α) : Fin 32768 → Fin 512 → α := fun R c => x (ix2 R c)

/-- The lower bounds of the columns. -/
abbrev bounds (x : FVec Ideal S2x512 .f32) (c : Fin 512) : EReal := lowerBound fun i => x (ix2 i c)

variable (x0 : FVec Ideal S32768x512 .bf16) (x1 : FVec Ideal S32768x512 .f32) (x2 : FVec Ideal S32768x512 .bf16) (x4 : FVec Ideal S2x512 .f32)

theorem v16_apply (R : Fin 32768) (c : Fin 512) : A_main_v16 (F := Ideal) x0 x1 x2 x4 (ix2 R c) = queries (ents x0) R c := by
  pointwise [A_main_v16, A_main_call1_v5, A_main_call1_v3, A_main_call1_v1, A_main_call1_v0, A_main_v0, K_main_call1_v2, K_main_call1_cst,
    K_main_call1_v4, K_main_call1_cst_0]
  rfl

theorem v15_apply (c : Fin 512) : A_main_v15 (F := Ideal) x0 x1 x2 x4 (ix1 c) = bounds x4 c := by
  have e : A_main_v15 (F := Ideal) x0 x1 x2 x4 (ix1 c) = A_main_v13 (F := Ideal) x0 x1 x2 x4 (ix2 0 c) := by
    pointwise [A_main_v15, A_main_v14]
  have z : K_main_call0_call0_v0 (F := Ideal) (Shape.Idx.first h_S_) = (0 : EReal) := by
    pointwise [K_main_call0_call0_v0, K_main_call0_call0_cst]
  rw [e]
  refine (first_running (A_main_v12 (F := Ideal) x0 x1 x2 x4) _ z c).trans ?_
  pointwise [A_main_v12, A_main_v11, A_main_v10, A_main_v9, A_main_v8, A_main_v7, A_main_v6, A_main_v5, A_main_v4, A_main_v2, K_main_cst,
    K_main_v3, K_main_cst_0, K_main_cst_1]
  rw [HgrnSpec.neg_inf, max_eq_right bot_le, ← HgrnSpec.neg_inf]
  rfl

theorem v30_apply (R : Fin 32768) (c : Fin 512) : A_main_v30 (F := Ideal) x0 x1 x2 x4 (ix2 R c) = gate (bounds x4) (ents x1) R c := by
  pointwise [A_main_v30, A_main_v29, A_main_v28, A_main_v27, A_main_v26, A_main_v25, A_main_v24, A_main_v22, A_main_v20, A_main_v19,
    A_main_v18, K_main_v17, K_main_cst_2, K_main_v21, K_main_cst_3, K_main_v23, K_main_cst_4]
  rw [v15_apply]
  rfl

theorem v32_apply (R : Fin 32768) (c : Fin 512) : A_main_v32 (F := Ideal) x0 x1 x2 x4 (ix2 R c) = keys (bounds x4) (ents x1) R c := by
  pointwise [A_main_v32, K_main_v31, K_main_cst_5]
  rw [v30_apply]
  rfl

theorem row_eq (n : Fin 64) (b : Fin 8) (t : Fin 64) (hr) : (⟨b.val * 4096 + n.val * 64 + t.val, hr⟩ : Fin 32768) = rowAt b.val n.val t := by
  apply Fin.ext
  dsimp only
  have := b.isLt; have := n.isLt
  omega

theorem col_eq (h : Fin 4) (d : Fin 128) (hc) : (⟨h.val * 128 + d.val, hc⟩ : Fin 512) = colAt h.val d := by
  apply Fin.ext
  dsimp only
  have := h.isLt
  omega

theorem v35_apply (n : Fin 64) (b : Fin 8) (h : Fin 4) (t : Fin 64) (d : Fin 128) :
    A_main_v35 (F := Ideal) x0 x1 x2 x4 (ix5 n b h t d) = part (queries (ents x0)) b.val n.val h.val t d := by
  pointwise [A_main_v35, A_main_v34]
  rw [row_eq, col_eq, v16_apply]

theorem v37_apply (n : Fin 64) (b : Fin 8) (h : Fin 4) (t : Fin 64) (d : Fin 128) :
    A_main_v37 (F := Ideal) x0 x1 x2 x4 (ix5 n b h t d) = part (keys (bounds x4) (ents x1)) b.val n.val h.val t d := by
  pointwise [A_main_v37, A_main_v36]
  rw [row_eq, col_eq, v32_apply]

theorem v39_apply (n : Fin 64) (b : Fin 8) (h : Fin 4) (t : Fin 64) (d : Fin 128) :
    A_main_v39 (F := Ideal) x0 x1 x2 x4 (ix5 n b h t d) = part (ents x2) b.val n.val h.val t d := by
  pointwise [A_main_v39, A_main_v38, A_main_v1]
  rw [row_eq, col_eq]

/-- The logarithms of the gates, where the lower bounds are real numbers in the unit interval. -/
theorem v41_apply (hb : ∀ c, ∃ y : ℝ, 0 < y ∧ y < 1 ∧ bounds x4 c = (y : EReal)) (n : Fin 64) (b : Fin 8) (h : Fin 4) (t : Fin 64) (d : Fin 128) :
    A_main_v41 (F := Ideal) x0 x1 x2 x4 (ix5 n b h t d) = ((part (logs (bounds x4) (ents x1)) b.val n.val h.val t d : ℝ) : EReal) := by
  pointwise [A_main_v41, A_main_v40, A_main_v33]
  rw [row_eq, col_eq, v30_apply]
  obtain ⟨y, h0, h1, hy⟩ := hb (colAt h.val d)
  rw [gate_eq _ _ _ _ y h0 h1 hy]
  show Ideal.log (E _) = _
  unfold E
  rw [Ideal.log_coe, if_neg (not_le.mpr (Real.exp_pos _)), Real.log_exp]

theorem v42_apply (hb : ∀ c, ∃ y : ℝ, 0 < y ∧ y < 1 ∧ bounds x4 c = (y : EReal)) (n : Fin 64) (b : Fin 8) (h : Fin 4) (t : Fin 64) (d : Fin 128) :
    A_main_v42 (F := Ideal) x0 x1 x2 x4 (ix5 n b h t d)
      = ((cum (fun u => part (logs (bounds x4) (ents x1)) b.val n.val h.val u d) t.val : ℝ) : EReal) := by
  have z : K_main_call2_call0_v0 (F := Ideal) (Shape.Idx.first h_S_) = (0 : EReal) := by
    pointwise [K_main_call2_call0_v0, K_main_call2_call0_cst]
  refine (running (A_main_v41 (F := Ideal) x0 x1 x2 x4) _ z n b h t d).trans ?_
  unfold cum
  rw [coe_sum]
  refine Finset.sum_congr rfl fun u _ => ?_
  by_cases hu : u.val ≤ t.val
  · rw [if_pos hu, if_pos hu, v41_apply x0 x1 x2 x4 hb]
  · rw [if_neg hu, if_neg hu, EReal.coe_zero]

end Cert.HgrnRefIdeal.Rows

end
-- ==== Proof.Hgrn.RefLoop.lean ====
/- The reference's loop computes the recurrence, and what follows it the layer's result. -/
module

public import proofs.«01_k».proof.Proof.Hgrn.RefRows

@[expose] public section

set_option maxRecDepth 16384

noncomputable section

namespace Cert.HgrnRefIdeal.Rows

open Cert.HgrnRefIdeal Cert.HgrnRefIdeal.Gen Cert.HgrnRefIdeal.Step Idealize.ShloMosaic Idealize.ShloMosaic.Pointwise Cert.HgrnSpec

variable (x0 : FVec Ideal S32768x512 .bf16) (x1 : FVec Ideal S32768x512 .f32) (x2 : FVec Ideal S32768x512 .bf16) (x4 : FVec Ideal S2x512 .f32)

/-- The loop's state before trip `n`. -/
def loop (n : ℕ) : State Ideal := Nat.rec (init x0 x1 x2 x4) (fun n s => step n s) n

/-- What the loop's state holds before trip `n`. -/
structure Holds (n : ℕ) (s : State Ideal) : Prop where
  queries : s.main_v48_0 = A_main_v35 x0 x1 x2 x4
  keys : s.main_v48_1 = A_main_v37 x0 x1 x2 x4
  values : s.main_v48_2 = A_main_v39 x0 x1 x2 x4
  decays : s.main_v48_3 = A_main_v42 x0 x1 x2 x4
  state : ∀ (b : Fin 8) (h : Fin 4) (d w : Fin 128),
    s.main_v48_6 (ix4 b h d w) = stateAt (bounds x4) (ents x1) (ents x2) b.val h.val n d w
  done : ∀ (k : Fin 64), k.val < n → ∀ (b : Fin 8) (h : Fin 4) (t : Fin 64) (w : Fin 128),
    s.main_v48_7 (ix5 k b h t w) = mixAt (bounds x4) (ents x0) (ents x1) (ents x2) b.val h.val k.val t w

theorem holds_init : Holds x0 x1 x2 x4 0 (init x0 x1 x2 x4) where
  queries := rfl
  keys := rfl
  values := rfl
  decays := rfl
  state := fun b h d w => by
    show K_main_v46 (F := Ideal) (ix4 b h d w) = 0
    pointwise [K_main_v46, K_main_cst_6]
  done := fun k hk => absurd hk (Nat.not_lt_zero _)

variable (hb : ∀ c, ∃ y : ℝ, 0 < y ∧ y < 1 ∧ bounds x4 c = (y : EReal))
include hb

theorem holds_step {n : ℕ} (hn : n < 64) (s : State Ideal) (H : Holds x0 x1 x2 x4 n s) : Holds x0 x1 x2 x4 (n + 1) (step n s) := by
  have hl : ∀ (b : Fin 8) (h : Fin 4) (t : Fin 64) (d : Fin 128), s.main_v48_3 (ix5 ⟨n, hn⟩ b h t d)
      = ((cum (fun u => part (logs (bounds x4) (ents x1)) b.val n h.val u d) t.val : ℝ) : EReal) := fun b h t d => by
    rw [H.decays]
    exact v42_apply x0 x1 x2 x4 hb ⟨n, hn⟩ b h t d
  have hq : ∀ (b : Fin 8) (h : Fin 4), qs s hn b h = part (HgrnSpec.queries (ents x0)) b.val n h.val := fun b h =>
    funext fun t => funext fun d => by
      show s.main_v48_0 _ = _
      rw [H.queries]
      exact v35_apply x0 x1 x2 x4 ⟨n, hn⟩ b h t d
  have hk : ∀ (b : Fin 8) (h : Fin 4), ks s hn b h = part (HgrnSpec.keys (bounds x4) (ents x1)) b.val n h.val := fun b h =>
    funext fun t => funext fun d => by
      show s.main_v48_1 _ = _
      rw [H.keys]
      exact v37_apply x0 x1 x2 x4 ⟨n, hn⟩ b h t d
  have hv : ∀ (b : Fin 8) (h : Fin 4), vs s hn b h = part (ents x2) b.val n h.val := fun b h =>
    funext fun t => funext fun d => by
      show s.main_v48_2 _ = _
      rw [H.values]
      exact v39_apply x0 x1 x2 x4 ⟨n, hn⟩ b h t d
  have hs : ∀ (b : Fin 8) (h : Fin 4), st s b h = stateAt (bounds x4) (ents x1) (ents x2) b.val h.val n := fun b h =>
    funext fun d => funext fun w => H.state b h d w
  refine ⟨H.queries, H.keys, H.values, H.decays, fun b h d w => ?_, fun k hk' b h t w => ?_⟩
  · rw [step_main_v48_6, b58_apply s hn b h _ (hl b h), hk, hv, hs, stateAt_succ]
  · rw [step_main_v48_7, b65_apply s hn]
    by_cases e : k.val = n
    · rw [if_pos e, b59_apply s hn b h _ (hl b h), hq, hk, hv, hs, e]
      rfl
    · rw [if_neg e]
      exact H.done k (by omega) b h t w

theorem holds_loop : ∀ n : ℕ, n ≤ 64 → Holds x0 x1 x2 x4 n (loop x0 x1 x2 x4 n)
  | 0, _ => holds_init x0 x1 x2 x4
  | n + 1, h => holds_step x0 x1 x2 x4 hb (by omega) _ (holds_loop n (by omega))

omit hb in
/-- The reference's result at an entry, of the loop's last state. -/
theorem result_apply (s : State Ideal) (lb : Fin 512 → EReal)
    (hd : ∀ (k : Fin 64) (b : Fin 8) (h : Fin 4) (t : Fin 64) (w : Fin 128),
      s.main_v48_7 (ix5 k b h t w) = mixAt lb (ents x0) (ents x1) (ents x2) b.val h.val k.val t w)
    (x3 : FVec Ideal S32768x512 .bf16) (x5 : FVec Ideal S1x128 .f32) (R : Fin 32768) (c : Fin 512) :
    R_main_v71 (F := Ideal) s x3 x5 (ix2 R c)
      = resultAt lb (ents x0) (ents x1) (ents x2) (ents x3) (fun w => x5 (ix2 0 w)) (R.val / 4096) (c.val / 128) (R.val % 4096 / 64)
          ⟨R.val % 4096 % 64, Nat.mod_lt _ (by decide)⟩ ⟨c.val % 128, Nat.mod_lt _ (by decide)⟩ := by
  have hR := R.isLt
  have hc := c.isLt
  have e : part (ents x3) (R.val / 4096) (R.val % 4096 / 64) (c.val / 128) ⟨R.val % 4096 % 64, Nat.mod_lt _ (by decide)⟩
      ⟨c.val % 128, Nat.mod_lt _ (by decide)⟩ = x3 (ix2 R c) :=
    congrArg₂ (fun R c => x3 (ix2 R c)) (Fin.ext (by dsimp only; omega)) (Fin.ext (by dsimp only; omega))
  unfold resultAt
  rw [e]
  pointwise [R_main_v71]
  simp only [hd]
  rfl

end Cert.HgrnRefIdeal.Rows

end
-- ==== Proof.Hgrn.Claims.lean ====
/- What is claimed of the recurrence: the runs stop with their arguments kept, the named constants are the values the
   program's text records, and, where the logits of the lower bounds are finite, kernel and reference compute one array. -/
module

public import proofs.«01_k».proof.Defs
public import proofs.«01_k».proof.Proof.Gen.Hgrn.Frame
public import proofs.«01_k».proof.Proof.Hgrn.RefRun
public import proofs.«01_k».proof.Proof.Gen.Pre_finite_bounds
public import proofs.«01_k».proof.Proof.Hgrn.Fold
public import proofs.«01_k».proof.Proof.Hgrn.RefLoop

@[expose] public section

set_option maxRecDepth 16384

noncomputable section

namespace Cert.HgrnClaims

open Idealize.ShloMosaic Idealize.ShloMosaic.Pointwise Idealize.ShloMosaic.TcCoe Idealize.SL.Sem Cert.HgrnSpec

/-- The kernel's run ends, keeps its arguments and leaves every counter at zero. -/
theorem frame_kernel : Cert.quiescent_Hgrn := fun m ρ _ => Cert.Hgrn.Gen.frame m ρ

/-- So does the idealized kernel's. -/
theorem frame_ideal : Cert.quiescent_HgrnIdeal := fun m ρ _ => Cert.HgrnIdeal.Gen.frame m ρ

theorem frame_ideal_pre : Cert.quiescent_HgrnIdeal_pre_finite_bounds := fun m ρ _ => Cert.HgrnIdeal.Gen.frame m ρ

/-- So does the reference's. -/
theorem frame_ref : Cert.quiescent_HgrnRefIdeal := fun m ρ _ =>
  (θ_run Cert.HgrnRefIdeal.defs _ _).mono (fun r h => ⟨fun c => (h c).2, sem_eq_zero_of_no_sems (by decide) r.2⟩)
    (Cert.HgrnRefIdeal.Value.run (F := Ideal) m ρ)

theorem frame_ref_pre : Cert.quiescent_HgrnRefIdeal_pre_finite_bounds := fun m ρ _ => frame_ref m ρ trivial

/-- The literals stand for minus the reciprocal, and the reciprocal, of the logarithm of two. -/
theorem preserves : Cert.preserves_Hgrn_HgrnIdeal :=
  ⟨IdealRules.named_const.statement Cert.HgrnIdeal.κ "neg_log2e" .f32 0xBFB8AA3B#32 ((-((Real.log 2)⁻¹) : ℝ) : EReal) rfl,
    IdealRules.named_const.statement Cert.HgrnIdeal.κ "inv_ln2" .f32 0x3FB8AA3B#32 (((Real.log 2)⁻¹ : ℝ) : EReal) rfl⟩

/-- A value whose magnitude compares below the infinite literal is a real number. -/
theorem real_of_abs (x : EReal) (h : BitVec.ofBool (decide (max x (-x) < Ideal.ofBits FTy.f32 0x7F800000#32)) = 1#1) :
    ∃ r : ℝ, x = (r : EReal) := by
  have ht : Ideal.ofBits FTy.f32 0x7F800000#32 = (⊤ : EReal) := by simp [Ideal.ofBits, Ideal.ieee]
  rw [ht] at h
  induction x using EReal.rec with
  | bot => simp at h
  | top => simp at h
  | coe r => exact ⟨r, rfl⟩

open Cert.HgrnIdeal Cert.HgrnIdeal.Gen in
/-- Under the precondition the logits are real numbers. -/
theorem finite (m : (ℓ : Loc nD τ sig) → Buf (Elt Ideal) ℓ) (hp : Cert.Pre_HgrnIdeal_finite_bounds m) (c : Dev nD) (i : Fin 2) (j : Fin 512) :
    ∃ r : ℝ, (V m c main_arg4 (ix2 i j) : EReal) = (r : EReal) := by
  have h := congrFun (hp c) (ix2 i j)
  revert h
  pointwise [Cert.Pre_finite_bounds.fn]
  exact fun h => real_of_abs _ h

open Cert.HgrnIdeal Cert.HgrnIdeal.Gen in
/-- So every lower bound lies strictly between zero and one. -/
theorem bounds_real (m : (ℓ : Loc nD τ sig) → Buf (Elt Ideal) ℓ) (hp : Cert.Pre_HgrnIdeal_finite_bounds m) (c : Dev nD) (j : Fin 512) :
    ∃ y : ℝ, 0 < y ∧ y < 1 ∧ Cert.HgrnIdeal.Windows.lows m c j = (y : EReal) := by
  choose r hr using fun i => finite m hp c i j
  exact lowerBound_real _ r hr

/-- On the same arguments, with finite logits, the idealized kernel and the reference leave the same array. -/
theorem algebraic : Cert.algebraic_HgrnIdeal_HgrnRefIdeal_pre_finite_bounds := by
  intro m ρ m' ρ' hp hagree
  refine ⟨fun c => Cert.HgrnIdeal.Value.G7 m c, Cert.HgrnIdeal.Value.run (F := Ideal) m ρ, ?_⟩
  refine (θ_run Cert.HgrnRefIdeal.defs _ _).mono (fun _ h c => ⟨(h c).1.trans ?_, (h c).2⟩)
    (Cert.HgrnRefIdeal.Rows.run_steps (F := Ideal) m' ρ'
      (fun c => Cert.HgrnRefIdeal.Rows.loop (m' (c.tc.loc Cert.HgrnRefIdeal.main_arg0)) (m' (c.tc.loc Cert.HgrnRefIdeal.main_arg1))
        (m' (c.tc.loc Cert.HgrnRefIdeal.main_arg2)) (m' (c.tc.loc Cert.HgrnRefIdeal.main_arg4))) (fun c => rfl) (fun c n => rfl))
  obtain ⟨e0, e1, e2, e3, e4, e5⟩ := hagree c
  dsimp only
  rw [e0, e1, e2, e3, e4, e5]
  have hb := bounds_real m hp c
  have hr : ∀ R j, gate (Cert.HgrnIdeal.Windows.lows m c) (Cert.HgrnIdeal.Windows.fA m c) R j
      = E (logs (Cert.HgrnIdeal.Windows.lows m c) (Cert.HgrnIdeal.Windows.fA m c) R j) := fun R j => by
    obtain ⟨y, h0, h1, hy⟩ := hb j
    exact gate_eq _ _ R j y h0 h1 hy
  funext i
  have hi : i = ix2 (i 0) (i 1) := eq_ix2 i
  rw [hi]
  refine Eq.trans ?_ (Cert.HgrnIdeal.Windows.final_apply m c hr (i 0) (i 1)).symm
  exact Cert.HgrnRefIdeal.Rows.result_apply _ _ _ _ (Cert.HgrnIdeal.Windows.lows m c)
    (fun k b h t w => (Cert.HgrnRefIdeal.Rows.holds_loop _ _ _ _ hb 64 le_rfl).done k k.isLt b h t w) _ _ (i 0) (i 1)

end Cert.HgrnClaims

end
-- ==== Proof.Decay.Chunk.lean ====
/- The kernel's body at one grid point as 32 chunks of 128 rows, each passing a row of sums on to the next. -/
module

public import proofs.«01_k».proof.Proof.Gen.DecayIdeal.Frame

@[expose] public section

set_option maxRecDepth 16384

noncomputable section

namespace Cert.DecayIdeal.Chunk

open Cert.DecayIdeal Cert.DecayIdeal.Gen Idealize.ShloMosaic Idealize.SL.Sem

variable {F : FTy → Type} [FloatOps F]

theorem rows_le (k : ℕ) : ∀ a, (![0, 128 * (k % 32), 0] : Fin 3 → ℕ) a + S1x128x128.size a ≤ S1x4096x128.size a := by
  have : k % 32 < 32 := Nat.mod_lt _ (by decide)
  intro a
  fin_cases a
  · show 0 + 1 ≤ 1
    omega
  · show 128 * (k % 32) + 128 ≤ 4096
    omega
  · show 0 + 128 ≤ 128
    omega

/-- A chunk's rows of a block. -/
abbrev rowsRect (k : ℕ) : Rect S1x4096x128 := Rect.unit ![0, 128 * (k % 32), 0] S1x128x128.size (rows_le k)

section Lists

variable (b : Vec F S1x128 .f32) (x : ℕ → Vec F S1x128x128 .f32)

/-- The row of sums a chunk passes on, and the rows it stores. -/
def nextCarry (x : Vec F S1x128x128 .f32) (carry : FVec F S1x128 .f32) : FVec F S1x128 .f32 :=
  k0_pay12 k0_pay2 carry (k0_pay9 b x) (k0_pay10 b x)

def stored (x : Vec F S1x128x128 .f32) (carry : FVec F S1x128 .f32) : FVec F S1x128x128 .bf16 :=
  k0_pay13 k0_pay2 k0_pay3 k0_pay4 k0_pay5 carry (k0_pay9 b x) (k0_pay10 b x)

/-- The row of sums before a chunk. -/
def carry (k : ℕ) : FVec F S1x128 .f32 := Nat.rec k0_pay7 (fun k s => nextCarry b (x k) s) k

/-- The pieces the first chunks store, the last first. -/
def pieces (k : ℕ) : List (View.Piece (Elt F) S1x4096x128 .bf16) :=
  Nat.rec [] (fun k L => ⟨rowsRect k, stored b (x k) (carry b x k)⟩ :: L) k

end Lists

/-- A chunk's rows of a block of inputs. -/
def rowsOf (x0 : Vec F S1x4096x128 .f32) (k : ℕ) : Vec F S1x128x128 .f32 := View.ld x0 (rowsRect k)

set_option maxHeartbeats 4000000 in
theorem block_eq (x0 : Vec F S1x4096x128 .f32) (x1 : Vec F S1x128 .f32) :
    out0_2 x0 x1 = View.canon (pieces (View.ld x1 r0_0) (rowsOf x0) 32) := rfl

end Cert.DecayIdeal.Chunk

end
-- ==== Proof.Decay.Spec.lean ====
/- The summed decays on the extended reals: the logarithm of the sigmoid, its running sum over the rows in chunks of 128,
   and the three terms a sum is stored as. -/
module

public import Idealize.ShloMosaic.PureOps.Ideal
public import Idealize.ShloMosaic.PureOps.Ideal.Laws

@[expose] public section

noncomputable section

namespace Cert.DecaySpec

open Idealize.ShloMosaic

/-- The logarithm of the sigmoid. -/
def ls (z : EReal) : EReal := min z 0 - Ideal.log1p (Ideal.exp (-max z (-z)))

theorem log1p_exp (r : ℝ) : Ideal.log1p (Ideal.exp (r : EReal)) = ((Real.log (1 + Real.exp r) : ℝ) : EReal) := by
  have h := Real.exp_pos r
  rw [Ideal.exp_coe]
  show Ideal.log (1 + ((Real.exp r : ℝ) : EReal)) = _
  rw [← EReal.coe_one, ← EReal.coe_add]
  exact if_neg (by linarith)

theorem log1p_exp_bot : Ideal.log1p (Ideal.exp ⊥) = 0 := by
  show Ideal.log (1 + 0) = 0
  rw [add_zero, ← EReal.coe_one]
  refine (if_neg (by norm_num)).trans ?_
  rw [Real.log_one, EReal.coe_zero]

/-- The greater of two real numbers, and the smaller. -/
theorem coe_max' (a b : ℝ) : max (a : EReal) (b : EReal) = ((max a b : ℝ) : EReal) :=
  (EReal.coe_strictMono.monotone.map_max).symm

theorem coe_min' (a b : ℝ) : min (a : EReal) (b : EReal) = ((min a b : ℝ) : EReal) :=
  (EReal.coe_strictMono.monotone.map_min).symm

theorem ls_ne_top (z : EReal) : ls z ≠ ⊤ := by
  unfold ls
  induction z using EReal.rec with
  | bot => simp
  | top => rw [show -max (⊤ : EReal) (-⊤) = ⊥ by simp, log1p_exp_bot]; simp
  | coe r =>
    rw [← EReal.coe_neg, coe_max', ← EReal.coe_neg, log1p_exp, ← EReal.coe_zero, coe_min', ← EReal.coe_sub]
    exact EReal.coe_ne_top _

/-- Minus the softplus of the opposite is the logarithm of the sigmoid. -/
theorem softplus (z : EReal) : -(max (-z) 0 + Ideal.log1p (Ideal.exp (-max (-z) z))) = ls z := by
  unfold ls
  induction z using EReal.rec with
  | bot => rw [show -max (-(⊥ : EReal)) ⊥ = ⊥ by simp, show -max (⊥ : EReal) (-⊥) = ⊥ by simp, log1p_exp_bot]; simp
  | top => rw [show -max (-(⊤ : EReal)) ⊤ = ⊥ by simp, show -max (⊤ : EReal) (-⊤) = ⊥ by simp, log1p_exp_bot]; simp
  | coe r =>
    rw [max_comm (-(r : EReal)) (r : EReal), ← EReal.coe_neg, coe_max', ← EReal.coe_neg, log1p_exp, ← EReal.coe_zero, coe_max',
      coe_min', ← EReal.coe_sub, ← EReal.coe_add, ← EReal.coe_neg]
    congr 1
    rcases le_total r 0 with h | h
    · rw [min_eq_left h, max_eq_left (by linarith)]
      ring
    · rw [min_eq_right h, max_eq_right (by linarith)]
      ring

/-- A number and what two roundings leave of it add up to the number. -/
theorem whole {a : EReal} (h : a ≠ ⊤) : a + (a - a) + (a - a - (a - a)) = a := by
  induction a using EReal.rec with
  | bot => simp
  | top => exact absurd rfl h
  | coe r =>
    simp only [← EReal.coe_sub, ← EReal.coe_add]
    congr 1
    ring

/-- The sum over the rows up to `128 k + r`: all rows of the chunks before, and the chunk's own up to row `r`. -/
theorem chunks (f : ℕ → EReal) (k : ℕ) (r : Fin 128) (hk : k < 32) :
    (∑ u : Fin 128, if u.val ≤ r.val then f (128 * k + u.val) else 0) + ∑ i ∈ Finset.range k, ∑ u : Fin 128, f (128 * i + u.val)
      = ∑ u : Fin 4096, if u.val ≤ 128 * k + r.val then f u.val else 0 := by
  have before : ∀ k, ∑ i ∈ Finset.range k, ∑ u : Fin 128, f (128 * i + u.val) = ∑ u ∈ Finset.range (128 * k), f u := fun k => by
    induction k with
    | zero => simp
    | succ k ih => rw [Finset.sum_range_succ, ih, Nat.mul_succ, Finset.sum_range_add, Finset.sum_range (fun u => f (128 * k + u))]
  have upTo : ∀ (n m : ℕ) (g : ℕ → EReal), m < n → ∑ u : Fin n, (if u.val ≤ m then g u.val else 0) = ∑ u ∈ Finset.range (m + 1), g u := fun n m g h => by
    rw [← Finset.sum_range (fun u => if u ≤ m then g u else 0), ← Finset.sum_filter]
    refine Finset.sum_congr (Finset.ext fun u => ?_) fun _ _ => rfl
    rw [Finset.mem_filter, Finset.mem_range, Finset.mem_range]
    omega
  have hr := r.isLt
  rw [before, upTo 128 r.val (fun u => f (128 * k + u)) hr, upTo 4096 _ f (by omega), add_assoc (128 * k), Finset.sum_range_add f (128 * k), add_comm]

/-- Column `c` of the 128: a sum's own value, then what its rounding leaves of it, then what the next one leaves, each of the
    8 heads; then zeros. -/
def pick (v : Fin 8 → EReal) (c : Fin 128) : EReal :=
  if c.val < 8 then v ⟨c.val % 8, Nat.mod_lt _ (by decide)⟩
  else if c.val < 16 then v ⟨c.val % 8, Nat.mod_lt _ (by decide)⟩ - v ⟨c.val % 8, Nat.mod_lt _ (by decide)⟩
  else if c.val < 24 then v ⟨c.val % 8, Nat.mod_lt _ (by decide)⟩ - v ⟨c.val % 8, Nat.mod_lt _ (by decide)⟩
    - (v ⟨c.val % 8, Nat.mod_lt _ (by decide)⟩ - v ⟨c.val % 8, Nat.mod_lt _ (by decide)⟩)
  else 0

/-- Taking 8 columns to the columns from `n` on. -/
theorem place (K : Fin 128 → EReal) (n : ℕ) (hn : n % 8 = 0) (c : Fin 128) :
    (∑ x : Fin 128, K x * (if c.val = x.val + n ∧ x.val < 8 then 1 else 0))
      = if n ≤ c.val ∧ c.val < n + 8 then K ⟨c.val % 8, by omega⟩ else 0 := by
  by_cases h : n ≤ c.val ∧ c.val < n + 8
  · rw [if_pos h, Finset.sum_eq_single ⟨c.val % 8, by omega⟩ _ (fun h => absurd (Finset.mem_univ _) h), if_pos (by dsimp only; omega), mul_one]
    intro x _ hx
    rw [if_neg, mul_zero]
    intro e
    exact hx (Fin.ext (by dsimp only; omega))
  · rw [if_neg h]
    refine Finset.sum_eq_zero fun x _ => ?_
    rw [if_neg (by omega), mul_zero]

theorem pick_eq (v : Fin 8 → EReal) (K : Fin 128 → EReal) (hv : ∀ (x : Fin 128) (h : x.val < 8), K x = v ⟨x.val, h⟩) (c : Fin 128) :
    (∑ x : Fin 128, K x * (if c.val = x.val + 0 ∧ x.val < 8 then 1 else 0))
        + (∑ x : Fin 128, (K x - K x) * (if c.val = x.val + 8 ∧ x.val < 8 then 1 else 0))
        + (∑ x : Fin 128, (K x - K x - (K x - K x)) * (if c.val = x.val + 16 ∧ x.val < 8 then 1 else 0))
      = pick v c := by
  have e := hv ⟨c.val % 8, by omega⟩ (Nat.mod_lt _ (by decide))
  rw [place K 0 rfl, place (fun x => K x - K x) 8 rfl, place (fun x => K x - K x - (K x - K x)) 16 rfl]
  simp only [e]
  unfold pick
  by_cases h0 : c.val < 8
  · rw [if_pos (by omega), if_neg (by omega), if_neg (by omega), if_pos h0, add_zero, add_zero]
  by_cases h1 : c.val < 16
  · rw [if_neg (by omega), if_pos (by omega), if_neg (by omega), if_neg h0, if_pos h1, add_zero, zero_add]
  by_cases h2 : c.val < 24
  · rw [if_neg (by omega), if_neg (by omega), if_pos (by omega), if_neg h0, if_neg h1, if_pos h2, add_zero, zero_add]
  · rw [if_neg (by omega), if_neg (by omega), if_neg (by omega), if_neg h0, if_neg h1, if_neg h2, add_zero, add_zero]

end Cert.DecaySpec

end
-- ==== Proof.Decay.Table.lean ====
/- The triangle and the three column matrices of the body, entry by entry. -/
module

public import proofs.«01_k».proof.Proof.Decay.Chunk
public import Idealize.ShloMosaic.Lib.Pointwise

@[expose] public section

set_option maxRecDepth 16384

noncomputable section

namespace Cert.DecayIdeal.Chunk

open Cert.DecayIdeal Cert.DecayIdeal.Gen Idealize.ShloMosaic Idealize.ShloMosaic.Pointwise Idealize.SL.Sem

/-- A word that is one or zero as a number. -/
theorem bit (p : Prop) [Decidable p] (w : BitVec 32) (h : w = if p then 1#32 else 0#32) :
    FloatOps.sitofp (F := Ideal) FTy.f32 w = if p then (1 : EReal) else 0 := by
  rw [h]
  by_cases hp : p
  · rw [if_pos hp, if_pos hp]
    show (((1#32).toInt : ℝ) : EReal) = 1
    simp
  · rw [if_neg hp, if_neg hp]
    show (((0#32).toInt : ℝ) : EReal) = 0
    simp

/-- The triangle that sums a chunk's rows. -/
theorem triangle (r s : Fin 128) : k0_pay2 (F := Ideal) (ix2 r s) = if s.val ≤ r.val then (1 : EReal) else 0 := by
  pointwise [k0_pay2]
  exact bit _ _ ((by decide +kernel : ∀ r s : Fin 128,
    BitVec.setWidth 32 (IntOp.cmpi CmpIPredicate.sle (BitVec.ofNat 32 s.val) (BitVec.ofNat 32 r.val)) = if s.val ≤ r.val then 1#32 else 0#32) r s)

/-- The matrices that take 8 columns to columns from 0, 8 and 16 on. -/
theorem place0 (x c : Fin 128) : k0_pay3 (F := Ideal) (ix2 x c) = if c.val = x.val + 0 ∧ x.val < 8 then (1 : EReal) else 0 := by
  pointwise [k0_pay3]
  exact bit _ _ ((by decide +kernel : ∀ x c : Fin 128,
    BitVec.setWidth 32 (IntOp.andi (IntOp.cmpi CmpIPredicate.eq (BitVec.ofNat 32 c.val) (IntOp.addi (BitVec.ofNat 32 x.val) 0#32))
      (IntOp.cmpi CmpIPredicate.slt (BitVec.ofNat 32 x.val) 8#32)) = if c.val = x.val + 0 ∧ x.val < 8 then 1#32 else 0#32) x c)

theorem place8 (x c : Fin 128) : k0_pay4 (F := Ideal) (ix2 x c) = if c.val = x.val + 8 ∧ x.val < 8 then (1 : EReal) else 0 := by
  pointwise [k0_pay4]
  exact bit _ _ ((by decide +kernel : ∀ x c : Fin 128,
    BitVec.setWidth 32 (IntOp.andi (IntOp.cmpi CmpIPredicate.eq (BitVec.ofNat 32 c.val) (IntOp.addi (BitVec.ofNat 32 x.val) 8#32))
      (IntOp.cmpi CmpIPredicate.slt (BitVec.ofNat 32 x.val) 8#32)) = if c.val = x.val + 8 ∧ x.val < 8 then 1#32 else 0#32) x c)

theorem place16 (x c : Fin 128) : k0_pay5 (F := Ideal) (ix2 x c) = if c.val = x.val + 16 ∧ x.val < 8 then (1 : EReal) else 0 := by
  pointwise [k0_pay5]
  exact bit _ _ ((by decide +kernel : ∀ x c : Fin 128,
    BitVec.setWidth 32 (IntOp.andi (IntOp.cmpi CmpIPredicate.eq (BitVec.ofNat 32 c.val) (IntOp.addi (BitVec.ofNat 32 x.val) 16#32))
      (IntOp.cmpi CmpIPredicate.slt (BitVec.ofNat 32 x.val) 8#32)) = if c.val = x.val + 16 ∧ x.val < 8 then 1#32 else 0#32) x c)

end Cert.DecayIdeal.Chunk

end
-- ==== Proof.Decay.Rows.lean ====
/- A chunk's rows at an entry: the running sums of the rows before, scaled, in three terms. -/
module

public import proofs.«01_k».proof.Proof.Decay.Chunk
public import proofs.«01_k».proof.Proof.Decay.Spec
public import proofs.«01_k».proof.Proof.Decay.Table
public import Idealize.ShloMosaic.Lib.Pointwise

@[expose] public section

set_option maxRecDepth 16384

noncomputable section

namespace Cert.DecayIdeal.Chunk

open Cert.DecayIdeal Cert.DecayIdeal.Gen Cert.DecaySpec Idealize.ShloMosaic Idealize.ShloMosaic.Pointwise Idealize.SL.Sem

section Sums

variable (b : Vec Ideal S1x128 .f32)

/-- A chunk's running sums. -/
def sums (x : Vec Ideal S1x128x128 .f32) (carry : FVec Ideal S1x128 .f32) : FVec Ideal S128x128 .f32 :=
  k0_pay11 k0_pay2 carry (k0_pay9 b x) (k0_pay10 b x)

theorem sums_apply (x : Vec Ideal S1x128x128 .f32) (carry : FVec Ideal S1x128 .f32) (r s : Fin 128) :
    sums b x carry (ix2 r s) = (∑ u : Fin 128, if u.val ≤ r.val then ls (x (ix3 0 u s) + b (ix2 0 s)) else 0) + carry (ix2 0 s) := by
  unfold sums
  have h : ∀ u, k0_pay9 (F := Ideal) b x (ix2 u s) - Ideal.log1p (Ideal.exp (k0_pay10 (F := Ideal) b x (ix2 u s))) = ls (x (ix3 0 u s) + b (ix2 0 s)) := fun u => by
    pointwise [k0_pay9, k0_pay10, k0_pay8, k0_pay6]
    unfold ls
    rw [zero_sub]
    rfl
  pointwise [k0_pay11]
  simp only [h, triangle]
  rw [← Finset.sum_add_distrib, ← Finset.sum_add_distrib]
  refine congrArg (· + carry (ix2 0 s)) (Finset.sum_congr rfl fun u _ => ?_)
  by_cases hu : u.val ≤ r.val
  · simp only [if_pos hu, one_mul]
    exact whole (ls_ne_top _)
  · simp only [if_neg hu, zero_mul, add_zero]

theorem nextCarry_apply (x : Vec Ideal S1x128x128 .f32) (carry : FVec Ideal S1x128 .f32) (s : Fin 128) :
    nextCarry b x carry (ix2 0 s) = (∑ u : Fin 128, ls (x (ix3 0 u s) + b (ix2 0 s))) + carry (ix2 0 s) := by
  have h : nextCarry b x carry (ix2 0 s) = sums b x carry (ix2 127 s) := by
    unfold nextCarry k0_pay12 sums
    pointwise
  rw [h, sums_apply]
  refine congrArg (· + carry (ix2 0 s)) (Finset.sum_congr rfl fun u _ => ?_)
  have := u.isLt
  exact if_pos (by show u.val ≤ 127; omega)

theorem carry_apply (x : ℕ → Vec Ideal S1x128x128 .f32) (k : ℕ) (s : Fin 128) :
    carry b x k (ix2 0 s) = ∑ i ∈ Finset.range k, ∑ u : Fin 128, ls (x i (ix3 0 u s) + b (ix2 0 s)) := by
  induction k with
  | zero =>
    show k0_pay7 (F := Ideal) (ix2 0 s) = _
    pointwise [k0_pay7]
    simp
  | succ k ih =>
    show nextCarry b (x k) (carry b x k) (ix2 0 s) = _
    rw [nextCarry_apply, ih, Finset.sum_range_succ, add_comm]

/-- The constant the sums are scaled by. -/
abbrev scale : EReal := Ideal.ofBits FTy.f32 3216550459#32

theorem placed (T A B C : FVec Ideal S128x128 .bf16) (carry : FVec Ideal S1x128 .f32) (p q K : FVec Ideal S128x128 .f32) (hK : k0_pay11 T carry p q = K)
    (r c : Fin 128) : k0_pay13 (F := Ideal) T A B C carry p q (ix3 0 r c)
      = (∑ s : Fin 128, K (ix2 r s) * scale * A (ix2 s c)) + (∑ s : Fin 128, (K (ix2 r s) * scale - K (ix2 r s) * scale) * B (ix2 s c))
        + (∑ s : Fin 128, (K (ix2 r s) * scale - K (ix2 r s) * scale - (K (ix2 r s) * scale - K (ix2 r s) * scale)) * C (ix2 s c)) := by
  unfold k0_pay13
  rw [hK]
  pointwise

theorem stored_apply (x : Vec Ideal S1x128x128 .f32) (carry : FVec Ideal S1x128 .f32) (v : Fin 8 → EReal) (r c : Fin 128)
    (hv : ∀ (s : Fin 128) (h : s.val < 8), sums b x carry (ix2 r s) * scale = v ⟨s.val, h⟩) :
    stored b x carry (ix3 0 r c) = pick v c := by
  rw [← pick_eq v (fun s => sums b x carry (ix2 r s) * scale) hv]
  unfold stored
  rw [placed _ _ _ _ _ _ _ (sums b x carry) rfl]
  simp only [place0, place8, place16]

end Sums

end Cert.DecayIdeal.Chunk

end
-- ==== Proof.Decay.Block.lean ====
/- What the body leaves in its block of results, entry by entry: the block's running sums. -/
module

public import proofs.«01_k».proof.Proof.Decay.Rows

@[expose] public section

set_option maxRecDepth 16384

noncomputable section

namespace Cert.DecayIdeal.Chunk

open Cert.DecayIdeal Cert.DecayIdeal.Gen Cert.DecaySpec Idealize.ShloMosaic Idealize.ShloMosaic.Pointwise Idealize.SL.Sem

section Lists

variable {F : FTy → Type} [FloatOps F] (b : Vec F S1x128 .f32) (x : ℕ → Vec F S1x128x128 .f32)

theorem pieces_succ (n : ℕ) : pieces b x (n + 1) = ⟨rowsRect n, stored b (x n) (carry b x n)⟩ :: pieces b x n := rfl

/-- A chunk's rows of the results are the chunk's own. -/
theorem canon_pieces (N k : ℕ) (hN : N ≤ 32) (hk : k < N) (j : S1x128x128.Idx) :
    View.canon (pieces b x N) ((rowsRect k).emb j) = stored b (x k) (carry b x k) j := by
  induction N with
  | zero => omega
  | succ N ih =>
    rw [pieces_succ]
    by_cases e : k = N
    · subst e
      exact View.canon_cons_emb (rowsRect k) _ _ j
    · refine (View.canon_cons_of_not_mem _ _ fun h => ?_).trans (ih (by omega) (by omega))
      have a := (Rect.mem_set_unit (inb := rows_le N)).mp h (1 : Fin 3)
      have j1 : (j (1 : Fin 3)).val < 128 := (j (1 : Fin 3)).isLt
      have a' : 128 * (N % 32) ≤ 128 * (k % 32) + 1 * (j (1 : Fin 3)).val ∧ 128 * (k % 32) + 1 * (j (1 : Fin 3)).val < 128 * (N % 32) + 128 := a
      omega

end Lists

theorem emb_rows (k : ℕ) (hk : k < 32) (r c : Fin 128) : (rowsRect k).emb (ix3 0 r c) = ix3 0 ⟨128 * k + r.val, by omega⟩ c := by
  funext a
  apply Fin.ext
  fin_cases a
  · rfl
  · show 128 * (k % 32) + 1 * r.val = 128 * k + r.val
    omega
  · show 0 + 1 * c.val = c.val
    omega

theorem rowsOf_apply (x0 : Vec Ideal S1x4096x128 .f32) (k : ℕ) (hk : k < 32) (r c : Fin 128) :
    rowsOf x0 k (ix3 0 r c) = x0 (ix3 0 ⟨128 * k + r.val, by omega⟩ c) :=
  congrArg x0 (emb_rows k hk r c)

theorem biasIn (x1 : Vec Ideal S1x128 .f32) (s : Fin 128) : View.ld x1 r0_0 (ix2 0 s) = x1 (ix2 0 s) := by
  refine congrArg x1 (funext fun a => Fin.ext ?_)
  fin_cases a
  · rfl
  · show 0 + 1 * s.val = s.val
    omega

/-- The running sum up to a row, scaled. -/
def total (z : Fin 4096 → EReal) (R : Fin 4096) : EReal := (∑ u : Fin 4096, if u.val ≤ R.val then ls (z u) else 0) * scale

theorem block_apply (x0 : Vec Ideal S1x4096x128 .f32) (x1 : Vec Ideal S1x128 .f32) (R : Fin 4096) (c : Fin 128) :
    out0_2 x0 x1 (ix3 0 R c)
      = pick (fun h => total (fun u => x0 (ix3 0 u ⟨h.val, by omega⟩) + x1 (ix2 0 ⟨h.val, by omega⟩)) R) c := by
  have hR := R.isLt
  have hk : R.val / 128 < 32 := by omega
  have e : (ix3 0 R c : S1x4096x128.Idx) = (rowsRect (R.val / 128)).emb (ix3 0 ⟨R.val % 128, by omega⟩ c) := by
    rw [emb_rows _ hk]
    exact congrArg (fun R => ix3 0 R c) (Fin.ext (Nat.div_add_mod R.val 128).symm)
  rw [block_eq, e, canon_pieces _ _ 32 _ le_rfl hk]
  refine stored_apply _ _ _ _ _ _ fun s hs => ?_
  rw [sums_apply, carry_apply]
  unfold total
  refine congrArg (· * scale) ?_
  have hf : ∀ k (hk : k < 32) (u : Fin 128), ls (rowsOf x0 k (ix3 0 u s) + View.ld x1 r0_0 (ix2 0 s))
      = (fun n => ls (x0 (ix3 0 ⟨n % 4096, Nat.mod_lt _ (by decide)⟩ s) + x1 (ix2 0 s))) (128 * k + u.val) := fun k hk u => by
    rw [rowsOf_apply _ k hk, biasIn]
    refine congrArg (fun R => ls (x0 (ix3 0 R s) + x1 (ix2 0 s))) (Fin.ext ?_)
    show 128 * k + u.val = (128 * k + u.val) % 4096
    omega
  have h1 : (∑ i ∈ Finset.range (R.val / 128), ∑ u : Fin 128, ls (rowsOf x0 i (ix3 0 u s) + View.ld x1 r0_0 (ix2 0 s)))
      = ∑ i ∈ Finset.range (R.val / 128), ∑ u : Fin 128, (fun n => ls (x0 (ix3 0 ⟨n % 4096, Nat.mod_lt _ (by decide)⟩ s) + x1 (ix2 0 s))) (128 * i + u.val) :=
    Finset.sum_congr rfl fun i hi => Finset.sum_congr rfl fun u _ => hf i (by have := Finset.mem_range.mp hi; omega) u
  rw [h1]
  simp only [hf _ hk]
  refine (chunks (fun n => ls (x0 (ix3 0 ⟨n % 4096, Nat.mod_lt _ (by decide)⟩ s) + x1 (ix2 0 s))) (R.val / 128) ⟨R.val % 128, by omega⟩ hk).trans (Finset.sum_congr rfl fun u _ => ?_)
  have hd : 128 * (R.val / 128) + R.val % 128 = R.val := Nat.div_add_mod _ _
  have hu : (⟨u.val % 4096, Nat.mod_lt _ (by decide)⟩ : Fin 4096) = u := Fin.ext (Nat.mod_eq_of_lt u.isLt)
  dsimp only
  rw [hd, hu]

end Cert.DecayIdeal.Chunk

end
-- ==== Proof.Decay.RefWindow.lean ====
/- The reference's running sum over the 4096 rows at an entry. -/
module

public import proofs.«01_k».proof.Proof.Gen.DecayRefIdeal.Read
public import Idealize.ShloMosaic.Lib.Pointwise

@[expose] public section

set_option maxRecDepth 16384

noncomputable section

namespace Cert.DecayRefIdeal.Rows

open Cert.DecayRefIdeal Cert.DecayRefIdeal.Gen Idealize.ShloMosaic Idealize.ShloMosaic.Pointwise

/-- A left fold of additions is a sum. -/
theorem foldl_add {n : ℕ} (F : Fin n → EReal) (v : EReal) :
    (List.finRange n).foldl (fun r k => r + F k) v = v + ∑ k, F k := by
  rw [Fin.sum_univ_def]
  generalize List.finRange n = L
  induction L generalizing v with
  | nil => simp
  | cons a L ih => rw [List.foldl_cons, ih, List.map_cons, List.sum_cons, add_assoc]

/-- A window sum is the initial value and the sum over the window's places. -/
theorem window_sum {s t u : Shape} (window strides lo hi : Fin s.rank → ℕ) (x : FVec Ideal s .f32) (z : FVec Ideal u .f32)
    (h : s.ReduceWindows window strides lo hi t) (hu : 0 < u.numel) (j : t.Idx) :
    Host.reduceWindowAdd window strides lo hi x z h hu j = (z (Shape.Idx.first hu) : EReal)
      + ∑ k : Fin (⟨s.rank, window⟩ : Shape).numel,
          if hin : ∀ a, lo a ≤ (j (a.cast h.1.symm)).val * strides a + ((⟨s.rank, window⟩ : Shape).rowMajor.symm k a).val
              ∧ (j (a.cast h.1.symm)).val * strides a + ((⟨s.rank, window⟩ : Shape).rowMajor.symm k a).val - lo a < s.size a
          then (x (fun a => ⟨(j (a.cast h.1.symm)).val * strides a + ((⟨s.rank, window⟩ : Shape).rowMajor.symm k a).val - lo a, (hin a).2⟩) : EReal)
          else z (Shape.Idx.first hu) := by
  unfold Host.reduceWindowAdd
  rw [Ideal.hostReduceWindowAdd_def]
  unfold Ideal.hostReduceWindowAdd Host.reduceWindow
  dsimp only
  refine (foldl_add _ _).trans ?_
  refine congrArg ((z (Shape.Idx.first hu) : EReal) + ·) (Finset.sum_congr rfl fun k _ => ?_)
  congr

/-- The window: every row up to 4096 of one sequence and one head. -/
abbrev rowWindow : Shape := ⟨3, ![1, 4096, 1]⟩

theorem rowWindow_numel : rowWindow.numel = 4096 := by
  simp [Shape.numel, Fin.prod_univ_succ]

theorem rowWindow_pos (k : Fin rowWindow.numel) : (rowWindow.rowMajor.symm k (1 : Fin 3)).val = k.val := by
  have h := Shape.rowMajor_val_three (d := ![1, 4096, 1]) (rowWindow.rowMajor.symm k)
  have e : (rowWindow.rowMajor (rowWindow.rowMajor.symm k)).val = k.val := congrArg Fin.val (rowWindow.rowMajor.apply_symm_apply k)
  have z0 : (rowWindow.rowMajor.symm k (0 : Fin 3)).val = 0 := Nat.lt_one_iff.mp (rowWindow.rowMajor.symm k (0 : Fin 3)).isLt
  have z2 : (rowWindow.rowMajor.symm k (2 : Fin 3)).val = 0 := Nat.lt_one_iff.mp (rowWindow.rowMajor.symm k (2 : Fin 3)).isLt
  change (rowWindow.rowMajor (rowWindow.rowMajor.symm k)).val = ((rowWindow.rowMajor.symm k (0 : Fin 3)).val * 4096 + (rowWindow.rowMajor.symm k (1 : Fin 3)).val) * 1
    + (rowWindow.rowMajor.symm k (2 : Fin 3)).val at h
  omega

/-- Shifting the window over the rows. -/
theorem shift (x : Fin 4096 → EReal) (t : Fin 4096) :
    (∑ n : Fin 4096, if 4095 ≤ t.val + n.val then x ⟨t.val + n.val - 4095, by omega⟩ else 0) = ∑ u : Fin 4096, if u.val ≤ t.val then x u else 0 := by
  rw [← Finset.sum_filter, ← Finset.sum_filter]
  refine Finset.sum_bij' (fun n _ => ⟨t.val + n.val - 4095, by omega⟩)
    (fun u _ => ⟨u.val + 4095 - max t.val u.val, by omega⟩) ?_ ?_ ?_ ?_ ?_
  · intro n hn
    have := (Finset.mem_filter.mp hn).2
    refine Finset.mem_filter.mpr ⟨Finset.mem_univ _, ?_⟩
    dsimp only; omega
  · intro u hu
    have := (Finset.mem_filter.mp hu).2
    refine Finset.mem_filter.mpr ⟨Finset.mem_univ _, ?_⟩
    dsimp only; omega
  · intro n hn
    have := (Finset.mem_filter.mp hn).2
    apply Fin.ext
    dsimp only; omega
  · intro u hu
    have := (Finset.mem_filter.mp hu).2
    apply Fin.ext
    dsimp only; omega
  · intro n _; rfl

theorem running (x : FVec Ideal S8x4096x8 .f32) (z : FVec Ideal S_ .f32) (hz : z (Shape.Idx.first h_S_) = 0)
    (n : Fin 8) (t : Fin 4096) (h : Fin 8) :
    Host.reduceWindowAdd ![1, 4096, 1] ![1, 1, 1] ![0, 4095, 0] ![0, 0, 0] x z
        reduceWindows_S8x4096x8_S8x4096x8_w1s1p0_0_w4096s1p4095_0_w1s1p0_0 h_S_ (ix3 n t h)
      = ∑ u : Fin 4096, if u.val ≤ t.val then x (ix3 n u h) else 0 := by
  rw [← shift (fun u => x (ix3 n u h)) t]
  rw [window_sum, hz, zero_add]
  refine Fintype.sum_equiv (finCongr rowWindow_numel) _ _ fun k => ?_
  have p1 := rowWindow_pos k
  have hf : (finCongr rowWindow_numel k).val = k.val := rfl
  have hk : k.val < 4096 := (finCongr rowWindow_numel k).isLt
  have ht := t.isLt
  have z0 : (rowWindow.rowMajor.symm k (0 : Fin 3)).val = 0 := Nat.lt_one_iff.mp (rowWindow.rowMajor.symm k (0 : Fin 3)).isLt
  have z2 : (rowWindow.rowMajor.symm k (2 : Fin 3)).val = 0 := Nat.lt_one_iff.mp (rowWindow.rowMajor.symm k (2 : Fin 3)).isLt
  have out : ∀ (p q : Prop) (_ : Decidable p) (_ : Decidable q) (a : p → EReal) (b c : EReal), (p ↔ q) → (∀ h, a h = b) → c = 0 →
      (if h : p then a h else c) = if q then b else 0 := fun p q _ _ a b c h1 h2 h3 => by
    by_cases h : p
    · rw [dif_pos h, if_pos (h1.mp h), h2]
    · rw [dif_neg h, if_neg (fun k => h (h1.mpr k)), h3]
  refine out _ _ _ _ _ _ _ ?_ ?_ rfl
  · constructor
    · intro h
      have h1 := (h 1).1
      change 4095 ≤ t.val * 1 + (rowWindow.rowMajor.symm k (1 : Fin 3)).val at h1
      omega
    · intro hle a
      fin_cases a
      · change 0 ≤ n.val * 1 + (rowWindow.rowMajor.symm k (0 : Fin 3)).val ∧ n.val * 1 + (rowWindow.rowMajor.symm k (0 : Fin 3)).val - 0 < 8
        have := n.isLt; omega
      · change 4095 ≤ t.val * 1 + (rowWindow.rowMajor.symm k (1 : Fin 3)).val ∧ t.val * 1 + (rowWindow.rowMajor.symm k (1 : Fin 3)).val - 4095 < 4096
        omega
      · change 0 ≤ h.val * 1 + (rowWindow.rowMajor.symm k (2 : Fin 3)).val ∧ h.val * 1 + (rowWindow.rowMajor.symm k (2 : Fin 3)).val - 0 < 8
        have := h.isLt; omega
  · intro hin
    refine congrArg x (funext fun a => Fin.ext ?_)
    fin_cases a
    · change n.val * 1 + (rowWindow.rowMajor.symm k (0 : Fin 3)).val - 0 = n.val
      omega
    · change t.val * 1 + (rowWindow.rowMajor.symm k (1 : Fin 3)).val - 4095 = t.val + k.val - 4095
      omega
    · change h.val * 1 + (rowWindow.rowMajor.symm k (2 : Fin 3)).val - 0 = h.val
      omega

end Cert.DecayRefIdeal.Rows

end
-- ==== Proof.Decay.RefRows.lean ====
/- The reference's array at an entry. -/
module

public import proofs.«01_k».proof.Proof.Decay.RefWindow
public import proofs.«01_k».proof.Proof.Decay.Spec

@[expose] public section

set_option maxRecDepth 16384

noncomputable section

namespace Cert.DecayRefIdeal.Rows

open Cert.DecayRefIdeal Cert.DecayRefIdeal.Gen Cert.DecayRefIdeal.Read Cert.DecaySpec Idealize.ShloMosaic Idealize.ShloMosaic.Pointwise

variable (x0 : Vec Ideal S8x4096x128 .f32) (x1 : Vec Ideal S1x8 .f32)

theorem logs (n : Fin 8) (u : Fin 4096) (h : Fin 8) :
    val_main_v5 (F := Ideal) x0 x1 (ix3 n u h) = ls (x0 (ix3 n u ⟨h.val, by omega⟩) + x1 (ix2 0 h)) := by
  rw [← softplus]
  unfold val_main_v5 val_main_call0_v1 val_main_call0_call0_v4 val_main_call0_call0_v6 val_main_call0_call0_v11 val_main_call0_call0_v1 val_main_call0_call0_v10 val_main_call0_call0_v9 val_main_call0_call0_v8 val_main_call0_call0_v7 val_main_call0_call0_v3 val_main_call0_v0 val_main_v4
  pointwise [val_main_v0, val_main_v3, val_main_v2, val_main_v1, val_main_call0_call0_v0, val_main_call0_call0_v2, val_main_call0_call0_v5, val_main_call0_call0_cst]
  generalize x0 (ix3 n u ⟨h.val, by omega⟩) + x1 (ix2 0 h) = z
  rw [if_neg (fun e => e rfl)]
  show -(max (-z) 0 + Ideal.log1p (Ideal.exp (-max (-z) (-(-z))))) = _
  rw [neg_neg]

theorem scaled (n : Fin 8) (R : Fin 4096) (h : Fin 8) :
    val_main_v8 (F := Ideal) x0 x1 (ix3 n R h)
      = (∑ u : Fin 4096, if u.val ≤ R.val then ls (x0 (ix3 n u ⟨h.val, by omega⟩) + x1 (ix2 0 h)) else 0) * Ideal.ofBits FTy.f32 3216550459#32 := by
  have e : val_main_v6 (F := Ideal) x0 x1 (ix3 n R h) = ∑ u : Fin 4096, if u.val ≤ R.val then ls (x0 (ix3 n u ⟨h.val, by omega⟩) + x1 (ix2 0 h)) else 0 := by
    unfold val_main_v6
    rw [running]
    · simp only [logs]
    · pointwise [val_main_call1_call0_v0, val_main_call1_call0_cst]
  rw [← e]
  unfold val_main_v8
  generalize val_main_v6 (F := Ideal) x0 x1 = y
  pointwise [val_main_v7, val_main_cst]

theorem entry_eq (n : Fin 8) (R : Fin 4096) (c : Fin 128) :
    val_main_v17 (F := Ideal) x0 x1 (ix3 n R c) = pick (fun h => val_main_v8 (F := Ideal) x0 x1 (ix3 n R h)) c := by
  unfold val_main_v17 val_main_v16 val_main_v15 val_main_v14 val_main_v13 val_main_v12 val_main_v11 val_main_v10 val_main_v9
  generalize val_main_v8 (F := Ideal) x0 x1 = y
  unfold pick
  pointwise [val_main_call2_v0, val_main_c]
  have e : ∀ k (hk : k < 8), k = c.val % 8 → y (ix3 n R ⟨k, hk⟩) = y (ix3 n R ⟨c.val % 8, Nat.mod_lt _ (by decide)⟩) := by
    rintro _ _ rfl
    rfl
  have zero : FloatOps.sitofp (F := Ideal) FTy.bf16 0#32 = (0 : EReal) := by
    show (((0#32).toInt : ℝ) : EReal) = 0
    simp
  by_cases h0 : c.val < 8
  · rw [dif_pos (by omega), dif_pos h0, if_pos h0, e _ h0 (by omega)]
  by_cases h1 : c.val < 16
  · rw [dif_pos (by omega), dif_neg h0, dif_pos (by omega), if_neg h0, if_pos h1, e (c.val - 8) (by omega) (by omega)]
  by_cases h2 : c.val < 24
  · rw [dif_pos h2, dif_neg h0, dif_neg (by omega), if_neg h0, if_neg h1, if_pos h2, e (c.val - 8 - 8) (by omega) (by omega)]
  · rw [dif_neg h2, if_neg h0, if_neg h1, if_neg h2]
    exact zero

end Cert.DecayRefIdeal.Rows

end
-- ==== Proof.Decay.Windows.lean ====
/- The kernel's windows: grid point `t` takes sequence `t` and the whole bias row, and the 8 blocks of the result tile its
   array, which is the reference's. -/
module

public import proofs.«01_k».proof.Proof.Gen.DecayIdeal.Value
public import proofs.«01_k».proof.Proof.Decay.Block
public import proofs.«01_k».proof.Proof.Decay.RefRows

@[expose] public section

set_option maxRecDepth 16384

noncomputable section

namespace Cert.DecayIdeal.Windows

open Cert.DecayIdeal Cert.DecayIdeal.Gen Cert.DecayIdeal.Chunk Cert.DecaySpec Idealize.ShloMosaic Idealize.ShloMosaic.Pointwise Idealize.ShloMosaic.TcCoe Idealize.SL.Sem
open Cert.DecayRefIdeal.Read

variable (m : (ℓ : Loc nD τ sig) → Buf (Elt Ideal) ℓ)

/-- The sequences' blocks follow the grid; the bias row stays. -/
theorem idx_facts : ∀ t : Fin cfg0.N, win0_0.index t 0 = t.val ∧ win0_0.index t 1 = 0 ∧ win0_0.index t 2 = 0
    ∧ win0_1.index t 0 = 0 ∧ win0_1.index t 1 = 0
    ∧ win0_2.index t 0 = t.val ∧ win0_2.index t 1 = 0 ∧ win0_2.index t 2 = 0 :=
  (by decide +kernel : ∀ t : Fin grid0.N, _)

/-- The sequence of a grid point. -/
def seq (t : Fin cfg0.N) : Fin 8 := ⟨t.val, by have := t.isLt; have hN : cfg0.N = 8 := N_0; omega⟩

theorem iblk0 (c : Dev nD) (t : Fin cfg0.N) (R : Fin 4096) (d : Fin 128) :
    (iblk m c 0 t : Vec Ideal S1x4096x128 .f32) (ix3 0 R d) = V m c main_arg0 (ix3 (seq t) R d) := by
  have hi := idx_facts t
  unfold iblk
  rw [View.read_apply]
  show V m c main_arg0 _ = V m c main_arg0 _
  congr 1
  funext a
  apply Fin.ext
  match a with
  | ⟨0, _⟩ => show win0_0.index t 0 * 1 + 1 * 0 = t.val; omega
  | ⟨1, _⟩ => show win0_0.index t 1 * 4096 + 1 * R.val = R.val; omega
  | ⟨2, _⟩ => show win0_0.index t 2 * 128 + 1 * d.val = d.val; omega

theorem iblk1 (c : Dev nD) (t : Fin cfg0.N) (d : Fin 128) :
    (iblk m c 1 t : Vec Ideal S1x128 .f32) (ix2 0 d) = V m c main_v2 (ix2 0 d) := by
  have hi := idx_facts t
  unfold iblk
  rw [View.read_apply]
  show V m c main_v2 _ = V m c main_v2 _
  congr 1
  funext a
  apply Fin.ext
  match a with
  | ⟨0, _⟩ => show win0_1.index t 0 * 1 + 1 * 0 = 0; omega
  | ⟨1, _⟩ => show win0_1.index t 1 * 128 + 1 * d.val = d.val; omega

/-- The bias row the launch stages: the argument's 8 numbers, then zeros. -/
theorem v2_eq (c : Dev nD) (h : Fin 8) : V m c main_v2 (ix2 0 ⟨h.val, by omega⟩) = m ((c : Thread nD τ).loc main_arg1) (ix2 0 h) := by
  have e : V m c main_v2 = broadcastInDim (α := EReal) S1x128 ![1] bcast_S128_S1x128_1
      (pad (α := EReal) S128 ![0] ![120] ![0] (shapeCast S8 (m ((c : Thread nD τ).loc main_arg1)) shapeCasts_S1x8_S8)
        (sitofp (F := Ideal) .f32 (constantI S_ 32 0#32)) pads_S8_S128_01200 h_S_) := by
    simp only [V, hostOps0, hostOps0_1, hostOps0_2, List.flatten_cons, List.flatten_nil, List.append_nil, List.cons_append, List.nil_append, StableHlo.TRef.unary, StableHlo.TRef.binary, StableHlo.TRef.toBuf, StableHlo.TRef.ofBuf, cast_eq]
    after_results_simp <;> rfl
  rw [e]
  pointwise

/-- The result array: the reference's own on the same arguments. -/
def result (c : Dev nD) : Vec Ideal S8x4096x128 .bf16 :=
  val_main_v17 (F := Ideal) (m ((c : Thread nD τ).loc main_arg0)) (m ((c : Thread nD τ).loc main_arg1))

theorem out_eq (c : Dev nD) (t : Fin cfg0.N) (R : Fin 4096) (d : Fin 128) :
    out0_2 (iblk m c 0 t) (iblk m c 1 t) (ix3 0 R d) = result m c (ix3 (seq t) R d) := by
  unfold result
  rw [Cert.DecayRefIdeal.Rows.entry_eq]
  refine (block_apply _ _ R d).trans (congrArg (pick · d) (funext fun h => ?_))
  rw [Cert.DecayRefIdeal.Rows.scaled]
  unfold total
  refine congrArg (· * scale) (Finset.sum_congr rfl fun u _ => ?_)
  dsimp only
  rw [iblk0, iblk1, v2_eq, V_main_arg0]

/-- The result's blocks are whole sequences. -/
theorem idx2 : ∀ t : Fin cfg0.N, win0_2.index t 0 * win0_2.size 0 = t.val ∧ win0_2.xsize (grid0.coords t) 0 = 1
    ∧ win0_2.index t 1 * win0_2.size 1 = 0 ∧ win0_2.xsize (grid0.coords t) 1 = 4096
    ∧ win0_2.index t 2 * win0_2.size 2 = 0 ∧ win0_2.xsize (grid0.coords t) 2 = 128 :=
  (by decide +kernel : ∀ t : Fin grid0.N, _)

/-- What point `t` writes back is block `t` of `result`. -/
theorem flushed_eq (c : Dev nD) (t : Fin cfg0.N) :
    (dats m 0 c).flushed 2 t = ((cfg0.win 2).blk t).view.read (Elt Ideal) (result m c) := by
  have hi := idx_facts t
  rw [Value.flushed2]
  funext j
  rw [View.read_apply]
  have j0 : (j 0 : Nat) < 1 := (j 0).isLt
  have e : ((cfg0.win 2).blk t).view.emb j = ix3 (seq t) (j 1 : Fin 4096) (j 2 : Fin 128) := by
    funext a
    apply Fin.ext
    match a with
    | ⟨0, _⟩ => show win0_2.index t 0 * 1 + 1 * (j 0).val = t.val; omega
    | ⟨1, _⟩ => show win0_2.index t 1 * 4096 + 1 * (j 1).val = (j 1).val; omega
    | ⟨2, _⟩ => show win0_2.index t 2 * 128 + 1 * (j 2).val = (j 2).val; omega
  have ej : (j : S1x4096x128.Idx) = ix3 0 (j 1 : Fin 4096) (j 2 : Fin 128) := by
    funext a
    apply Fin.ext
    match a with
    | ⟨0, _⟩ => show (j 0).val = 0; omega
    | ⟨1, _⟩ => rfl
    | ⟨2, _⟩ => rfl
  rw [e]
  exact (congrArg (out0_2 (iblk m c 0 t) (iblk m c 1 t)) ej).trans (out_eq m c t (j 1) (j 2))

/-- The blocks tile the array, so it ends holding `result`. -/
theorem final (c : Dev nD) : (dats m 0 c).arrAt 2 cfg0.N = result m c :=
  (dats m 0 c).arrAt_eq_of_cover 2 (result m c) (fun t _ => flushed_eq m c t) fun i => by
    have h0 : (i 0 : Nat) < 8 := (i 0).isLt
    have h1 : (i 1 : Nat) < 4096 := (i 1).isLt
    have h2 : (i 2 : Nat) < 128 := (i 2).isLt
    have hN : cfg0.N = 8 := N_0
    let t : Fin cfg0.N := ⟨(i 0 : Nat), by omega⟩
    have e := idx2 t
    have ht : t.val = (i 0 : Nat) := rfl
    refine ⟨t, flush0_2 _, ?_⟩
    show i ∈ ((View.whole main_v3).slice (win0_2.rect t)).set
    rw [View.set_slice_whole, Rect.mem_set_unit]
    intro a
    match a with
    | ⟨0, _⟩ => show win0_2.index t 0 * win0_2.size 0 ≤ (i 0 : Nat) ∧ (i 0 : Nat) < win0_2.index t 0 * win0_2.size 0 + win0_2.xsize (grid0.coords t) 0
                rw [e.1, e.2.1]; omega
    | ⟨1, _⟩ => show win0_2.index t 1 * win0_2.size 1 ≤ (i 1 : Nat) ∧ (i 1 : Nat) < win0_2.index t 1 * win0_2.size 1 + win0_2.xsize (grid0.coords t) 1
                rw [e.2.2.1, e.2.2.2.1]; omega
    | ⟨2, _⟩ => show win0_2.index t 2 * win0_2.size 2 ≤ (i 2 : Nat) ∧ (i 2 : Nat) < win0_2.index t 2 * win0_2.size 2 + win0_2.xsize (grid0.coords t) 2
                rw [e.2.2.2.2.1, e.2.2.2.2.2]; omega

end Cert.DecayIdeal.Windows

end
-- ==== Proof.Decay.Claims.lean ====
/- What is claimed of the summed decays: the three runs stop with their arguments kept, and kernel and reference compute
   the same array. -/
module

public import proofs.«01_k».proof.Defs
public import proofs.«01_k».proof.Proof.Gen.Decay.Frame
public import proofs.«01_k».proof.Proof.Decay.Windows

@[expose] public section

set_option maxRecDepth 16384

noncomputable section

namespace Cert.DecayClaims

open Idealize.ShloMosaic Idealize.ShloMosaic.TcCoe Idealize.SL.Sem Cert.DecayIdeal.Windows Cert.DecayRefIdeal.Read

/-- The kernel's run ends, keeps its arguments and leaves every counter at zero. -/
theorem frame_kernel : Cert.quiescent_Decay := fun m ρ _ => Cert.Decay.Gen.frame m ρ

/-- So does the idealized kernel's. -/
theorem frame_ideal : Cert.quiescent_DecayIdeal := fun m ρ _ => Cert.DecayIdeal.Gen.frame m ρ

/-- So does the reference's. -/
theorem frame_ref : Cert.quiescent_DecayRefIdeal := fun m ρ _ =>
  (θ_run Cert.DecayRefIdeal.defs _ _).mono
    (fun r h => ⟨fun c => by have := h c; tauto, sem_eq_zero_of_no_sems (by decide) r.2⟩)
    (Cert.DecayRefIdeal.Value.run (F := Ideal) m ρ)

/-- No constant of the call is named. -/
theorem preserves : Cert.preserves_Decay_DecayIdeal := trivial

/-- On the same arguments the idealized kernel and the reference leave the same array. -/
theorem algebraic : Cert.algebraic_DecayIdeal_DecayRefIdeal := by
  intro m ρ m' ρ' _ hagree
  refine ⟨result m, ?_, ?_⟩
  · refine (θ_run Cert.DecayIdeal.defs _ _).mono (fun _ h c => ?_) (Cert.DecayIdeal.Value.run_blocks (F := Ideal) m ρ)
    obtain ⟨h2, hk⟩ := h c
    exact ⟨h2.trans (final m c), hk⟩
  · refine (θ_run Cert.DecayRefIdeal.defs _ _).mono (fun _ h c => ?_) (Cert.DecayRefIdeal.Value.run (F := Ideal) m' ρ')
    obtain ⟨h2, hk⟩ := h c
    obtain ⟨e0, e1⟩ := hagree c
    refine ⟨(h2.trans (val_main_v17_eq _ _)).trans ?_, hk⟩
    unfold result
    rw [e0, e1]

end Cert.DecayClaims

end
-- ==== Proof.lean ====
/- The claim: the projection, the recurrence, the summed decays and the layer's end compute what
   their references compute, and all the runs end with their arguments kept. -/
module

public import proofs.«01_k».proof.Defs
public import proofs.«01_k».proof.Proof.Gen.Tail
public import proofs.«01_k».proof.Proof.Gen.TailIdeal
public import proofs.«01_k».proof.Proof.Gen.TailIdeal.Value
public import proofs.«01_k».proof.Proof.Gen.TailRefIdeal
public import proofs.«01_k».proof.Proof.Gen.TailRefIdeal.Read
public import proofs.«01_k».proof.Proof.Gen.Proj
public import proofs.«01_k».proof.Proof.Gen.ProjIdeal
public import proofs.«01_k».proof.Proof.Gen.ProjIdeal.Value
public import proofs.«01_k».proof.Proof.Gen.ProjRefIdeal
public import proofs.«01_k».proof.Proof.Gen.ProjRefIdeal.Read
public import proofs.«01_k».proof.Proof.Gen.Hgrn
public import proofs.«01_k».proof.Proof.Gen.HgrnIdeal
public import proofs.«01_k».proof.Proof.Gen.HgrnIdeal.Value
public import proofs.«01_k».proof.Proof.Gen.HgrnRefIdeal
public import proofs.«01_k».proof.Proof.Gen.Pre_finite_bounds
public import proofs.«01_k».proof.Proof.Gen.Decay
public import proofs.«01_k».proof.Proof.Gen.DecayIdeal
public import proofs.«01_k».proof.Proof.Gen.DecayIdeal.Value
public import proofs.«01_k».proof.Proof.Gen.DecayRefIdeal
public import proofs.«01_k».proof.Proof.Gen.DecayRefIdeal.Read
public import proofs.«01_k».proof.Proof.Tail.Claims
public import proofs.«01_k».proof.Proof.Proj.Claims
public import proofs.«01_k».proof.Proof.Hgrn.Claims
public import proofs.«01_k».proof.Proof.Decay.Claims

@[expose] public section

noncomputable section

namespace Cert.Proof

/-- All the claims, with the side conditions the programs state. -/
theorem claim : Cert.Claim :=
  ⟨Cert.Tail.Gen.facts, Cert.TailIdeal.Gen.facts, Cert.TailRefIdeal.Gen.facts,
    Cert.Proj.Gen.facts, Cert.ProjIdeal.Gen.facts, Cert.ProjRefIdeal.Gen.facts,
    Cert.Hgrn.Gen.facts, Cert.HgrnIdeal.Gen.facts, Cert.HgrnRefIdeal.Gen.facts,
    Cert.Decay.Gen.facts, Cert.DecayIdeal.Gen.facts, Cert.DecayRefIdeal.Gen.facts,
    Cert.Pre_finite_bounds.Gen.facts,
    TailClaims.frame_kernel, TailClaims.frame_ideal, TailClaims.frame_ref,
    ProjClaims.frame_kernel, ProjClaims.frame_ideal, ProjClaims.frame_ref,
    HgrnClaims.frame_kernel, HgrnClaims.frame_ideal, HgrnClaims.frame_ideal_pre, HgrnClaims.frame_ref, HgrnClaims.frame_ref_pre,
    DecayClaims.frame_kernel, DecayClaims.frame_ideal, DecayClaims.frame_ref,
    TailClaims.preserves, TailClaims.algebraic, ProjClaims.preserves, ProjClaims.algebraic,
    HgrnClaims.preserves, HgrnClaims.algebraic, DecayClaims.preserves, DecayClaims.algebraic⟩

end Cert.Proof

end
